-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v8)) (v3 : (c : Dev Cert.KernelIdeal.nD) → Buf (Elt Ideal) ((c.tc : Thread Cert.KernelIdeal.nD Cert.KernelIdeal.τ).loc Cert.KernelIdeal.main_v11)) (v4 : (c : Dev Cert.KernelIdeal.nD) → Buf (Elt Ideal) ((c.tc : Thread Cert.KernelIdeal.nD Cert.KernelIdeal.τ).loc Cert.KernelIdeal.main_v12)) (v5 : (c : Dev Cert.KernelIdeal.nD) → Buf (Elt Ideal) ((c.tc : Thread Cert.KernelIdeal.nD Cert.KernelIdeal.τ).loc Cert.KernelIdeal.main_v13)) (v6 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_v11) = v3 c
          ∧ r.2.mem ((c.tc : Thread Cert.KernelIdeal.nD Cert.KernelIdeal.τ).loc Cert.KernelIdeal.main_v12) = v4 c
          ∧ r.2.mem ((c.tc : Thread Cert.KernelIdeal.nD Cert.KernelIdeal.τ).loc Cert.KernelIdeal.main_v13) = v5 c
          ∧ r.2.mem ((c.tc : Thread Cert.KernelIdeal.nD Cert.KernelIdeal.τ).loc Cert.KernelIdeal.main_v14) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_v27_0) = v3 c
          ∧ r.2.mem ((c.tc : Thread Cert.ReferenceIdeal.nD Cert.ReferenceIdeal.τ).loc Cert.ReferenceIdeal.main_v9) = v4 c
          ∧ r.2.mem ((c.tc : Thread Cert.ReferenceIdeal.nD Cert.ReferenceIdeal.τ).loc Cert.ReferenceIdeal.main_v27_2) = v5 c
          ∧ r.2.mem ((c.tc : Thread Cert.ReferenceIdeal.nD Cert.ReferenceIdeal.τ).loc Cert.ReferenceIdeal.main_v21) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x256x2560 : Shape := ⟨3, ![6, 256, 2560]⟩
abbrev S3x6144x2560 : Shape := ⟨3, ![3, 6144, 2560]⟩
abbrev S3x6x256x6144 : Shape := ⟨4, ![3, 6, 256, 6144]⟩
abbrev S2560x2560 : Shape := ⟨2, ![2560, 2560]⟩
abbrev S1536x2560 : Shape := ⟨2, ![1536, 2560]⟩
abbrev S18432x2560 : Shape := ⟨2, ![18432, 2560]⟩
abbrev S3x2560x2560 : Shape := ⟨3, ![3, 2560, 2560]⟩
abbrev S256x2560 : Shape := ⟨2, ![256, 2560]⟩
abbrev S3x256x2560 : Shape := ⟨3, ![3, 256, 2560]⟩
abbrev S1x256x2560 : Shape := ⟨3, ![1, 256, 2560]⟩
abbrev S1536x1 : Shape := ⟨2, ![1536, 1]⟩
abbrev S3x1x512 : Shape := ⟨3, ![3, 1, 512]⟩
abbrev S512x2560 : Shape := ⟨2, ![512, 2560]⟩
abbrev S1x2560x2560 : Shape := ⟨3, ![1, 2560, 2560]⟩
abbrev S512x1 : Shape := ⟨2, ![512, 1]⟩
abbrev S1x1x512 : Shape := ⟨3, ![1, 1, 512]⟩
abbrev S64x2560 : Shape := ⟨2, ![64, 2560]⟩
abbrev S64 : Shape := ⟨1, ![64]⟩
abbrev S64x1 : Shape := ⟨2, ![64, 1]⟩
abbrev S64x128 : Shape := ⟨2, ![64, 128]⟩
abbrev S128x64 : Shape := ⟨2, ![128, 64]⟩
abbrev S1x64 : Shape := ⟨2, ![1, 64]⟩
abbrev S1x1x64 : Shape := ⟨3, ![1, 1, 64]⟩
abbrev S18432x1 : Shape := ⟨2, ![18432, 1]⟩
abbrev S36x1x512 : Shape := ⟨3, ![36, 1, 512]⟩
abbrev S3x1536x6144 : Shape := ⟨3, ![3, 1536, 6144]⟩
abbrev S72x1x256 : Shape := ⟨3, ![72, 1, 256]⟩
abbrev S8x256 : Shape := ⟨2, ![8, 256]⟩
abbrev S1x1x256 : Shape := ⟨3, ![1, 1, 256]⟩
abbrev S1x1536x256 : Shape := ⟨3, ![1, 1536, 256]⟩
abbrev S1x256 : Shape := ⟨2, ![1, 256]⟩
abbrev S1536x256 : Shape := ⟨2, ![1536, 256]⟩
abbrev S192x8x256 : Shape := ⟨3, ![192, 8, 256]⟩
abbrev S512x1280 : Shape := ⟨2, ![512, 1280]⟩
abbrev S2560x1280 : Shape := ⟨2, ![2560, 1280]⟩
abbrev S3x6144 : Shape := ⟨2, ![3, 6144]⟩
abbrev S6x256 : Shape := ⟨2, ![6, 256]⟩

abbrev nBuf : Space → Nat
  | .hbm => 28
  | .vmem => 54
  | .smem => 0
  | _ => 0

abbrev bufTy : (tb : Table) → Fin (tcTables nBuf tb) → BufTy
  | .hbm, ⟨0, _⟩ => ⟨S6x256x2560, .bf16⟩
  | .hbm, ⟨1, _⟩ => ⟨S3x6144x2560, .bf16⟩
  | .hbm, ⟨2, _⟩ => ⟨S3x6x256x6144, .bf16⟩
  | .hbm, ⟨3, _⟩ => ⟨S2560x2560, .f32⟩
  | .hbm, ⟨4, _⟩ => ⟨S1536x2560, .bf16⟩
  | .hbm, ⟨5, _⟩ => ⟨S18432x2560, .bf16⟩
  | .hbm, ⟨6, _⟩ => ⟨S3x2560x2560, .bf16⟩
  | .hbm, ⟨7, _⟩ => ⟨S1536x2560, .i8⟩
  | .hbm, ⟨8, _⟩ => ⟨S1536x1, .f32⟩
  | .hbm, ⟨9, _⟩ => ⟨S3x1x512, .f32⟩
  | .hbm, ⟨10, _⟩ => ⟨S3x1x512, .f32⟩
  | .hbm, ⟨11, _⟩ => ⟨S18432x2560, .i8⟩
  | .hbm, ⟨12, _⟩ => ⟨S18432x1, .f32⟩
  | .hbm, ⟨13, _⟩ => ⟨S36x1x512, .f32⟩
  | .hbm, ⟨14, _⟩ => ⟨S36x1x512, .f32⟩
  | .hbm, ⟨15, _⟩ => ⟨S3x1536x6144, .bf16⟩
  | .hbm, ⟨16, _⟩ => ⟨S72x1x256, .f32⟩
  | .hbm, ⟨17, _⟩ => ⟨S3x1536x6144, .f32⟩
  | .hbm, ⟨18, _⟩ => ⟨S18432x2560, .bf16⟩
  | .hbm, ⟨19, _⟩ => ⟨S1536x2560, .bf16⟩
  | .hbm, ⟨20, _⟩ => ⟨S8x256, .f32⟩
  | .hbm, ⟨21, _⟩ => ⟨S2560x2560, .f32⟩
  | .hbm, ⟨22, _⟩ => ⟨S3x6144, .f32⟩
  | .hbm, ⟨23, _⟩ => ⟨S3x6x256x6144, .f32⟩
  | .hbm, ⟨24, _⟩ => ⟨S6x256x2560, .i8⟩
  | .hbm, ⟨25, _⟩ => ⟨S6x256, .f32⟩
  | .hbm, ⟨26, _⟩ => ⟨S3x6144x2560, .i8⟩
  | .hbm, ⟨27, _⟩ => ⟨S3x6144, .f32⟩
  | .local _ .vmem, ⟨0, _⟩ => ⟨S256x2560, .f32⟩
  | .local _ .vmem, ⟨1, _⟩ => ⟨S256x2560, .f32⟩
  | .local _ .vmem, ⟨2, _⟩ => ⟨S3x256x2560, .bf16⟩
  | .local _ .vmem, ⟨3, _⟩ => ⟨S3x256x2560, .bf16⟩
  | .local _ .vmem, ⟨4, _⟩ => ⟨S512x2560, .bf16⟩
  | .local _ .vmem, ⟨5, _⟩ => ⟨S512x2560, .bf16⟩
  | .local _ .vmem, ⟨6, _⟩ => ⟨S1x2560x2560, .bf16⟩
  | .local _ .vmem, ⟨7, _⟩ => ⟨S512x2560, .i8⟩
  | .local _ .vmem, ⟨8, _⟩ => ⟨S512x2560, .i8⟩
  | .local _ .vmem, ⟨9, _⟩ => ⟨S512x1, .f32⟩
  | .local _ .vmem, ⟨10, _⟩ => ⟨S512x1, .f32⟩
  | .local _ .vmem, ⟨11, _⟩ => ⟨S1x1x512, .f32⟩
  | .local _ .vmem, ⟨12, _⟩ => ⟨S1x1x512, .f32⟩
  | .local _ .vmem, ⟨13, _⟩ => ⟨S1x1x512, .f32⟩
  | .local _ .vmem, ⟨14, _⟩ => ⟨S1x1x512, .f32⟩
  | .local _ .vmem, ⟨15, _⟩ => ⟨S512x2560, .f32⟩
  | .local _ .vmem, ⟨16, _⟩ => ⟨S512x2560, .bf16⟩
  | .local _ .vmem, ⟨17, _⟩ => ⟨S512x2560, .bf16⟩
  | .local _ .vmem, ⟨18, _⟩ => ⟨S1x2560x2560, .bf16⟩
  | .local _ .vmem, ⟨19, _⟩ => ⟨S512x2560, .i8⟩
  | .local _ .vmem, ⟨20, _⟩ => ⟨S512x2560, .i8⟩
  | .local _ .vmem, ⟨21, _⟩ => ⟨S512x1, .f32⟩
  | .local _ .vmem, ⟨22, _⟩ => ⟨S512x1, .f32⟩
  | .local _ .vmem, ⟨23, _⟩ => ⟨S1x1x512, .f32⟩
  | .local _ .vmem, ⟨24, _⟩ => ⟨S1x1x512, .f32⟩
  | .local _ .vmem, ⟨25, _⟩ => ⟨S1x1x512, .f32⟩
  | .local _ .vmem, ⟨26, _⟩ => ⟨S1x1x512, .f32⟩
  | .local _ .vmem, ⟨27, _⟩ => ⟨S512x2560, .f32⟩
  | .local _ .vmem, ⟨28, _⟩ => ⟨S1536x2560, .i8⟩
  | .local _ .vmem, ⟨29, _⟩ => ⟨S1536x1, .f32⟩
  | .local _ .vmem, ⟨30, _⟩ => ⟨S256x2560, .i8⟩
  | .local _ .vmem, ⟨31, _⟩ => ⟨S256x2560, .i8⟩
  | .local _ .vmem, ⟨32, _⟩ => ⟨S1x1x256, .f32⟩
  | .local _ .vmem, ⟨33, _⟩ => ⟨S1x1x256, .f32⟩
  | .local _ .vmem, ⟨34, _⟩ => ⟨S1x1536x256, .bf16⟩
  | .local _ .vmem, ⟨35, _⟩ => ⟨S1x1536x256, .bf16⟩
  | .local _ .vmem, ⟨36, _⟩ => ⟨S1x1536x256, .f32⟩
  | .local _ .vmem, ⟨37, _⟩ => ⟨S1x1536x256, .f32⟩
  | .local _ .vmem, ⟨38, _⟩ => ⟨S256x2560, .bf16⟩
  | .local _ .vmem, ⟨39, _⟩ => ⟨S256x2560, .bf16⟩
  | .local _ .vmem, ⟨40, _⟩ => ⟨S1536x2560, .bf16⟩
  | .local _ .vmem, ⟨41, _⟩ => ⟨S8x256, .f32⟩
  | .local _ .vmem, ⟨42, _⟩ => ⟨S1536x2560, .bf16⟩
  | .local _ .vmem, ⟨43, _⟩ => ⟨S1536x2560, .f32⟩
  | .local _ .vmem, ⟨44, _⟩ => ⟨S512x2560, .bf16⟩
  | .local _ .vmem, ⟨45, _⟩ => ⟨S512x2560, .bf16⟩
  | .local _ .vmem, ⟨46, _⟩ => ⟨S512x1280, .bf16⟩
  | .local _ .vmem, ⟨47, _⟩ => ⟨S512x1280, .bf16⟩
  | .local _ .vmem, ⟨48, _⟩ => ⟨S512x2560, .bf16⟩
  | .local _ .vmem, ⟨49, _⟩ => ⟨S512x2560, .bf16⟩
  | .local _ .vmem, ⟨50, _⟩ => ⟨S512x1280, .bf16⟩
  | .local _ .vmem, ⟨51, _⟩ => ⟨S512x1280, .bf16⟩
  | .local _ .vmem, ⟨52, _⟩ => ⟨S2560x1280, .f32⟩
  | .local _ .vmem, ⟨53, _⟩ => ⟨S2560x1280, .f32⟩
  | _, _ => ⟨S6x256x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev main_v7_3 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc2_stg4_0 : Ref sig .tc := ⟨.vmem, 23, rfl⟩
abbrev cc2_stg4_1 : Ref sig .tc := ⟨.vmem, 24, rfl⟩
abbrev cc2_stg5_0 : Ref sig .tc := ⟨.vmem, 25, rfl⟩
abbrev cc2_stg5_1 : Ref sig .tc := ⟨.vmem, 26, rfl⟩
abbrev cc2_scratch0 : Ref sig .tc := ⟨.vmem, 27, rfl⟩
abbrev cc3_stg0_0 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg2_1 : Ref sig .tc := ⟨.vmem, 31, rfl⟩
abbrev cc3_stg3_0 : Ref sig .tc := ⟨.vmem, 32, rfl⟩
abbrev cc3_stg3_1 : Ref sig .tc := ⟨.vmem, 33, rfl⟩
abbrev cc3_stg4_0 : Ref sig .tc := ⟨.vmem, 34, rfl⟩
abbrev cc3_stg4_1 : Ref sig .tc := ⟨.vmem, 35, rfl⟩
abbrev cc3_stg5_0 : Ref sig .tc := ⟨.vmem, 36, rfl⟩
abbrev cc3_stg5_1 : Ref sig .tc := ⟨.vmem, 37, rfl⟩
abbrev cc3_stg6_0 : Ref sig .tc := ⟨.vmem, 38, rfl⟩
abbrev cc3_stg6_1 : Ref sig .tc := ⟨.vmem, 39, rfl⟩
abbrev cc3_stg7_0 : Ref sig .tc := ⟨.vmem, 40, rfl⟩
abbrev cc3_stg8_0 : Ref sig .tc := ⟨.vmem, 41, rfl⟩
abbrev cc3_scratch0 : Ref sig .tc := ⟨.vmem, 42, rfl⟩
abbrev cc3_scratch1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg2_1 : Ref sig .tc := ⟨.vmem, 49, rfl⟩
abbrev cc4_stg3_0 : Ref sig .tc := ⟨.vmem, 50, rfl⟩
abbrev cc4_stg3_1 : Ref sig .tc := ⟨.vmem, 51, rfl⟩
abbrev cc4_stg4_0 : Ref sig .tc := ⟨.vmem, 52, rfl⟩
abbrev cc4_stg4_1 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem4_1 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc2_sem3_0 : DmaSem sig := 20
abbrev cc2_sem3_1 : DmaSem sig := 21
abbrev cc2_sem4_0 : DmaSem sig := 22
abbrev cc2_sem4_1 : DmaSem sig := 23
abbrev cc2_sem5_0 : DmaSem sig := 24
abbrev cc2_sem5_1 : DmaSem sig := 25
abbrev cc3_sem0_0 : DmaSem sig := 26
abbrev cc3_sem1_0 : DmaSem sig := 27
abbrev cc3_sem2_0 : DmaSem sig := 28
abbrev cc3_sem2_1 : DmaSem sig := 29
abbrev cc3_sem3_0 : DmaSem sig := 30
abbrev cc3_sem3_1 : DmaSem sig := 31
abbrev cc3_sem4_0 : DmaSem sig := 32
abbrev cc3_sem4_1 : DmaSem sig := 33
abbrev cc3_sem5_0 : DmaSem sig := 34
abbrev cc3_sem5_1 : DmaSem sig := 35
abbrev cc3_sem6_0 : DmaSem sig := 36
abbrev cc3_sem6_1 : DmaSem sig := 37
abbrev cc3_sem7_0 : DmaSem sig := 38
abbrev cc3_sem8_0 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem2_1 : DmaSem sig := 45
abbrev cc4_sem3_0 : DmaSem sig := 46
abbrev cc4_sem3_1 : DmaSem sig := 47
abbrev cc4_sem4_0 : DmaSem sig := 48
abbrev cc4_sem4_1 : DmaSem sig := 49

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![3], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S512x2560 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x2560x2560 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x2560 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![36], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S512x2560 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x2560x2560 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x2560 .i8 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x1x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x1x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![72], ![false]⟩

def k3_cond2 (i : grid3.Coords) : BitVec 1 :=
  let arg0 : BitVec 32 := BitVec.ofNat 32 (i 0).val
  let c71_i32 : BitVec 32 := 71#32
  let v46 : BitVec 1 := Scalar.cmpi .eq arg0 c71_i32
  let v47 : BitVec 32 := Scalar.extui v46
  let c0_i32_30 : BitVec 32 := 0#32
  let v48 : BitVec 1 := Scalar.cmpi .ne v47 c0_i32_30
  v48

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_4 (i : grid3.Coords) : Fin 3 → Nat :=
  let arg0 : BitVec 32 := BitVec.ofNat 32 (i 0).val
  let c24_i32 : BitVec 32 := 24#32
  let v0 : BitVec 32 := Scalar.divsi arg0 c24_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c24_i32 c0_i32_1
  let v7 : BitVec 32 := Scalar.extui v6
  let c0_i32_2 : BitVec 32 := 0#32
  let v8 : BitVec 1 := Scalar.cmpi .slt c24_i32 c0_i32_2
  let v9 : BitVec 32 := Scalar.extui v8
  let v10 : BitVec 32 := Scalar.subi v7 v9
  let v11 : BitVec 1 := Scalar.cmpi .ne v5 v10
  let v12 : BitVec 32 := Scalar.remsi arg0 c24_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c24_i32_4 : BitVec 32 := 24#32
  let c0_i32_5 : BitVec 32 := 0#32
  let v17 : BitVec 1 := Scalar.cmpi .eq c24_i32_4 c0_i32_5
  let c1_i32_6 : BitVec 32 := 1#32
  let v18 : BitVec 32 := Scalar.select v17 c1_i32_6 c24_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc3_transform_5 (i : grid3.Coords) : Fin 3 → Nat :=
  let arg0 : BitVec 32 := BitVec.ofNat 32 (i 0).val
  let c24_i32 : BitVec 32 := 24#32
  let v0 : BitVec 32 := Scalar.divsi arg0 c24_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c24_i32 c0_i32_1
  let v7 : BitVec 32 := Scalar.extui v6
  let c0_i32_2 : BitVec 32 := 0#32
  let v8 : BitVec 1 := Scalar.cmpi .slt c24_i32 c0_i32_2
  let v9 : BitVec 32 := Scalar.extui v8
  let v10 : BitVec 32 := Scalar.subi v7 v9
  let v11 : BitVec 1 := Scalar.cmpi .ne v5 v10
  let v12 : BitVec 32 := Scalar.remsi arg0 c24_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c24_i32_4 : BitVec 32 := 24#32
  let c0_i32_5 : BitVec 32 := 0#32
  let v17 : BitVec 1 := Scalar.cmpi .eq c24_i32_4 c0_i32_5
  let c1_i32_6 : BitVec 32 := 1#32
  let v18 : BitVec 32 := Scalar.select v17 c1_i32_6 c24_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S1536x2560 .i8 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S1536x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S256x2560 .i8 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x1x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x1536x256 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x1536x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S256x2560 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 1 → Memref sig .tc .vmem S1536x2560 .bf16 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S8x256 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev grid4 : Pipeline.Grid := ⟨2, ![2, 39], ![false, false]⟩

def k4_cond1 (i : grid4.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k4_cond2 (i : grid4.Coords) : BitVec 1 :=
  let arg1 : BitVec 32 := BitVec.ofNat 32 (i 1).val
  let c3_i32 : BitVec 32 := 3#32
  let v3 : BitVec 1 := Scalar.cmpi .slt arg1 c3_i32
  let v4 : BitVec 32 := Scalar.extui v3
  let c0_i32_1 : BitVec 32 := 0#32
  let v5 : BitVec 1 := Scalar.cmpi .ne v4 c0_i32_1
  v5

def k4_cond3 (i : grid4.Coords) : BitVec 1 :=
  let arg1 : BitVec 32 := BitVec.ofNat 32 (i 1).val
  let c3_i32_2 : BitVec 32 := 3#32
  let v6 : BitVec 1 := Scalar.cmpi .sge arg1 c3_i32_2
  let v7 : BitVec 32 := Scalar.extui v6
  let c0_i32_3 : BitVec 32 := 0#32
  let v8 : BitVec 1 := Scalar.cmpi .ne v7 c0_i32_3
  v8

def k4_cond4 (i : grid4.Coords) : BitVec 1 :=
  let arg1 : BitVec 32 := BitVec.ofNat 32 (i 1).val
  let c38_i32 : BitVec 32 := 38#32
  let v9 : BitVec 1 := Scalar.cmpi .eq arg1 c38_i32
  let v10 : BitVec 32 := Scalar.extui v9
  let c0_i32_4 : BitVec 32 := 0#32
  let v11 : BitVec 1 := Scalar.cmpi .ne v10 c0_i32_4
  v11

def cc4_transform_0 (i : grid4.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.minsi arg1 c2_i32
  let c0_i32 : BitVec 32 := 0#32
  let c0_i32_0 : BitVec 32 := 0#32
  ![v0.toNat, c0_i32.toNat]

def cc4_transform_1 (i : grid4.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.minsi arg1 c2_i32
  let c0_i32 : BitVec 32 := 0#32
  ![v0.toNat, arg0.toNat]

def cc4_transform_2 (i : grid4.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc4_transform_3 (i : grid4.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let v1 : BitVec 32 := Scalar.maxsi v0 c0_i32
  let c0_i32_0 : BitVec 32 := 0#32
  ![v1.toNat, arg0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage4_0 : Fin 2 → Memref sig .tc .vmem S512x2560 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S512x1280 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S512x2560 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S512x1280 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev stage4_4 : Fin 2 → Memref sig .tc .vmem S2560x1280 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, false]
-- ==== ReferenceIdeal.lean ====
abbrev S6x256x2560 : Shape := ⟨3, ![6, 256, 2560]⟩
abbrev S3x6144x2560 : Shape := ⟨3, ![3, 6144, 2560]⟩
abbrev S3x6x256x6144 : Shape := ⟨4, ![3, 6, 256, 6144]⟩
abbrev S2560x2560 : Shape := ⟨2, ![2560, 2560]⟩
abbrev S_ : Shape := ⟨0, ![]⟩
abbrev S6x256 : Shape := ⟨2, ![6, 256]⟩
abbrev S6x256x1 : Shape := ⟨3, ![6, 256, 1]⟩
abbrev S3x6144 : Shape := ⟨2, ![3, 6144]⟩
abbrev S3x6144x1 : Shape := ⟨3, ![3, 6144, 1]⟩
abbrev S1x6x256x1 : Shape := ⟨4, ![1, 6, 256, 1]⟩
abbrev S3x1x1x6144 : Shape := ⟨4, ![3, 1, 1, 6144]⟩
abbrev S3x6144x6x256 : Shape := ⟨4, ![3, 6144, 6, 256]⟩

abbrev nBuf : Space → Nat
  | .hbm => 95
  | .vmem => 6
  | .smem => 0
  | _ => 0

abbrev bufTy : (tb : Table) → Fin (tcTables nBuf tb) → BufTy
  | .hbm, ⟨0, _⟩ => ⟨S6x256x2560, .bf16⟩
  | .hbm, ⟨1, _⟩ => ⟨S3x6144x2560, .bf16⟩
  | .hbm, ⟨2, _⟩ => ⟨S3x6x256x6144, .bf16⟩
  | .hbm, ⟨3, _⟩ => ⟨S2560x2560, .f32⟩
  | .hbm, ⟨4, _⟩ => ⟨S2560x2560, .bf16⟩
  | .hbm, ⟨5, _⟩ => ⟨S6x256x2560, .f32⟩
  | .hbm, ⟨6, _⟩ => ⟨S3x6144x2560, .f32⟩
  | .hbm, ⟨7, _⟩ => ⟨S6x256x2560, .f32⟩
  | .hbm, ⟨8, _⟩ => ⟨S_, .f32⟩
  | .hbm, ⟨9, _⟩ => ⟨S6x256, .f32⟩
  | .hbm, ⟨10, _⟩ => ⟨S_, .f32⟩
  | .hbm, ⟨11, _⟩ => ⟨S6x256, .f32⟩
  | .hbm, ⟨12, _⟩ => ⟨S6x256, .i1⟩
  | .hbm, ⟨13, _⟩ => ⟨S_, .f32⟩
  | .hbm, ⟨14, _⟩ => ⟨S6x256, .f32⟩
  | .hbm, ⟨15, _⟩ => ⟨S6x256, .f32⟩
  | .hbm, ⟨16, _⟩ => ⟨S_, .f32⟩
  | .hbm, ⟨17, _⟩ => ⟨S_, .f32⟩
  | .hbm, ⟨18, _⟩ => ⟨S6x256, .f32⟩
  | .hbm, ⟨19, _⟩ => ⟨S6x256, .f32⟩
  | .hbm, ⟨20, _⟩ => ⟨S6x256x1, .f32⟩
  | .hbm, ⟨21, _⟩ => ⟨S6x256x2560, .f32⟩
  | .hbm, ⟨22, _⟩ => ⟨S6x256x2560, .f32⟩
  | .hbm, ⟨23, _⟩ => ⟨S6x256x2560, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S6x256x2560, .f32⟩
  | .hbm, ⟨28, _⟩ => ⟨S6x256x2560, .f32⟩
  | .hbm, ⟨29, _⟩ => ⟨S_, .f32⟩
  | .hbm, ⟨30, _⟩ => ⟨S6x256x2560, .f32⟩
  | .hbm, ⟨31, _⟩ => ⟨S6x256x2560, .f32⟩
  | .hbm, ⟨32, _⟩ => ⟨S3x6144x2560, .f32⟩
  | .hbm, ⟨33, _⟩ => ⟨S_, .f32⟩
  | .hbm, ⟨34, _⟩ => ⟨S3x6144, .f32⟩
  | .hbm, ⟨35, _⟩ => ⟨S_, .f32⟩
  | .hbm, ⟨36, _⟩ => ⟨S3x6144, .f32⟩
  | .hbm, ⟨37, _⟩ => ⟨S3x6144, .i1⟩
  | .hbm, ⟨38, _⟩ => ⟨S_, .f32⟩
  | .hbm, ⟨39, _⟩ => ⟨S3x6144, .f32⟩
  | .hbm, ⟨40, _⟩ => ⟨S3x6144, .f32⟩
  | .hbm, ⟨41, _⟩ => ⟨S_, .f32⟩
  | .hbm, ⟨42, _⟩ => ⟨S_, .f32⟩
  | .hbm, ⟨43, _⟩ => ⟨S3x6144, .f32⟩
  | .hbm, ⟨44, _⟩ => ⟨S3x6144, .f32⟩
  | .hbm, ⟨45, _⟩ => ⟨S3x6144x1, .f32⟩
  | .hbm, ⟨46, _⟩ => ⟨S3x6144x2560, .f32⟩
  | .hbm, ⟨47, _⟩ => ⟨S3x6144x2560, .f32⟩
  | .hbm, ⟨48, _⟩ => ⟨S3x6144x2560, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S3x6144x2560, .f32⟩
  | .hbm, ⟨53, _⟩ => ⟨S3x6144x2560, .f32⟩
  | .hbm, ⟨54, _⟩ => ⟨S_, .f32⟩
  | .hbm, ⟨55, _⟩ => ⟨S3x6144x2560, .f32⟩
  | .hbm, ⟨56, _⟩ => ⟨S3x6144x2560, .f32⟩
  | .hbm, ⟨57, _⟩ => ⟨S6x256x2560, .i8⟩
  | .hbm, ⟨58, _⟩ => ⟨S6x256x2560, .bf16⟩
  | .hbm, ⟨59, _⟩ => ⟨S3x6144x2560, .i8⟩
  | .hbm, ⟨60, _⟩ => ⟨S3x6144x2560, .bf16⟩
  | .hbm, ⟨61, _⟩ => ⟨S3x6144x1, .f32⟩
  | .hbm, ⟨62, _⟩ => ⟨S3x6144x2560, .f32⟩
  | .hbm, ⟨63, _⟩ => ⟨S3x6144x2560, .f32⟩
  | .hbm, ⟨64, _⟩ => ⟨S3x6144x2560, .f32⟩
  | .hbm, ⟨65, _⟩ => ⟨S3x6144x2560, .f32⟩
  | .hbm, ⟨66, _⟩ => ⟨S3x6144x2560, .f32⟩
  | .hbm, ⟨67, _⟩ => ⟨S_, .f32⟩
  | .hbm, ⟨68, _⟩ => ⟨S3x6144, .f32⟩
  | .hbm, ⟨69, _⟩ => ⟨S1x6x256x1, .f32⟩
  | .hbm, ⟨70, _⟩ => ⟨S3x1x1x6144, .f32⟩
  | .hbm, ⟨71, _⟩ => ⟨S3x6144x6x256, .f32⟩
  | .hbm, ⟨72, _⟩ => ⟨S3x6x256x6144, .f32⟩
  | .hbm, ⟨73, _⟩ => ⟨S3x6x256x6144, .f32⟩
  | .hbm, ⟨74, _⟩ => ⟨S3x6x256x6144, .f32⟩
  | .hbm, ⟨75, _⟩ => ⟨S3x6x256x6144, .f32⟩
  | .hbm, ⟨76, _⟩ => ⟨S3x6x256x6144, .f32⟩
  | .hbm, ⟨77, _⟩ => ⟨S3x6x256x6144, .f32⟩
  | .hbm, ⟨78, _⟩ => ⟨S3x6x256x6144, .f32⟩
  | .hbm, ⟨79, _⟩ => ⟨S3x6x256x6144, .f32⟩
  | .hbm, ⟨80, _⟩ => ⟨S3x6x256x6144, .f32⟩
  | .hbm, ⟨81, _⟩ => ⟨S3x6x256x6144, .bf16⟩
  | .hbm, ⟨82, _⟩ => ⟨S6x256x2560, .f32⟩
  | .hbm, ⟨83, _⟩ => ⟨S6x256x2560, .bf16⟩
  | .hbm, ⟨84, _⟩ => ⟨S3x6x256x6144, .f32⟩
  | .hbm, ⟨85, _⟩ => ⟨S3x6x256x6144, .f32⟩
  | .hbm, ⟨86, _⟩ => ⟨S3x6x256x6144, .bf16⟩
  | .hbm, ⟨87, _⟩ => ⟨S3x6144x2560, .f32⟩
  | .hbm, ⟨88, _⟩ => ⟨S3x6144x2560, .bf16⟩
  | .hbm, ⟨89, _⟩ => ⟨S2560x2560, .f32⟩
  | .hbm, ⟨90, _⟩ => ⟨S2560x2560, .f32⟩
  | .hbm, ⟨91, _⟩ => ⟨S2560x2560, .f32⟩
  | .hbm, ⟨92, _⟩ => ⟨S_, .f32⟩
  | .hbm, ⟨93, _⟩ => ⟨S2560x2560, .f32⟩
  | .hbm, ⟨94, _⟩ => ⟨S2560x2560, .f32⟩
  | .local _ .vmem, ⟨0, _⟩ => ⟨S6x256x2560, .f32⟩
  | .local _ .vmem, ⟨1, _⟩ => ⟨S3x6144x2560, .f32⟩
  | .local _ .vmem, ⟨2, _⟩ => ⟨S6x256x2560, .i8⟩
  | .local _ .vmem, ⟨3, _⟩ => ⟨S6x256x2560, .bf16⟩
  | .local _ .vmem, ⟨4, _⟩ => ⟨S3x6144x2560, .i8⟩
  | .local _ .vmem, ⟨5, _⟩ => ⟨S3x6144x2560, .bf16⟩
  | _, _ => ⟨S6x256x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_call0_v0 : Ref sig .tc := ⟨.hbm, 17, rfl⟩
abbrev main_call0_v1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_cst_4 : Ref sig .tc := ⟨.hbm, 25, rfl⟩
abbrev main_call2_v0 : Ref sig .tc := ⟨.hbm, 26, rfl⟩
abbrev main_call2_v1 : Ref sig .tc := ⟨.hbm, 27, rfl⟩
abbrev main_call2_v2 : Ref sig .tc := ⟨.hbm, 28, rfl⟩
abbrev main_call2_v3 : Ref sig .tc := ⟨.hbm, 29, rfl⟩
abbrev main_call2_v4 : Ref sig .tc := ⟨.hbm, 30, rfl⟩
abbrev main_v14 : Ref sig .tc := ⟨.hbm, 31, rfl⟩
abbrev main_v15 : Ref sig .tc := ⟨.hbm, 32, rfl⟩
abbrev main_cst_5 : Ref sig .tc := ⟨.hbm, 33, rfl⟩
abbrev main_v16 : Ref sig .tc := ⟨.hbm, 34, rfl⟩
abbrev main_cst_6 : Ref sig .tc := ⟨.hbm, 35, rfl⟩
abbrev main_v17 : Ref sig .tc := ⟨.hbm, 36, rfl⟩
abbrev main_v18 : Ref sig .tc := ⟨.hbm, 37, rfl⟩
abbrev main_cst_7 : Ref sig .tc := ⟨.hbm, 38, rfl⟩
abbrev main_v19 : Ref sig .tc := ⟨.hbm, 39, rfl⟩
abbrev main_v20 : Ref sig .tc := ⟨.hbm, 40, rfl⟩
abbrev main_cst_8 : Ref sig .tc := ⟨.hbm, 41, rfl⟩
abbrev main_call3_v0 : Ref sig .tc := ⟨.hbm, 42, rfl⟩
abbrev main_call3_v1 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_9 : Ref sig .tc := ⟨.hbm, 49, rfl⟩
abbrev main_cst_10 : Ref sig .tc := ⟨.hbm, 50, rfl⟩
abbrev main_call5_v0 : Ref sig .tc := ⟨.hbm, 51, rfl⟩
abbrev main_call5_v1 : Ref sig .tc := ⟨.hbm, 52, rfl⟩
abbrev main_call5_v2 : Ref sig .tc := ⟨.hbm, 53, rfl⟩
abbrev main_call5_v3 : Ref sig .tc := ⟨.hbm, 54, rfl⟩
abbrev main_call5_v4 : Ref sig .tc := ⟨.hbm, 55, rfl⟩
abbrev main_v26 : Ref sig .tc := ⟨.hbm, 56, rfl⟩
abbrev main_v27_0 : Ref sig .tc := ⟨.hbm, 57, rfl⟩
abbrev main_v27_1 : Ref sig .tc := ⟨.hbm, 58, rfl⟩
abbrev main_v27_2 : Ref sig .tc := ⟨.hbm, 59, rfl⟩
abbrev main_v27_3 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_cst_11 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_12 : Ref sig .tc := ⟨.hbm, 92, rfl⟩
abbrev main_v58 : Ref sig .tc := ⟨.hbm, 93, rfl⟩
abbrev main_v59 : Ref sig .tc := ⟨.hbm, 94, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S6x256x2560 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x6144x2560 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x256x2560 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x256x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x6144x2560 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x6144x2560 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Frame.Region0.lean ====
/- pallas_call 0 (`split_r`) at any entry contents `V`: its windows' blocks, the run of its body in each case of its
   conditionals, what the body leaves in each buffer, the proof data `dat0` and the body's obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_split_r` (pipeline 0), at the entry contents `V` -/

/-! ## The windows' blocks -/

/-- Window `w`'s block at point `t`, read off its array as the region finds it (`V`). -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S256x2560 := Rect.unit (s := S256x2560) ![0, 0] S256x2560.size inb_S256x2560_S256x2560_0_0
abbrev r0_1 : Rect S3x256x2560 := Rect.unit (s := S3x256x2560) ![0, 0, 0] S1x256x2560.size inb_S3x256x2560_S1x256x2560_0_0_0
abbrev r0_2 : Rect S3x256x2560 := Rect.unit (s := S3x256x2560) ![1, 0, 0] S1x256x2560.size inb_S3x256x2560_S1x256x2560_1_0_0
abbrev r0_3 : Rect S3x256x2560 := Rect.unit (s := S3x256x2560) ![2, 0, 0] S1x256x2560.size inb_S3x256x2560_S1x256x2560_2_0_0

/-! ## What the body leaves in each output window's buffer -/

/-- Window 1's staging buffer after the body, from the input windows' blocks: its 3 stores as pieces, LAST
    FIRST (Lib/Pipeline/FrameBody.lean `View.canon`; the payloads are the skeleton's). -/
def out0_1 (x0 : Vec F S256x2560 .f32) : Vec F S3x256x2560 .bf16 :=
  View.canon [⟨r0_3, k0_pay6 (View.ld x0 r0_0)⟩,
    ⟨r0_2, k0_pay5 (View.ld x0 r0_0)⟩,
    ⟨r0_1, k0_pay4 (View.ld x0 r0_0)⟩]

/-- Its stores tile the buffer (checked by evaluation), so they cover it. -/
theorem cover0_1 (p0 : Vec F S1x256x2560 .bf16) (p1 : Vec F S1x256x2560 .bf16) (p2 : Vec F S1x256x2560 .bf16) (y : S3x256x2560.Idx) :
    ∃ pc ∈ ([⟨r0_3, p0⟩, ⟨r0_2, p1⟩, ⟨r0_1, p2⟩] : List (View.Piece (Elt F) S3x256x2560 .bf16)), y ∈ pc.1.set :=
  View.cover_of_tiled [⟨r0_3, p0⟩, ⟨r0_2, p1⟩, ⟨r0_1, p2⟩] S1x256x2560.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S256x2560 .f32) (harg1 : arg1.IsWhole) (arg2 : Memref sig .tc .vmem S3x256x2560 .bf16) (harg2 : arg2.IsWhole)
    (x0 : Vec F S256x2560 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0_split_r i arg1 harg1 arg2 harg2) K := by
  simp only [cc0_split_r_eq_skeleton]; unfold cc0_split_r_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _ _ _)

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ (grid0.coords t) _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Gen

end
-- ==== Proof.Frame.Region1.lean ====
/- pallas_call 1 (`rot_x`) at any entry contents `V`: its windows' blocks, the run of its body in each case of its
   conditionals, what the body leaves in each buffer, the proof data `dat1` and the body's obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1_rot_x` (pipeline 1), at the entry contents `V` —   -/

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 2, through which its contents are stated (`View.read_writes_of_cover`: the
    choice does not matter). -/
abbrev VO1_2 : View sig .tc .vmem S512x2560 .i8 := (Memref.whole cc1_stg2_0 : Memref sig .tc .vmem S512x2560 .i8).view
/-- One staging buffer of output window 3, through which its contents are stated (`View.read_writes_of_cover`: the
    choice does not matter). -/
abbrev VO1_3 : View sig .tc .vmem S512x1 .f32 := (Memref.whole cc1_stg3_0 : Memref sig .tc .vmem S512x1 .f32).view
/-- One staging buffer of output window 4, through which its contents are stated (`View.read_writes_of_cover`: the
    choice does not matter). -/
abbrev VO1_4 : View sig .tc .vmem S1x1x512 .f32 := (Memref.whole cc1_stg4_0 : Memref sig .tc .vmem S1x1x512 .f32).view
/-- One staging buffer of output window 5, through which its contents are stated (`View.read_writes_of_cover`: the
    choice does not matter). -/
abbrev VO1_5 : View sig .tc .vmem S1x1x512 .f32 := (Memref.whole cc1_stg5_0 : Memref sig .tc .vmem S1x1x512 .f32).view
/-- Each window's current staging memref at point `t`, spelled as the pipeline passes it (`bodyAt1`), and its wholeness. -/
abbrev ms1_0 (t : Fin cfg1.N) : Memref sig .tc .vmem S512x2560 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2560x2560 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x2560 .i8 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1x512 .f32 := win1_5.stage (cfg1.slots t 5)
abbrev hs1_5 (t : Fin cfg1.N) : (ms1_5 t).IsWhole := hstage1_5 ((cfg1.slots t 5).cast nbuf1_5)
/-- The scratch operands: whole scoped buffers of the kernel's own, passed beside the windows. -/
abbrev scM1_0 : Memref sig .tc .vmem S512x2560 .f32 := Memref.whole cc1_scratch0

/-- `Gen.scopedRest1_split` as ONE chain: the kernel's own scratch buffers, each whole at some contents, then every
    other scoped buffer, unopened (`Pipeline.scopedRestBut`). -/
theorem scopedRest1_flat (c : Dev nD) :
    (Pipeline.scopedRest spec1 c : sProp 𝕄)
      = iprop((∃ f : Buf (Elt F) ((c : Thread nD τ).loc cc1_scratch0), ((c : Thread nD τ).loc cc1_scratch0) ↦{fullShare} f) ∗ Pipeline.scopedRestBut spec1 c [cc1_scratch0]) := by
  rw [scopedRest1_split]

/-- The frame kit's invariant with the scratch operands as memrefs owned at some contents (`Gen.scopedRest1_flat`,
    Lib/Memref.lean `owns_whole`): what the body obligation hands the run and takes back. -/
theorem PhiA1_eq (c : Dev nD) :
    (Pipeline.ΦA spec1 c : sProp 𝕄)
      = iprop(iprop((∃ d, owns (c : Thread nD τ) scM1_0 fullShare d) ∗ Pipeline.scopedRestBut spec1 c [cc1_scratch0]) ∗ (∃ r, prngReg c r)) := by
  unfold Pipeline.ΦA; rw [scopedRest1_flat]; simp only [scM1_0, owns_whole]; try rfl

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun1_A (c : Dev nD) (i : grid1.Coords) (arg1 : Memref sig .tc .vmem S512x2560 .bf16) (harg1 : arg1.IsWhole) (arg2 : Memref sig .tc .vmem S1x2560x2560 .bf16) (harg2 : arg2.IsWhole) (arg3 : Memref sig .tc .vmem S512x2560 .i8) (harg3 : arg3.IsWhole) (arg4 : Memref sig .tc .vmem S512x1 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S512x2560 .f32) (harg7 : arg7.IsWhole)
    (x0 : Vec F S512x2560 .bf16) (x1 : Vec F S1x2560x2560 .bf16) :
    Σ' (L2 : List (View.Piece (Elt F) S512x2560 .i8)), Σ' (L3 : List (View.Piece (Elt F) S512x1 .f32)), Σ' (L4 : List (View.Piece (Elt F) S1x1x512 .f32)), Σ' (L5 : List (View.Piece (Elt F) S1x1x512 .f32)), { LT0 : List (View.Piece (Elt F) S512x2560 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LT0)) -∗ K ⟨⟩))
          ⊢ wp frame (wpE (defs₀ (F := F)) Variants.none c none) E (cc1_rot_x i arg1 harg1 arg2 harg2 arg3 harg3 arg4 harg4 arg5 harg5 arg6 harg6 arg7 harg7) K } := by
  refine ⟨?_, ?_, ?_, ?_, ?_, fun E K => ?run⟩
  case run =>
    simp only [cc1_rot_x_eq_skeleton]; unfold cc1_rot_x_skel
    simp only [k1_part1_eq_skeleton, k1_part2_eq_skeleton, k1_part3_eq_skeleton, k1_part4_eq_skeleton, k1_part5_eq_skeleton, k1_part6_eq_skeleton, k1_part7_eq_skeleton, k1_part8_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%ds0, %fs0, -, HS0⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [H5]; · iexists _; iexact H5
    iexists _; iexact HS0

/-- The run's pieces for output 2 tile its block (8 stores of `S64x2560`, checked by the kernel's evaluation: Lib/Ring.lean `Piece.tiledL`, linear in the pieces, through a loop's `@[irreducible]` trip theorem too), so they cover it. -/
theorem cover1_A_2 (c : Dev nD) (i : grid1.Coords) (arg1 : Memref sig .tc .vmem S512x2560 .bf16) (harg1 : arg1.IsWhole) (arg2 : Memref sig .tc .vmem S1x2560x2560 .bf16) (harg2 : arg2.IsWhole) (arg3 : Memref sig .tc .vmem S512x2560 .i8) (harg3 : arg3.IsWhole) (arg4 : Memref sig .tc .vmem S512x1 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S512x2560 .f32) (harg7 : arg7.IsWhole)
    (x0 : Vec F S512x2560 .bf16) (x1 : Vec F S1x2560x2560 .bf16) (y : S512x2560.Idx) :
    ∃ pc ∈ (kernelRun1_A c i arg1 harg1 arg2 harg2 arg3 harg3 arg4 harg4 arg5 harg5 arg6 harg6 arg7 harg7 x0 x1).1, y ∈ pc.1.set :=
  View.cover_of_tiledL (kernelRun1_A c i arg1 harg1 arg2 harg2 arg3 harg3 arg4 harg4 arg5 harg5 arg6 harg6 arg7 harg7 x0 x1).1 S64x2560.size (by sl_kernel_rfl) y

/-- What the run leaves in output 2's staging buffer: its pieces read back over junk. -/
def out1_A_2 (c : Dev nD) (i : grid1.Coords) (arg1 : Memref sig .tc .vmem S512x2560 .bf16) (harg1 : arg1.IsWhole) (arg2 : Memref sig .tc .vmem S1x2560x2560 .bf16) (harg2 : arg2.IsWhole) (arg3 : Memref sig .tc .vmem S512x2560 .i8) (harg3 : arg3.IsWhole) (arg4 : Memref sig .tc .vmem S512x1 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S512x2560 .f32) (harg7 : arg7.IsWhole)
    (x0 : Vec F S512x2560 .bf16) (x1 : Vec F S1x2560x2560 .bf16) : Vec F S512x2560 .i8 :=
  VO1_2.read (Elt F) (VO1_2.writes (Elt F) VO1_2.junk (kernelRun1_A c i arg1 harg1 arg2 harg2 arg3 harg3 arg4 harg4 arg5 harg5 arg6 harg6 arg7 harg7 x0 x1).1)

/-- The run's pieces for output 3 tile its block (8 stores of `S64x1`, checked by the kernel's evaluation: Lib/Ring.lean `Piece.tiledL`, linear in the pieces, through a loop's `@[irreducible]` trip theorem too), so they cover it. -/
theorem cover1_A_3 (c : Dev nD) (i : grid1.Coords) (arg1 : Memref sig .tc .vmem S512x2560 .bf16) (harg1 : arg1.IsWhole) (arg2 : Memref sig .tc .vmem S1x2560x2560 .bf16) (harg2 : arg2.IsWhole) (arg3 : Memref sig .tc .vmem S512x2560 .i8) (harg3 : arg3.IsWhole) (arg4 : Memref sig .tc .vmem S512x1 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S512x2560 .f32) (harg7 : arg7.IsWhole)
    (x0 : Vec F S512x2560 .bf16) (x1 : Vec F S1x2560x2560 .bf16) (y : S512x1.Idx) :
    ∃ pc ∈ (kernelRun1_A c i arg1 harg1 arg2 harg2 arg3 harg3 arg4 harg4 arg5 harg5 arg6 harg6 arg7 harg7 x0 x1).2.1, y ∈ pc.1.set :=
  View.cover_of_tiledL (kernelRun1_A c i arg1 harg1 arg2 harg2 arg3 harg3 arg4 harg4 arg5 harg5 arg6 harg6 arg7 harg7 x0 x1).2.1 S64x1.size (by sl_kernel_rfl) y

/-- What the run leaves in output 3's staging buffer: its pieces read back over junk. -/
def out1_A_3 (c : Dev nD) (i : grid1.Coords) (arg1 : Memref sig .tc .vmem S512x2560 .bf16) (harg1 : arg1.IsWhole) (arg2 : Memref sig .tc .vmem S1x2560x2560 .bf16) (harg2 : arg2.IsWhole) (arg3 : Memref sig .tc .vmem S512x2560 .i8) (harg3 : arg3.IsWhole) (arg4 : Memref sig .tc .vmem S512x1 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S512x2560 .f32) (harg7 : arg7.IsWhole)
    (x0 : Vec F S512x2560 .bf16) (x1 : Vec F S1x2560x2560 .bf16) : Vec F S512x1 .f32 :=
  VO1_3.read (Elt F) (VO1_3.writes (Elt F) VO1_3.junk (kernelRun1_A c i arg1 harg1 arg2 harg2 arg3 harg3 arg4 harg4 arg5 harg5 arg6 harg6 arg7 harg7 x0 x1).2.1)

/-- The run's pieces for output 4 tile its block (8 stores of `S1x1x64`, checked by the kernel's evaluation: Lib/Ring.lean `Piece.tiledL`, linear in the pieces, through a loop's `@[irreducible]` trip theorem too), so they cover it. -/
theorem cover1_A_4 (c : Dev nD) (i : grid1.Coords) (arg1 : Memref sig .tc .vmem S512x2560 .bf16) (harg1 : arg1.IsWhole) (arg2 : Memref sig .tc .vmem S1x2560x2560 .bf16) (harg2 : arg2.IsWhole) (arg3 : Memref sig .tc .vmem S512x2560 .i8) (harg3 : arg3.IsWhole) (arg4 : Memref sig .tc .vmem S512x1 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S512x2560 .f32) (harg7 : arg7.IsWhole)
    (x0 : Vec F S512x2560 .bf16) (x1 : Vec F S1x2560x2560 .bf16) (y : S1x1x512.Idx) :
    ∃ pc ∈ (kernelRun1_A c i arg1 harg1 arg2 harg2 arg3 harg3 arg4 harg4 arg5 harg5 arg6 harg6 arg7 harg7 x0 x1).2.2.1, y ∈ pc.1.set :=
  View.cover_of_tiledL (kernelRun1_A c i arg1 harg1 arg2 harg2 arg3 harg3 arg4 harg4 arg5 harg5 arg6 harg6 arg7 harg7 x0 x1).2.2.1 S1x1x64.size (by sl_kernel_rfl) y

/-- What the run leaves in output 4's staging buffer: its pieces read back over junk. -/
def out1_A_4 (c : Dev nD) (i : grid1.Coords) (arg1 : Memref sig .tc .vmem S512x2560 .bf16) (harg1 : arg1.IsWhole) (arg2 : Memref sig .tc .vmem S1x2560x2560 .bf16) (harg2 : arg2.IsWhole) (arg3 : Memref sig .tc .vmem S512x2560 .i8) (harg3 : arg3.IsWhole) (arg4 : Memref sig .tc .vmem S512x1 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S512x2560 .f32) (harg7 : arg7.IsWhole)
    (x0 : Vec F S512x2560 .bf16) (x1 : Vec F S1x2560x2560 .bf16) : Vec F S1x1x512 .f32 :=
  VO1_4.read (Elt F) (VO1_4.writes (Elt F) VO1_4.junk (kernelRun1_A c i arg1 harg1 arg2 harg2 arg3 harg3 arg4 harg4 arg5 harg5 arg6 harg6 arg7 harg7 x0 x1).2.2.1)

/-- The run's pieces for output 5 tile its block (8 stores of `S1x1x64`, checked by the kernel's evaluation: Lib/Ring.lean `Piece.tiledL`, linear in the pieces, through a loop's `@[irreducible]` trip theorem too), so they cover it. -/
theorem cover1_A_5 (c : Dev nD) (i : grid1.Coords) (arg1 : Memref sig .tc .vmem S512x2560 .bf16) (harg1 : arg1.IsWhole) (arg2 : Memref sig .tc .vmem S1x2560x2560 .bf16) (harg2 : arg2.IsWhole) (arg3 : Memref sig .tc .vmem S512x2560 .i8) (harg3 : arg3.IsWhole) (arg4 : Memref sig .tc .vmem S512x1 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S512x2560 .f32) (harg7 : arg7.IsWhole)
    (x0 : Vec F S512x2560 .bf16) (x1 : Vec F S1x2560x2560 .bf16) (y : S1x1x512.Idx) :
    ∃ pc ∈ (kernelRun1_A c i arg1 harg1 arg2 harg2 arg3 harg3 arg4 harg4 arg5 harg5 arg6 harg6 arg7 harg7 x0 x1).2.2.2.1, y ∈ pc.1.set :=
  View.cover_of_tiledL (kernelRun1_A c i arg1 harg1 arg2 harg2 arg3 harg3 arg4 harg4 arg5 harg5 arg6 harg6 arg7 harg7 x0 x1).2.2.2.1 S1x1x64.size (by sl_kernel_rfl) y

/-- What the run leaves in output 5's staging buffer: its pieces read back over junk. -/
def out1_A_5 (c : Dev nD) (i : grid1.Coords) (arg1 : Memref sig .tc .vmem S512x2560 .bf16) (harg1 : arg1.IsWhole) (arg2 : Memref sig .tc .vmem S1x2560x2560 .bf16) (harg2 : arg2.IsWhole) (arg3 : Memref sig .tc .vmem S512x2560 .i8) (harg3 : arg3.IsWhole) (arg4 : Memref sig .tc .vmem S512x1 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S512x2560 .f32) (harg7 : arg7.IsWhole)
    (x0 : Vec F S512x2560 .bf16) (x1 : Vec F S1x2560x2560 .bf16) : Vec F S1x1x512 .f32 :=
  VO1_5.read (Elt F) (VO1_5.writes (Elt F) VO1_5.junk (kernelRun1_A c i arg1 harg1 arg2 harg2 arg3 harg3 arg4 harg4 arg5 harg5 arg6 harg6 arg7 harg7 x0 x1).2.2.2.1)

/-! ## What the outputs hold after each point -/

/-- What the outputs' staging buffers hold after the body at point `t` (as a tuple, in window order): the run's contents at
    the point's memrefs and input blocks. -/
def outsAt1 (c : Dev nD) (t : Fin cfg1.N) : Vec F S512x2560 .i8 × Vec F S512x1 .f32 × Vec F S1x1x512 .f32 × Vec F S1x1x512 .f32 :=
  (out1_A_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (iblk1 V c 0 t) (iblk1 V c 1 t), out1_A_3 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (iblk1 V c 0 t) (iblk1 V c 1 t), out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (iblk1 V c 0 t) (iblk1 V c 1 t), out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (iblk1 V c 0 t) (iblk1 V c 1 t))

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t).1
    | ⟨3, _⟩ => (outsAt1 V c t).2.1
    | ⟨4, _⟩ => (outsAt1 V c t).2.2.1
    | ⟨5, _⟩ => (outsAt1 V c t).2.2.2
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t).1 := by dsimp only [dat1]
theorem after1_3 (c : Dev nD) (t : Fin cfg1.N) : (dat1 V c).after 3 t = (outsAt1 V c t).2.1 := by dsimp only [dat1]
theorem after1_4 (c : Dev nD) (t : Fin cfg1.N) : (dat1 V c).after 4 t = (outsAt1 V c t).2.2.1 := by dsimp only [dat1]
theorem after1_5 (c : Dev nD) (t : Fin cfg1.N) : (dat1 V c).after 5 t = (outsAt1 V c t).2.2.2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

/-- The body at any point: the inputs' memrefs hold their blocks (`before1_W`); so the
    run applies; the invariant hands the body its scratch buffers at some contents (and the generator register) and takes them back at some contents (`PhiA_eq`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3, after1_4, after1_5]
  rw [show (dat1 V c).Φ t.castSucc = Pipeline.ΦA spec1 c from rfl, PhiA1_eq]
  unfold outsAt1
  unfold out1_A_2 out1_A_3 out1_A_4 out1_A_5; (try dsimp only)
  iintro ⟨⟨⟨HS0, HR1⟩, Hg⟩, Ho, ⟨%d0, H0⟩, ⟨%d1, H1⟩, ⟨%d2, H2⟩, ⟨%d3, H3⟩, ⟨%d4, H4⟩, ⟨%d5, H5⟩⟩
  iapply ((kernelRun1_A c (grid1.coords t) _ _ _ _ _ _ _ _ _ _ _ _ _ _ (iblk1 V c 0 t) (iblk1 V c 1 t)).2.2.2.2.2 Set.univ _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [HS0]; · iexact HS0
  iintro ⟨H0, H1, ⟨%e2, H2⟩, ⟨%e3, H3⟩, ⟨%e4, H4⟩, ⟨%e5, H5⟩, ⟨%fT0, HS0⟩⟩
  isplitl [HS0 HR1 Hg]
  · isplitl [HS0 HR1]
    · isplitl [HS0]
      · iexists _; unfold owns; iexists _; isplitr
        swap; · iexact HS0
        ipureintro; rfl
      iexact HR1
    iexact Hg
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover1_A_2 c _ _ _ _ _ _ _ _ _ _ _ _ _ _ _ _ _)
  isplitl [H3]
  · unfold owns; iexists _; isplitr
    swap; · iexact H3
    ipureintro; exact View.read_writes_of_cover _ _ _ _ _ (cover1_A_3 c _ _ _ _ _ _ _ _ _ _ _ _ _ _ _ _ _)
  isplitl [H4]
  · unfold owns; iexists _; isplitr
    swap; · iexact H4
    ipureintro; exact View.read_writes_of_cover _ _ _ _ _ (cover1_A_4 c _ _ _ _ _ _ _ _ _ _ _ _ _ _ _ _ _)
  unfold owns; iexists _; isplitr
  swap; · iexact H5
  ipureintro; exact View.read_writes_of_cover _ _ _ _ _ (cover1_A_5 c _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Gen

end
-- ==== Proof.Frame.Region2.lean ====
/- pallas_call 2 (`rot_w`) at any entry contents `V`: its windows' blocks, the run of its body in each case of its
   conditionals, what the body leaves in each buffer, the proof data `dat2` and the body's obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 2 of @main: custom_call 2, `cc2_rot_w` (pipeline 2), at the entry contents `V` —   -/

/-! ## The windows' blocks -/

/-- Window `w`'s block at point `t`, read off its array as the region finds it (`V`). -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The kernel body on any staging memrefs: a subtype the run finds -/

/-- One staging buffer of output window 2, through which its contents are stated (`View.read_writes_of_cover`: the
    choice does not matter). -/
abbrev VO2_2 : View sig .tc .vmem S512x2560 .i8 := (Memref.whole cc2_stg2_0 : Memref sig .tc .vmem S512x2560 .i8).view
/-- One staging buffer of output window 3, through which its contents are stated (`View.read_writes_of_cover`: the
    choice does not matter). -/
abbrev VO2_3 : View sig .tc .vmem S512x1 .f32 := (Memref.whole cc2_stg3_0 : Memref sig .tc .vmem S512x1 .f32).view
/-- One staging buffer of output window 4, through which its contents are stated (`View.read_writes_of_cover`: the
    choice does not matter). -/
abbrev VO2_4 : View sig .tc .vmem S1x1x512 .f32 := (Memref.whole cc2_stg4_0 : Memref sig .tc .vmem S1x1x512 .f32).view
/-- One staging buffer of output window 5, through which its contents are stated (`View.read_writes_of_cover`: the
    choice does not matter). -/
abbrev VO2_5 : View sig .tc .vmem S1x1x512 .f32 := (Memref.whole cc2_stg5_0 : Memref sig .tc .vmem S1x1x512 .f32).view
/-- Each window's current staging memref at point `t`, spelled as the pipeline passes it (`bodyAt2`), and its wholeness. -/
abbrev ms2_0 (t : Fin cfg2.N) : Memref sig .tc .vmem S512x2560 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x2560x2560 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x2560 .i8 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x1 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1x512 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x1x512 .f32 := win2_5.stage (cfg2.slots t 5)
abbrev hs2_5 (t : Fin cfg2.N) : (ms2_5 t).IsWhole := hstage2_5 ((cfg2.slots t 5).cast nbuf2_5)
/-- The scratch operands: whole scoped buffers of the kernel's own, passed beside the windows. -/
abbrev scM2_0 : Memref sig .tc .vmem S512x2560 .f32 := Memref.whole cc2_scratch0

/-- `Gen.scopedRest2_split` as ONE chain: the kernel's own scratch buffers, each whole at some contents, then every
    other scoped buffer, unopened (`Pipeline.scopedRestBut`). -/
theorem scopedRest2_flat (c : Dev nD) :
    (Pipeline.scopedRest spec2 c : sProp 𝕄)
      = iprop((∃ f : Buf (Elt F) ((c : Thread nD τ).loc cc2_scratch0), ((c : Thread nD τ).loc cc2_scratch0) ↦{fullShare} f) ∗ Pipeline.scopedRestBut spec2 c [cc2_scratch0]) := by
  rw [scopedRest2_split]

/-- The frame kit's invariant with the scratch operands as memrefs owned at some contents (`Gen.scopedRest2_flat`,
    Lib/Memref.lean `owns_whole`): what the body obligation hands the run and takes back. -/
theorem PhiA2_eq (c : Dev nD) :
    (Pipeline.ΦA spec2 c : sProp 𝕄)
      = iprop(iprop((∃ d, owns (c : Thread nD τ) scM2_0 fullShare d) ∗ Pipeline.scopedRestBut spec2 c [cc2_scratch0]) ∗ (∃ r, prngReg c r)) := by
  unfold Pipeline.ΦA; rw [scopedRest2_flat]; simp only [scM2_0, owns_whole]; try rfl

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun2_A (c : Dev nD) (i : grid2.Coords) (arg1 : Memref sig .tc .vmem S512x2560 .bf16) (harg1 : arg1.IsWhole) (arg2 : Memref sig .tc .vmem S1x2560x2560 .bf16) (harg2 : arg2.IsWhole) (arg3 : Memref sig .tc .vmem S512x2560 .i8) (harg3 : arg3.IsWhole) (arg4 : Memref sig .tc .vmem S512x1 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S512x2560 .f32) (harg7 : arg7.IsWhole)
    (x0 : Vec F S512x2560 .bf16) (x1 : Vec F S1x2560x2560 .bf16) :
    Σ' (L2 : List (View.Piece (Elt F) S512x2560 .i8)), Σ' (L3 : List (View.Piece (Elt F) S512x1 .f32)), Σ' (L4 : List (View.Piece (Elt F) S1x1x512 .f32)), Σ' (L5 : List (View.Piece (Elt F) S1x1x512 .f32)), { LT0 : List (View.Piece (Elt F) S512x2560 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LT0)) -∗ K ⟨⟩))
          ⊢ wp frame (wpE (defs₀ (F := F)) Variants.none c none) E (cc2_rot_w i arg1 harg1 arg2 harg2 arg3 harg3 arg4 harg4 arg5 harg5 arg6 harg6 arg7 harg7) K } := by
  refine ⟨?_, ?_, ?_, ?_, ?_, fun E K => ?run⟩
  case run =>
    simp only [cc2_rot_w_eq_skeleton]; unfold cc2_rot_w_skel
    simp only [k2_part1_eq_skeleton, k2_part2_eq_skeleton, k2_part3_eq_skeleton, k2_part4_eq_skeleton, k2_part5_eq_skeleton, k2_part6_eq_skeleton, k2_part7_eq_skeleton, k2_part8_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%ds0, %fs0, -, HS0⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [H5]; · iexists _; iexact H5
    iexists _; iexact HS0

/-- The run's pieces for output 2 tile its block (8 stores of `S64x2560`, checked by the kernel's evaluation: Lib/Ring.lean `Piece.tiledL`, linear in the pieces, through a loop's `@[irreducible]` trip theorem too), so they cover it. -/
theorem cover2_A_2 (c : Dev nD) (i : grid2.Coords) (arg1 : Memref sig .tc .vmem S512x2560 .bf16) (harg1 : arg1.IsWhole) (arg2 : Memref sig .tc .vmem S1x2560x2560 .bf16) (harg2 : arg2.IsWhole) (arg3 : Memref sig .tc .vmem S512x2560 .i8) (harg3 : arg3.IsWhole) (arg4 : Memref sig .tc .vmem S512x1 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S512x2560 .f32) (harg7 : arg7.IsWhole)
    (x0 : Vec F S512x2560 .bf16) (x1 : Vec F S1x2560x2560 .bf16) (y : S512x2560.Idx) :
    ∃ pc ∈ (kernelRun2_A c i arg1 harg1 arg2 harg2 arg3 harg3 arg4 harg4 arg5 harg5 arg6 harg6 arg7 harg7 x0 x1).1, y ∈ pc.1.set :=
  View.cover_of_tiledL (kernelRun2_A c i arg1 harg1 arg2 harg2 arg3 harg3 arg4 harg4 arg5 harg5 arg6 harg6 arg7 harg7 x0 x1).1 S64x2560.size (by sl_kernel_rfl) y

/-- What the run leaves in output 2's staging buffer: its pieces read back over junk. -/
def out2_A_2 (c : Dev nD) (i : grid2.Coords) (arg1 : Memref sig .tc .vmem S512x2560 .bf16) (harg1 : arg1.IsWhole) (arg2 : Memref sig .tc .vmem S1x2560x2560 .bf16) (harg2 : arg2.IsWhole) (arg3 : Memref sig .tc .vmem S512x2560 .i8) (harg3 : arg3.IsWhole) (arg4 : Memref sig .tc .vmem S512x1 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S512x2560 .f32) (harg7 : arg7.IsWhole)
    (x0 : Vec F S512x2560 .bf16) (x1 : Vec F S1x2560x2560 .bf16) : Vec F S512x2560 .i8 :=
  VO2_2.read (Elt F) (VO2_2.writes (Elt F) VO2_2.junk (kernelRun2_A c i arg1 harg1 arg2 harg2 arg3 harg3 arg4 harg4 arg5 harg5 arg6 harg6 arg7 harg7 x0 x1).1)

/-- The run's pieces for output 3 tile its block (8 stores of `S64x1`, checked by the kernel's evaluation: Lib/Ring.lean `Piece.tiledL`, linear in the pieces, through a loop's `@[irreducible]` trip theorem too), so they cover it. -/
theorem cover2_A_3 (c : Dev nD) (i : grid2.Coords) (arg1 : Memref sig .tc .vmem S512x2560 .bf16) (harg1 : arg1.IsWhole) (arg2 : Memref sig .tc .vmem S1x2560x2560 .bf16) (harg2 : arg2.IsWhole) (arg3 : Memref sig .tc .vmem S512x2560 .i8) (harg3 : arg3.IsWhole) (arg4 : Memref sig .tc .vmem S512x1 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S512x2560 .f32) (harg7 : arg7.IsWhole)
    (x0 : Vec F S512x2560 .bf16) (x1 : Vec F S1x2560x2560 .bf16) (y : S512x1.Idx) :
    ∃ pc ∈ (kernelRun2_A c i arg1 harg1 arg2 harg2 arg3 harg3 arg4 harg4 arg5 harg5 arg6 harg6 arg7 harg7 x0 x1).2.1, y ∈ pc.1.set :=
  View.cover_of_tiledL (kernelRun2_A c i arg1 harg1 arg2 harg2 arg3 harg3 arg4 harg4 arg5 harg5 arg6 harg6 arg7 harg7 x0 x1).2.1 S64x1.size (by sl_kernel_rfl) y

/-- What the run leaves in output 3's staging buffer: its pieces read back over junk. -/
def out2_A_3 (c : Dev nD) (i : grid2.Coords) (arg1 : Memref sig .tc .vmem S512x2560 .bf16) (harg1 : arg1.IsWhole) (arg2 : Memref sig .tc .vmem S1x2560x2560 .bf16) (harg2 : arg2.IsWhole) (arg3 : Memref sig .tc .vmem S512x2560 .i8) (harg3 : arg3.IsWhole) (arg4 : Memref sig .tc .vmem S512x1 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S512x2560 .f32) (harg7 : arg7.IsWhole)
    (x0 : Vec F S512x2560 .bf16) (x1 : Vec F S1x2560x2560 .bf16) : Vec F S512x1 .f32 :=
  VO2_3.read (Elt F) (VO2_3.writes (Elt F) VO2_3.junk (kernelRun2_A c i arg1 harg1 arg2 harg2 arg3 harg3 arg4 harg4 arg5 harg5 arg6 harg6 arg7 harg7 x0 x1).2.1)

/-- The run's pieces for output 4 tile its block (8 stores of `S1x1x64`, checked by the kernel's evaluation: Lib/Ring.lean `Piece.tiledL`, linear in the pieces, through a loop's `@[irreducible]` trip theorem too), so they cover it. -/
theorem cover2_A_4 (c : Dev nD) (i : grid2.Coords) (arg1 : Memref sig .tc .vmem S512x2560 .bf16) (harg1 : arg1.IsWhole) (arg2 : Memref sig .tc .vmem S1x2560x2560 .bf16) (harg2 : arg2.IsWhole) (arg3 : Memref sig .tc .vmem S512x2560 .i8) (harg3 : arg3.IsWhole) (arg4 : Memref sig .tc .vmem S512x1 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S512x2560 .f32) (harg7 : arg7.IsWhole)
    (x0 : Vec F S512x2560 .bf16) (x1 : Vec F S1x2560x2560 .bf16) (y : S1x1x512.Idx) :
    ∃ pc ∈ (kernelRun2_A c i arg1 harg1 arg2 harg2 arg3 harg3 arg4 harg4 arg5 harg5 arg6 harg6 arg7 harg7 x0 x1).2.2.1, y ∈ pc.1.set :=
  View.cover_of_tiledL (kernelRun2_A c i arg1 harg1 arg2 harg2 arg3 harg3 arg4 harg4 arg5 harg5 arg6 harg6 arg7 harg7 x0 x1).2.2.1 S1x1x64.size (by sl_kernel_rfl) y

/-- What the run leaves in output 4's staging buffer: its pieces read back over junk. -/
def out2_A_4 (c : Dev nD) (i : grid2.Coords) (arg1 : Memref sig .tc .vmem S512x2560 .bf16) (harg1 : arg1.IsWhole) (arg2 : Memref sig .tc .vmem S1x2560x2560 .bf16) (harg2 : arg2.IsWhole) (arg3 : Memref sig .tc .vmem S512x2560 .i8) (harg3 : arg3.IsWhole) (arg4 : Memref sig .tc .vmem S512x1 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S512x2560 .f32) (harg7 : arg7.IsWhole)
    (x0 : Vec F S512x2560 .bf16) (x1 : Vec F S1x2560x2560 .bf16) : Vec F S1x1x512 .f32 :=
  VO2_4.read (Elt F) (VO2_4.writes (Elt F) VO2_4.junk (kernelRun2_A c i arg1 harg1 arg2 harg2 arg3 harg3 arg4 harg4 arg5 harg5 arg6 harg6 arg7 harg7 x0 x1).2.2.1)

/-- The run's pieces for output 5 tile its block (8 stores of `S1x1x64`, checked by the kernel's evaluation: Lib/Ring.lean `Piece.tiledL`, linear in the pieces, through a loop's `@[irreducible]` trip theorem too), so they cover it. -/
theorem cover2_A_5 (c : Dev nD) (i : grid2.Coords) (arg1 : Memref sig .tc .vmem S512x2560 .bf16) (harg1 : arg1.IsWhole) (arg2 : Memref sig .tc .vmem S1x2560x2560 .bf16) (harg2 : arg2.IsWhole) (arg3 : Memref sig .tc .vmem S512x2560 .i8) (harg3 : arg3.IsWhole) (arg4 : Memref sig .tc .vmem S512x1 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S512x2560 .f32) (harg7 : arg7.IsWhole)
    (x0 : Vec F S512x2560 .bf16) (x1 : Vec F S1x2560x2560 .bf16) (y : S1x1x512.Idx) :
    ∃ pc ∈ (kernelRun2_A c i arg1 harg1 arg2 harg2 arg3 harg3 arg4 harg4 arg5 harg5 arg6 harg6 arg7 harg7 x0 x1).2.2.2.1, y ∈ pc.1.set :=
  View.cover_of_tiledL (kernelRun2_A c i arg1 harg1 arg2 harg2 arg3 harg3 arg4 harg4 arg5 harg5 arg6 harg6 arg7 harg7 x0 x1).2.2.2.1 S1x1x64.size (by sl_kernel_rfl) y

/-- What the run leaves in output 5's staging buffer: its pieces read back over junk. -/
def out2_A_5 (c : Dev nD) (i : grid2.Coords) (arg1 : Memref sig .tc .vmem S512x2560 .bf16) (harg1 : arg1.IsWhole) (arg2 : Memref sig .tc .vmem S1x2560x2560 .bf16) (harg2 : arg2.IsWhole) (arg3 : Memref sig .tc .vmem S512x2560 .i8) (harg3 : arg3.IsWhole) (arg4 : Memref sig .tc .vmem S512x1 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S512x2560 .f32) (harg7 : arg7.IsWhole)
    (x0 : Vec F S512x2560 .bf16) (x1 : Vec F S1x2560x2560 .bf16) : Vec F S1x1x512 .f32 :=
  VO2_5.read (Elt F) (VO2_5.writes (Elt F) VO2_5.junk (kernelRun2_A c i arg1 harg1 arg2 harg2 arg3 harg3 arg4 harg4 arg5 harg5 arg6 harg6 arg7 harg7 x0 x1).2.2.2.1)

/-! ## What the outputs hold after each point -/

/-- What the outputs' staging buffers hold after the body at point `t` (as a tuple, in window order): the run's contents at
    the point's memrefs and input blocks. -/
def outsAt2 (c : Dev nD) (t : Fin cfg2.N) : Vec F S512x2560 .i8 × Vec F S512x1 .f32 × Vec F S1x1x512 .f32 × Vec F S1x1x512 .f32 :=
  (out2_A_2 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (iblk2 V c 0 t) (iblk2 V c 1 t), out2_A_3 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (iblk2 V c 0 t) (iblk2 V c 1 t), out2_A_4 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (iblk2 V c 0 t) (iblk2 V c 1 t), out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (iblk2 V c 0 t) (iblk2 V c 1 t))

/-! ## The pipeline's proof data -/

/-- The proof data of pipeline 2 on core `c`: the arrays as the region finds them (`V`); after the body at
    point `t` each input's buffer at its block and the outputs' at `outsAt2`; the invariant the class's
    (Lib/Pipeline/Frame.lean `ΦA`: the scoped rest and the generator register); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t).1
    | ⟨3, _⟩ => (outsAt2 V c t).2.1
    | ⟨4, _⟩ => (outsAt2 V c t).2.2.1
    | ⟨5, _⟩ => (outsAt2 V c t).2.2.2
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t).1 := by dsimp only [dat2]
theorem after2_3 (c : Dev nD) (t : Fin cfg2.N) : (dat2 V c).after 3 t = (outsAt2 V c t).2.1 := by dsimp only [dat2]
theorem after2_4 (c : Dev nD) (t : Fin cfg2.N) : (dat2 V c).after 4 t = (outsAt2 V c t).2.2.1 := by dsimp only [dat2]
theorem after2_5 (c : Dev nD) (t : Fin cfg2.N) : (dat2 V c).after 5 t = (outsAt2 V c t).2.2.2 := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t))

/-- The body at any point: the inputs' memrefs hold their blocks (`before2_W`); so the
    run applies; the invariant hands the body its scratch buffers at some contents (and the generator register) and takes them back at some contents (`PhiA_eq`); the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2, after2_3, after2_4, after2_5]
  rw [show (dat2 V c).Φ t.castSucc = Pipeline.ΦA spec2 c from rfl, PhiA2_eq]
  unfold outsAt2
  unfold out2_A_2 out2_A_3 out2_A_4 out2_A_5; (try dsimp only)
  iintro ⟨⟨⟨HS0, HR1⟩, Hg⟩, Ho, ⟨%d0, H0⟩, ⟨%d1, H1⟩, ⟨%d2, H2⟩, ⟨%d3, H3⟩, ⟨%d4, H4⟩, ⟨%d5, H5⟩⟩
  iapply ((kernelRun2_A c (grid2.coords t) _ _ _ _ _ _ _ _ _ _ _ _ _ _ (iblk2 V c 0 t) (iblk2 V c 1 t)).2.2.2.2.2 Set.univ _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [HS0]; · iexact HS0
  iintro ⟨H0, H1, ⟨%e2, H2⟩, ⟨%e3, H3⟩, ⟨%e4, H4⟩, ⟨%e5, H5⟩, ⟨%fT0, HS0⟩⟩
  isplitl [HS0 HR1 Hg]
  · isplitl [HS0 HR1]
    · isplitl [HS0]
      · iexists _; unfold owns; iexists _; isplitr
        swap; · iexact HS0
        ipureintro; rfl
      iexact HR1
    iexact Hg
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover2_A_2 c _ _ _ _ _ _ _ _ _ _ _ _ _ _ _ _ _)
  isplitl [H3]
  · unfold owns; iexists _; isplitr
    swap; · iexact H3
    ipureintro; exact View.read_writes_of_cover _ _ _ _ _ (cover2_A_3 c _ _ _ _ _ _ _ _ _ _ _ _ _ _ _ _ _)
  isplitl [H4]
  · unfold owns; iexists _; isplitr
    swap; · iexact H4
    ipureintro; exact View.read_writes_of_cover _ _ _ _ _ (cover2_A_4 c _ _ _ _ _ _ _ _ _ _ _ _ _ _ _ _ _)
  unfold owns; iexists _; isplitr
  swap; · iexact H5
  ipureintro; exact View.read_writes_of_cover _ _ _ _ _ (cover2_A_5 c _ _ _ _ _ _ _ _ _ _ _ _ _ _ _ _ _)

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.KernelIdeal.Gen

end
-- ==== Proof.Frame.Region3.lean ====
/- pallas_call 3 (`fwd_bwd`) at any entry contents `V`: its windows' blocks, the run of its body in each case of its
   conditionals, what the body leaves in each buffer, the proof data `dat3` and the body's obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 3 of @main: custom_call 3, `cc3_fwd_bwd` (pipeline 3), at the entry contents `V` —   -/

/-! ## The windows' blocks -/

/-- Window `w`'s block at point `t`, read off its array as the region finds it (`V`). -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch conditions -/

/-- The condition of the body's `scf.if` 0 (`k3_h1`), from the grid coordinates (the skeleton's scalar
    chain substituted). -/
abbrev cond3_0 (i : grid3.Coords) : Prop := (Scalar.cmpi .ne (Scalar.extui (Scalar.cmpi .eq (BitVec.ofNat 32 (i 0).val) 0#32)) 0#32) = 1#1
/-- It holds at the first point only — by arithmetic of the point. -/
theorem hcond3_0 : ∀ t : Fin cfg3.N, cond3_0 (grid3.coords t) ↔ t.val % 72 = 0 :=
  (fun t => by
    have ht : t.val < 72 := Nat.lt_of_lt_of_eq t.isLt N_3
    have e0 : (grid3.coords t 0).val = t.val / 1 % 72 := Pipeline.Grid.coords_val t 0 (by decide) rfl
    simp only [cond3_0, e0]
    word_cmp
   : ∀ t : Fin grid3.N, cond3_0 (grid3.coords t) ↔ t.val % 72 = 0)

/-- The condition of the body's `scf.if` 1 (`k3_h2`), from the grid coordinates (the skeleton's scalar
    chain substituted). -/
abbrev cond3_1 (i : grid3.Coords) : Prop := k3_cond2 i = 1#1
/-- It holds at the last point only — by arithmetic of the point. -/
theorem hcond3_1 : ∀ t : Fin cfg3.N, cond3_1 (grid3.coords t) ↔ t.val % 72 = 71 :=
  (fun t => by
    have ht : t.val < 72 := Nat.lt_of_lt_of_eq t.isLt N_3
    have e0 : (grid3.coords t 0).val = t.val / 1 % 72 := Pipeline.Grid.coords_val t 0 (by decide) rfl
    simp only [cond3_1, k3_cond2, e0]
    word_cmp
   : ∀ t : Fin grid3.N, cond3_1 (grid3.coords t) ↔ t.val % 72 = 71)

/-! ## Where the windows are idle (the printed configuration's table `Cfg.idle`) -/

/-- Window 0 is never idle (an input). -/
theorem liveAt3_0 : ∀ t : Fin cfg3.N, cfg3.idle 0 (grid3.coords t) = false := fun _ => rfl
/-- Window 1 is never idle (an input). -/
theorem liveAt3_1 : ∀ t : Fin cfg3.N, cfg3.idle 1 (grid3.coords t) = false := fun _ => rfl
/-- Window 2 is never idle (an input). -/
theorem liveAt3_2 : ∀ t : Fin cfg3.N, cfg3.idle 2 (grid3.coords t) = false := fun _ => rfl
/-- Window 3 is never idle (an input). -/
theorem liveAt3_3 : ∀ t : Fin cfg3.N, cfg3.idle 3 (grid3.coords t) = false := fun _ => rfl
/-- Window 4 is never idle (an input). -/
theorem liveAt3_4 : ∀ t : Fin cfg3.N, cfg3.idle 4 (grid3.coords t) = false := fun _ => rfl
/-- Window 5 is never idle (an output stored at every point, under no condition). -/
theorem liveAt3_5 : ∀ t : Fin cfg3.N, cfg3.idle 5 (grid3.coords t) = false := fun _ => rfl
/-- Window 6 is never idle (an output stored at every point, under no condition). -/
theorem liveAt3_6 : ∀ t : Fin cfg3.N, cfg3.idle 6 (grid3.coords t) = false := fun _ => rfl
/-- Window 8 is never idle (an output stored at every point, under no condition). -/
theorem liveAt3_8 : ∀ t : Fin cfg3.N, cfg3.idle 8 (grid3.coords t) = false := fun _ => rfl
/-- At the points of case A the printed configuration (`Cfg.idle`) calls output 7 idle: the case stores nothing into it. -/
theorem idleAt3_7_A : ∀ t : Fin cfg3.N, cond3_0 (grid3.coords t) → ¬cond3_1 (grid3.coords t) → cfg3.idle 7 (grid3.coords t) = true := by decide +kernel
/-- At the points of case A the pipeline does not write output 7's block back. -/
theorem noFlush3_7_A : ∀ t : Fin cfg3.N, cond3_0 (grid3.coords t) → ¬cond3_1 (grid3.coords t) → (cfg3.win 7).flush t = false := by decide +kernel
/-- At the points of case B the printed configuration (`Cfg.idle`) calls output 7 idle: the case stores nothing into it. -/
theorem idleAt3_7_B : ∀ t : Fin cfg3.N, ¬cond3_0 (grid3.coords t) → ¬cond3_1 (grid3.coords t) → cfg3.idle 7 (grid3.coords t) = true := by decide +kernel
/-- At the points of case B the pipeline does not write output 7's block back. -/
theorem noFlush3_7_B : ∀ t : Fin cfg3.N, ¬cond3_0 (grid3.coords t) → ¬cond3_1 (grid3.coords t) → (cfg3.win 7).flush t = false := by decide +kernel
/-- At the points of case C the printed configuration (`Cfg.idle`) calls output 7 live: the case stores into it. -/
theorem liveAt3_7_C : ∀ t : Fin cfg3.N, ¬cond3_0 (grid3.coords t) → cond3_1 (grid3.coords t) → cfg3.idle 7 (grid3.coords t) = false := by decide +kernel

/-! ## The kernel body on any staging memrefs: a subtype the run finds -/

/-- One staging buffer of output window 5, through which its contents are stated (`View.read_writes_of_cover`: the
    choice does not matter). -/
abbrev VO3_5 : View sig .tc .vmem S1x1536x256 .f32 := (Memref.whole cc3_stg5_0 : Memref sig .tc .vmem S1x1536x256 .f32).view
/-- One staging buffer of output window 6, through which its contents are stated (`View.read_writes_of_cover`: the
    choice does not matter). -/
abbrev VO3_6 : View sig .tc .vmem S256x2560 .bf16 := (Memref.whole cc3_stg6_0 : Memref sig .tc .vmem S256x2560 .bf16).view
/-- One staging buffer of output window 7, through which its contents are stated (`View.read_writes_of_cover`: the
    choice does not matter). -/
abbrev VO3_7 : View sig .tc .vmem S1536x2560 .bf16 := (Memref.whole cc3_stg7_0 : Memref sig .tc .vmem S1536x2560 .bf16).view
/-- One staging buffer of output window 8, through which its contents are stated (`View.read_writes_of_cover`: the
    choice does not matter). -/
abbrev VO3_8 : View sig .tc .vmem S8x256 .f32 := (Memref.whole cc3_stg8_0 : Memref sig .tc .vmem S8x256 .f32).view
/-- Each window's current staging memref at point `t`, spelled as the pipeline passes it (`bodyAt3`), and its wholeness. -/
abbrev ms3_0 (t : Fin cfg3.N) : Memref sig .tc .vmem S1536x2560 .i8 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1536x1 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S256x2560 .i8 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x1x256 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x1536x256 .bf16 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1x1536x256 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S256x2560 .bf16 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S1536x2560 .bf16 := win3_7.stage (cfg3.slots t 7)
abbrev hs3_7 (t : Fin cfg3.N) : (ms3_7 t).IsWhole := hstage3_7 ((cfg3.slots t 7).cast nbuf3_7)
abbrev ms3_8 (t : Fin cfg3.N) : Memref sig .tc .vmem S8x256 .f32 := win3_8.stage (cfg3.slots t 8)
abbrev hs3_8 (t : Fin cfg3.N) : (ms3_8 t).IsWhole := hstage3_8 ((cfg3.slots t 8).cast nbuf3_8)
/-- The scratch operands: whole scoped buffers of the kernel's own, passed beside the windows. -/
abbrev scM3_0 : Memref sig .tc .vmem S1536x2560 .bf16 := Memref.whole cc3_scratch0
abbrev scM3_1 : Memref sig .tc .vmem S1536x2560 .f32 := Memref.whole cc3_scratch1
/-- The scratch `arg10` the kernel carries between points, as a view: what it holds is stated through it. -/
abbrev VS3_0 : View sig .tc .vmem S1536x2560 .bf16 := scM3_0.view
/-- The scratch `arg11` the kernel carries between points, as a view: what it holds is stated through it. -/
abbrev VS3_1 : View sig .tc .vmem S1536x2560 .f32 := scM3_1.view

/-- `Gen.scopedRest3_split` as ONE chain: the kernel's own scratch buffers, each whole at some contents, then every
    other scoped buffer, unopened (`Pipeline.scopedRestBut`). -/
theorem scopedRest3_flat (c : Dev nD) :
    (Pipeline.scopedRest spec3 c : sProp 𝕄)
      = iprop((∃ f : Buf (Elt F) ((c : Thread nD τ).loc cc3_scratch0), ((c : Thread nD τ).loc cc3_scratch0) ↦{fullShare} f) ∗ (∃ f : Buf (Elt F) ((c : Thread nD τ).loc cc3_scratch1), ((c : Thread nD τ).loc cc3_scratch1) ↦{fullShare} f) ∗ Pipeline.scopedRestBut spec3 c [cc3_scratch0, cc3_scratch1]) := by
  have assoc : ∀ P Q R : sProp 𝕄, iprop((P ∗ Q) ∗ R) = iprop(P ∗ Q ∗ R) :=
    fun _ _ _ => Idealize.SL.BI.Entails.antisymm Idealize.SL.BI.sep_assoc Idealize.SL.BI.sep_assoc'
  rw [scopedRest3_split, assoc]

/-- The frame kit's invariant with the scratch operands as memrefs owned at some contents (`Gen.scopedRest3_flat`,
    Lib/Memref.lean `owns_whole`): what the body obligation hands the run and takes back. -/
theorem PhiA3_eq (c : Dev nD) :
    (Pipeline.ΦA spec3 c : sProp 𝕄)
      = iprop(iprop((∃ d, owns (c : Thread nD τ) scM3_0 fullShare d) ∗ (∃ d, owns (c : Thread nD τ) scM3_1 fullShare d) ∗ Pipeline.scopedRestBut spec3 c [cc3_scratch0, cc3_scratch1]) ∗ (∃ r, prngReg c r)) := by
  unfold Pipeline.ΦA; rw [scopedRest3_flat]; simp only [scM3_0, scM3_1, owns_whole]; try rfl

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the outputs it leaves idle (7: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun3_A (c : Dev nD) (i : grid3.Coords) (arg1 : Memref sig .tc .vmem S1536x2560 .i8) (harg1 : arg1.IsWhole) (arg2 : Memref sig .tc .vmem S1536x1 .f32) (harg2 : arg2.IsWhole) (arg3 : Memref sig .tc .vmem S256x2560 .i8) (harg3 : arg3.IsWhole) (arg4 : Memref sig .tc .vmem S1x1x256 .f32) (harg4 : arg4.IsWhole) (arg5 : Memref sig .tc .vmem S1x1536x256 .bf16) (harg5 : arg5.IsWhole) (arg6 : Memref sig .tc .vmem S1x1536x256 .f32) (harg6 : arg6.IsWhole) (arg7 : Memref sig .tc .vmem S256x2560 .bf16) (harg7 : arg7.IsWhole) (arg8 : Memref sig .tc .vmem S1536x2560 .bf16) (harg8 : arg8.IsWhole) (arg9 : Memref sig .tc .vmem S8x256 .f32) (harg9 : arg9.IsWhole) (arg10 : Memref sig .tc .vmem S1536x2560 .bf16) (harg10 : arg10.IsWhole) (arg11 : Memref sig .tc .vmem S1536x2560 .f32) (harg11 : arg11.IsWhole) (hc0 : cond3_0 i) (hc1 : ¬cond3_1 i)
    (x0 : Vec F S1536x2560 .i8) (x1 : Vec F S1536x1 .f32) (x2 : Vec F S256x2560 .i8) (x3 : Vec F S1x1x256 .f32) (x4 : Vec F S1x1536x256 .bf16) :
    Σ' (L5 : List (View.Piece (Elt F) S1x1536x256 .f32)), Σ' (L6 : List (View.Piece (Elt F) S256x2560 .bf16)), Σ' (L7 : List (View.Piece (Elt F) S1536x2560 .bf16)), Σ' (L8 : List (View.Piece (Elt F) S8x256 .f32)), Σ' (LS0 : List (View.Piece (Elt F) S1536x2560 .bf16)), { LS1 : List (View.Piece (Elt F) S1536x2560 .f32) //
      ∀ (xi7 : Vec F S1536x2560 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare xi7 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ owns (c : Thread nD τ) arg8 fullShare xi7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc3_fwd_bwd i arg1 harg1 arg2 harg2 arg3 harg3 arg4 harg4 arg5 harg5 arg6 harg6 arg7 harg7 arg8 harg8 arg9 harg9 arg10 harg10 arg11 harg11) K } := by
  refine ⟨?_, ?_, [], ?_, ?_, ?_, fun xi7 E K => ?run⟩
  case run =>
    simp only [cc3_fwd_bwd_eq_skeleton]; unfold cc3_fwd_bwd_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%d8, %f8, -, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg8.eq_unread hf7
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]
    · iexists _; isplitr; · ipureintro; exact harg8.read_unread _
      iexact H7
    isplitl [H8]; · iexists _; iexact H8
    isplitl [HS0]; · iexists _; iexact HS0
    iexists _; iexact HS1

/-- Case A's pieces for output 5 tile its block (1 store of `S1x1536x256`, checked by the kernel's evaluation: Lib/Ring.lean `Piece.tiledL`, linear in the pieces, through a loop's `@[irreducible]` trip theorem too), so they cover it. -/
theorem cover3_A_5 (c : Dev nD) (i : grid3.Coords) (arg1 : Memref sig .tc .vmem S1536x2560 .i8) (harg1 : arg1.IsWhole) (arg2 : Memref sig .tc .vmem S1536x1 .f32) (harg2 : arg2.IsWhole) (arg3 : Memref sig .tc .vmem S256x2560 .i8) (harg3 : arg3.IsWhole) (arg4 : Memref sig .tc .vmem S1x1x256 .f32) (harg4 : arg4.IsWhole) (arg5 : Memref sig .tc .vmem S1x1536x256 .bf16) (harg5 : arg5.IsWhole) (arg6 : Memref sig .tc .vmem S1x1536x256 .f32) (harg6 : arg6.IsWhole) (arg7 : Memref sig .tc .vmem S256x2560 .bf16) (harg7 : arg7.IsWhole) (arg8 : Memref sig .tc .vmem S1536x2560 .bf16) (harg8 : arg8.IsWhole) (arg9 : Memref sig .tc .vmem S8x256 .f32) (harg9 : arg9.IsWhole) (arg10 : Memref sig .tc .vmem S1536x2560 .bf16) (harg10 : arg10.IsWhole) (arg11 : Memref sig .tc .vmem S1536x2560 .f32) (harg11 : arg11.IsWhole) (hc0 : cond3_0 i) (hc1 : ¬cond3_1 i)
    (x0 : Vec F S1536x2560 .i8) (x1 : Vec F S1536x1 .f32) (x2 : Vec F S256x2560 .i8) (x3 : Vec F S1x1x256 .f32) (x4 : Vec F S1x1536x256 .bf16) (y : S1x1536x256.Idx) :
    ∃ pc ∈ (kernelRun3_A c i arg1 harg1 arg2 harg2 arg3 harg3 arg4 harg4 arg5 harg5 arg6 harg6 arg7 harg7 arg8 harg8 arg9 harg9 arg10 harg10 arg11 harg11 hc0 hc1 x0 x1 x2 x3 x4).1, y ∈ pc.1.set :=
  View.cover_of_tiledL (kernelRun3_A c i arg1 harg1 arg2 harg2 arg3 harg3 arg4 harg4 arg5 harg5 arg6 harg6 arg7 harg7 arg8 harg8 arg9 harg9 arg10 harg10 arg11 harg11 hc0 hc1 x0 x1 x2 x3 x4).1 S1x1536x256.size (by sl_kernel_rfl) y

/-- What case A leaves in output 5's staging buffer: its pieces read back over junk. -/
def out3_A_5 (c : Dev nD) (i : grid3.Coords) (arg1 : Memref sig .tc .vmem S1536x2560 .i8) (harg1 : arg1.IsWhole) (arg2 : Memref sig .tc .vmem S1536x1 .f32) (harg2 : arg2.IsWhole) (arg3 : Memref sig .tc .vmem S256x2560 .i8) (harg3 : arg3.IsWhole) (arg4 : Memref sig .tc .vmem S1x1x256 .f32) (harg4 : arg4.IsWhole) (arg5 : Memref sig .tc .vmem S1x1536x256 .bf16) (harg5 : arg5.IsWhole) (arg6 : Memref sig .tc .vmem S1x1536x256 .f32) (harg6 : arg6.IsWhole) (arg7 : Memref sig .tc .vmem S256x2560 .bf16) (harg7 : arg7.IsWhole) (arg8 : Memref sig .tc .vmem S1536x2560 .bf16) (harg8 : arg8.IsWhole) (arg9 : Memref sig .tc .vmem S8x256 .f32) (harg9 : arg9.IsWhole) (arg10 : Memref sig .tc .vmem S1536x2560 .bf16) (harg10 : arg10.IsWhole) (arg11 : Memref sig .tc .vmem S1536x2560 .f32) (harg11 : arg11.IsWhole) (hc0 : cond3_0 i) (hc1 : ¬cond3_1 i)
    (x0 : Vec F S1536x2560 .i8) (x1 : Vec F S1536x1 .f32) (x2 : Vec F S256x2560 .i8) (x3 : Vec F S1x1x256 .f32) (x4 : Vec F S1x1536x256 .bf16) : Vec F S1x1536x256 .f32 :=
  VO3_5.read (Elt F) (VO3_5.writes (Elt F) VO3_5.junk (kernelRun3_A c i arg1 harg1 arg2 harg2 arg3 harg3 arg4 harg4 arg5 harg5 arg6 harg6 arg7 harg7 arg8 harg8 arg9 harg9 arg10 harg10 arg11 harg11 hc0 hc1 x0 x1 x2 x3 x4).1)

/-- Case A's pieces for output 6 tile its block (1 store of `S256x2560`, checked by the kernel's evaluation: Lib/Ring.lean `Piece.tiledL`, linear in the pieces, through a loop's `@[irreducible]` trip theorem too), so they cover it. -/
theorem cover3_A_6 (c : Dev nD) (i : grid3.Coords) (arg1 : Memref sig .tc .vmem S1536x2560 .i8) (harg1 : arg1.IsWhole) (arg2 : Memref sig .tc .vmem S1536x1 .f32) (harg2 : arg2.IsWhole) (arg3 : Memref sig .tc .vmem S256x2560 .i8) (harg3 : arg3.IsWhole) (arg4 : Memref sig .tc .vmem S1x1x256 .f32) (harg4 : arg4.IsWhole) (arg5 : Memref sig .tc .vmem S1x1536x256 .bf16) (harg5 : arg5.IsWhole) (arg6 : Memref sig .tc .vmem S1x1536x256 .f32) (harg6 : arg6.IsWhole) (arg7 : Memref sig .tc .vmem S256x2560 .bf16) (harg7 : arg7.IsWhole) (arg8 : Memref sig .tc .vmem S1536x2560 .bf16) (harg8 : arg8.IsWhole) (arg9 : Memref sig .tc .vmem S8x256 .f32) (harg9 : arg9.IsWhole) (arg10 : Memref sig .tc .vmem S1536x2560 .bf16) (harg10 : arg10.IsWhole) (arg11 : Memref sig .tc .vmem S1536x2560 .f32) (harg11 : arg11.IsWhole) (hc0 : cond3_0 i) (hc1 : ¬cond3_1 i)
    (x0 : Vec F S1536x2560 .i8) (x1 : Vec F S1536x1 .f32) (x2 : Vec F S256x2560 .i8) (x3 : Vec F S1x1x256 .f32) (x4 : Vec F S1x1536x256 .bf16) (y : S256x2560.Idx) :
    ∃ pc ∈ (kernelRun3_A c i arg1 harg1 arg2 harg2 arg3 harg3 arg4 harg4 arg5 harg5 arg6 harg6 arg7 harg7 arg8 harg8 arg9 harg9 arg10 harg10 arg11 harg11 hc0 hc1 x0 x1 x2 x3 x4).2.1, y ∈ pc.1.set :=
  View.cover_of_tiledL (kernelRun3_A c i arg1 harg1 arg2 harg2 arg3 harg3 arg4 harg4 arg5 harg5 arg6 harg6 arg7 harg7 arg8 harg8 arg9 harg9 arg10 harg10 arg11 harg11 hc0 hc1 x0 x1 x2 x3 x4).2.1 S256x2560.size (by sl_kernel_rfl) y

/-- What case A leaves in output 6's staging buffer: its pieces read back over junk. -/
def out3_A_6 (c : Dev nD) (i : grid3.Coords) (arg1 : Memref sig .tc .vmem S1536x2560 .i8) (harg1 : arg1.IsWhole) (arg2 : Memref sig .tc .vmem S1536x1 .f32) (harg2 : arg2.IsWhole) (arg3 : Memref sig .tc .vmem S256x2560 .i8) (harg3 : arg3.IsWhole) (arg4 : Memref sig .tc .vmem S1x1x256 .f32) (harg4 : arg4.IsWhole) (arg5 : Memref sig .tc .vmem S1x1536x256 .bf16) (harg5 : arg5.IsWhole) (arg6 : Memref sig .tc .vmem S1x1536x256 .f32) (harg6 : arg6.IsWhole) (arg7 : Memref sig .tc .vmem S256x2560 .bf16) (harg7 : arg7.IsWhole) (arg8 : Memref sig .tc .vmem S1536x2560 .bf16) (harg8 : arg8.IsWhole) (arg9 : Memref sig .tc .vmem S8x256 .f32) (harg9 : arg9.IsWhole) (arg10 : Memref sig .tc .vmem S1536x2560 .bf16) (harg10 : arg10.IsWhole) (arg11 : Memref sig .tc .vmem S1536x2560 .f32) (harg11 : arg11.IsWhole) (hc0 : cond3_0 i) (hc1 : ¬cond3_1 i)
    (x0 : Vec F S1536x2560 .i8) (x1 : Vec F S1536x1 .f32) (x2 : Vec F S256x2560 .i8) (x3 : Vec F S1x1x256 .f32) (x4 : Vec F S1x1536x256 .bf16) : Vec F S256x2560 .bf16 :=
  VO3_6.read (Elt F) (VO3_6.writes (Elt F) VO3_6.junk (kernelRun3_A c i arg1 harg1 arg2 harg2 arg3 harg3 arg4 harg4 arg5 harg5 arg6 harg6 arg7 harg7 arg8 harg8 arg9 harg9 arg10 harg10 arg11 harg11 hc0 hc1 x0 x1 x2 x3 x4).2.1)

/-- Case A stores nothing into output 7 (the window is idle at its points and not written back there):
    no pieces — a placeholder (junk read back) that nothing consults, since at these points the window is neither
    written back nor read at the next point (Lib/Pipeline.lean "Idle points"). -/
def out3_A_7 (c : Dev nD) (i : grid3.Coords) (arg1 : Memref sig .tc .vmem S1536x2560 .i8) (harg1 : arg1.IsWhole) (arg2 : Memref sig .tc .vmem S1536x1 .f32) (harg2 : arg2.IsWhole) (arg3 : Memref sig .tc .vmem S256x2560 .i8) (harg3 : arg3.IsWhole) (arg4 : Memref sig .tc .vmem S1x1x256 .f32) (harg4 : arg4.IsWhole) (arg5 : Memref sig .tc .vmem S1x1536x256 .bf16) (harg5 : arg5.IsWhole) (arg6 : Memref sig .tc .vmem S1x1536x256 .f32) (harg6 : arg6.IsWhole) (arg7 : Memref sig .tc .vmem S256x2560 .bf16) (harg7 : arg7.IsWhole) (arg8 : Memref sig .tc .vmem S1536x2560 .bf16) (harg8 : arg8.IsWhole) (arg9 : Memref sig .tc .vmem S8x256 .f32) (harg9 : arg9.IsWhole) (arg10 : Memref sig .tc .vmem S1536x2560 .bf16) (harg10 : arg10.IsWhole) (arg11 : Memref sig .tc .vmem S1536x2560 .f32) (harg11 : arg11.IsWhole) (hc0 : cond3_0 i) (hc1 : ¬cond3_1 i)
    (x0 : Vec F S1536x2560 .i8) (x1 : Vec F S1536x1 .f32) (x2 : Vec F S256x2560 .i8) (x3 : Vec F S1x1x256 .f32) (x4 : Vec F S1x1536x256 .bf16) : Vec F S1536x2560 .bf16 :=
  VO3_7.read (Elt F) (VO3_7.writes (Elt F) VO3_7.junk (kernelRun3_A c i arg1 harg1 arg2 harg2 arg3 harg3 arg4 harg4 arg5 harg5 arg6 harg6 arg7 harg7 arg8 harg8 arg9 harg9 arg10 harg10 arg11 harg11 hc0 hc1 x0 x1 x2 x3 x4).2.2.1)

/-- Case A's pieces for output 8 tile its block (2 stores of `S8x256`, checked by the kernel's evaluation: Lib/Ring.lean `Piece.tiledL`, linear in the pieces, through a loop's `@[irreducible]` trip theorem too), so they cover it. -/
theorem cover3_A_8 (c : Dev nD) (i : grid3.Coords) (arg1 : Memref sig .tc .vmem S1536x2560 .i8) (harg1 : arg1.IsWhole) (arg2 : Memref sig .tc .vmem S1536x1 .f32) (harg2 : arg2.IsWhole) (arg3 : Memref sig .tc .vmem S256x2560 .i8) (harg3 : arg3.IsWhole) (arg4 : Memref sig .tc .vmem S1x1x256 .f32) (harg4 : arg4.IsWhole) (arg5 : Memref sig .tc .vmem S1x1536x256 .bf16) (harg5 : arg5.IsWhole) (arg6 : Memref sig .tc .vmem S1x1536x256 .f32) (harg6 : arg6.IsWhole) (arg7 : Memref sig .tc .vmem S256x2560 .bf16) (harg7 : arg7.IsWhole) (arg8 : Memref sig .tc .vmem S1536x2560 .bf16) (harg8 : arg8.IsWhole) (arg9 : Memref sig .tc .vmem S8x256 .f32) (harg9 : arg9.IsWhole) (arg10 : Memref sig .tc .vmem S1536x2560 .bf16) (harg10 : arg10.IsWhole) (arg11 : Memref sig .tc .vmem S1536x2560 .f32) (harg11 : arg11.IsWhole) (hc0 : cond3_0 i) (hc1 : ¬cond3_1 i)
    (x0 : Vec F S1536x2560 .i8) (x1 : Vec F S1536x1 .f32) (x2 : Vec F S256x2560 .i8) (x3 : Vec F S1x1x256 .f32) (x4 : Vec F S1x1536x256 .bf16) (y : S8x256.Idx) :
    ∃ pc ∈ (kernelRun3_A c i arg1 harg1 arg2 harg2 arg3 harg3 arg4 harg4 arg5 harg5 arg6 harg6 arg7 harg7 arg8 harg8 arg9 harg9 arg10 harg10 arg11 harg11 hc0 hc1 x0 x1 x2 x3 x4).2.2.2.1, y ∈ pc.1.set :=
  View.cover_of_tiledL (kernelRun3_A c i arg1 harg1 arg2 harg2 arg3 harg3 arg4 harg4 arg5 harg5 arg6 harg6 arg7 harg7 arg8 harg8 arg9 harg9 arg10 harg10 arg11 harg11 hc0 hc1 x0 x1 x2 x3 x4).2.2.2.1 S8x256.size (by sl_kernel_rfl) y

/-- What case A leaves in output 8's staging buffer: its pieces read back over junk. -/
def out3_A_8 (c : Dev nD) (i : grid3.Coords) (arg1 : Memref sig .tc .vmem S1536x2560 .i8) (harg1 : arg1.IsWhole) (arg2 : Memref sig .tc .vmem S1536x1 .f32) (harg2 : arg2.IsWhole) (arg3 : Memref sig .tc .vmem S256x2560 .i8) (harg3 : arg3.IsWhole) (arg4 : Memref sig .tc .vmem S1x1x256 .f32) (harg4 : arg4.IsWhole) (arg5 : Memref sig .tc .vmem S1x1536x256 .bf16) (harg5 : arg5.IsWhole) (arg6 : Memref sig .tc .vmem S1x1536x256 .f32) (harg6 : arg6.IsWhole) (arg7 : Memref sig .tc .vmem S256x2560 .bf16) (harg7 : arg7.IsWhole) (arg8 : Memref sig .tc .vmem S1536x2560 .bf16) (harg8 : arg8.IsWhole) (arg9 : Memref sig .tc .vmem S8x256 .f32) (harg9 : arg9.IsWhole) (arg10 : Memref sig .tc .vmem S1536x2560 .bf16) (harg10 : arg10.IsWhole) (arg11 : Memref sig .tc .vmem S1536x2560 .f32) (harg11 : arg11.IsWhole) (hc0 : cond3_0 i) (hc1 : ¬cond3_1 i)
    (x0 : Vec F S1536x2560 .i8) (x1 : Vec F S1536x1 .f32) (x2 : Vec F S256x2560 .i8) (x3 : Vec F S1x1x256 .f32) (x4 : Vec F S1x1536x256 .bf16) : Vec F S8x256 .f32 :=
  VO3_8.read (Elt F) (VO3_8.writes (Elt F) VO3_8.junk (kernelRun3_A c i arg1 harg1 arg2 harg2 arg3 harg3 arg4 harg4 arg5 harg5 arg6 harg6 arg7 harg7 arg8 harg8 arg9 harg9 arg10 harg10 arg11 harg11 hc0 hc1 x0 x1 x2 x3 x4).2.2.2.1)

/-- Case A's pieces for scratch `arg10`, which the kernel carries between points, cover it: 1 piece of `S1536x2560` tiling it (Lib/Ring.lean `Piece.tiledL`). -/
theorem scover3_A_0 (c : Dev nD) (i : grid3.Coords) (arg1 : Memref sig .tc .vmem S1536x2560 .i8) (harg1 : arg1.IsWhole) (arg2 : Memref sig .tc .vmem S1536x1 .f32) (harg2 : arg2.IsWhole) (arg3 : Memref sig .tc .vmem S256x2560 .i8) (harg3 : arg3.IsWhole) (arg4 : Memref sig .tc .vmem S1x1x256 .f32) (harg4 : arg4.IsWhole) (arg5 : Memref sig .tc .vmem S1x1536x256 .bf16) (harg5 : arg5.IsWhole) (arg6 : Memref sig .tc .vmem S1x1536x256 .f32) (harg6 : arg6.IsWhole) (arg7 : Memref sig .tc .vmem S256x2560 .bf16) (harg7 : arg7.IsWhole) (arg8 : Memref sig .tc .vmem S1536x2560 .bf16) (harg8 : arg8.IsWhole) (arg9 : Memref sig .tc .vmem S8x256 .f32) (harg9 : arg9.IsWhole) (arg10 : Memref sig .tc .vmem S1536x2560 .bf16) (harg10 : arg10.IsWhole) (arg11 : Memref sig .tc .vmem S1536x2560 .f32) (harg11 : arg11.IsWhole) (hc0 : cond3_0 i) (hc1 : ¬cond3_1 i)
    (x0 : Vec F S1536x2560 .i8) (x1 : Vec F S1536x1 .f32) (x2 : Vec F S256x2560 .i8) (x3 : Vec F S1x1x256 .f32) (x4 : Vec F S1x1536x256 .bf16) (y : S1536x2560.Idx) :
    ∃ pc ∈ (kernelRun3_A c i arg1 harg1 arg2 harg2 arg3 harg3 arg4 harg4 arg5 harg5 arg6 harg6 arg7 harg7 arg8 harg8 arg9 harg9 arg10 harg10 arg11 harg11 hc0 hc1 x0 x1 x2 x3 x4).2.2.2.2.1, y ∈ pc.1.set :=
  View.cover_of_tiledL (kernelRun3_A c i arg1 harg1 arg2 harg2 arg3 harg3 arg4 harg4 arg5 harg5 arg6 harg6 arg7 harg7 arg8 harg8 arg9 harg9 arg10 harg10 arg11 harg11 hc0 hc1 x0 x1 x2 x3 x4).2.2.2.2.1 S1536x2560.size (by sl_kernel_rfl) y

/-- What case A leaves in scratch `arg10`: its pieces read back over junk. -/
def sout3_A_0 (c : Dev nD) (i : grid3.Coords) (arg1 : Memref sig .tc .vmem S1536x2560 .i8) (harg1 : arg1.IsWhole) (arg2 : Memref sig .tc .vmem S1536x1 .f32) (harg2 : arg2.IsWhole) (arg3 : Memref sig .tc .vmem S256x2560 .i8) (harg3 : arg3.IsWhole) (arg4 : Memref sig .tc .vmem S1x1x256 .f32) (harg4 : arg4.IsWhole) (arg5 : Memref sig .tc .vmem S1x1536x256 .bf16) (harg5 : arg5.IsWhole) (arg6 : Memref sig .tc .vmem S1x1536x256 .f32) (harg6 : arg6.IsWhole) (arg7 : Memref sig .tc .vmem S256x2560 .bf16) (harg7 : arg7.IsWhole) (arg8 : Memref sig .tc .vmem S1536x2560 .bf16) (harg8 : arg8.IsWhole) (arg9 : Memref sig .tc .vmem S8x256 .f32) (harg9 : arg9.IsWhole) (arg10 : Memref sig .tc .vmem S1536x2560 .bf16) (harg10 : arg10.IsWhole) (arg11 : Memref sig .tc .vmem S1536x2560 .f32) (harg11 : arg11.IsWhole) (hc0 : cond3_0 i) (hc1 : ¬cond3_1 i)
    (x0 : Vec F S1536x2560 .i8) (x1 : Vec F S1536x1 .f32) (x2 : Vec F S256x2560 .i8) (x3 : Vec F S1x1x256 .f32) (x4 : Vec F S1x1536x256 .bf16) : Vec F S1536x2560 .bf16 :=
  VS3_0.read (Elt F) (VS3_0.writes (Elt F) VS3_0.junk (kernelRun3_A c i arg1 harg1 arg2 harg2 arg3 harg3 arg4 harg4 arg5 harg5 arg6 harg6 arg7 harg7 arg8 harg8 arg9 harg9 arg10 harg10 arg11 harg11 hc0 hc1 x0 x1 x2 x3 x4).2.2.2.2.1)

/-- Case A's pieces for scratch `arg11`, which the kernel carries between points, cover it: 2 pieces of `S1536x2560` tiling it (Lib/Ring.lean `Piece.tiledL`). -/
theorem scover3_A_1 (c : Dev nD) (i : grid3.Coords) (arg1 : Memref sig .tc .vmem S1536x2560 .i8) (harg1 : arg1.IsWhole) (arg2 : Memref sig .tc .vmem S1536x1 .f32) (harg2 : arg2.IsWhole) (arg3 : Memref sig .tc .vmem S256x2560 .i8) (harg3 : arg3.IsWhole) (arg4 : Memref sig .tc .vmem S1x1x256 .f32) (harg4 : arg4.IsWhole) (arg5 : Memref sig .tc .vmem S1x1536x256 .bf16) (harg5 : arg5.IsWhole) (arg6 : Memref sig .tc .vmem S1x1536x256 .f32) (harg6 : arg6.IsWhole) (arg7 : Memref sig .tc .vmem S256x2560 .bf16) (harg7 : arg7.IsWhole) (arg8 : Memref sig .tc .vmem S1536x2560 .bf16) (harg8 : arg8.IsWhole) (arg9 : Memref sig .tc .vmem S8x256 .f32) (harg9 : arg9.IsWhole) (arg10 : Memref sig .tc .vmem S1536x2560 .bf16) (harg10 : arg10.IsWhole) (arg11 : Memref sig .tc .vmem S1536x2560 .f32) (harg11 : arg11.IsWhole) (hc0 : cond3_0 i) (hc1 : ¬cond3_1 i)
    (x0 : Vec F S1536x2560 .i8) (x1 : Vec F S1536x1 .f32) (x2 : Vec F S256x2560 .i8) (x3 : Vec F S1x1x256 .f32) (x4 : Vec F S1x1536x256 .bf16) (y : S1536x2560.Idx) :
    ∃ pc ∈ (kernelRun3_A c i arg1 harg1 arg2 harg2 arg3 harg3 arg4 harg4 arg5 harg5 arg6 harg6 arg7 harg7 arg8 harg8 arg9 harg9 arg10 harg10 arg11 harg11 hc0 hc1 x0 x1 x2 x3 x4).2.2.2.2.2.1, y ∈ pc.1.set :=
  View.cover_of_tiledL (kernelRun3_A c i arg1 harg1 arg2 harg2 arg3 harg3 arg4 harg4 arg5 harg5 arg6 harg6 arg7 harg7 arg8 harg8 arg9 harg9 arg10 harg10 arg11 harg11 hc0 hc1 x0 x1 x2 x3 x4).2.2.2.2.2.1 S1536x2560.size (by sl_kernel_rfl) y

/-- What case A leaves in scratch `arg11`: its pieces read back over junk. -/
def sout3_A_1 (c : Dev nD) (i : grid3.Coords) (arg1 : Memref sig .tc .vmem S1536x2560 .i8) (harg1 : arg1.IsWhole) (arg2 : Memref sig .tc .vmem S1536x1 .f32) (harg2 : arg2.IsWhole) (arg3 : Memref sig .tc .vmem S256x2560 .i8) (harg3 : arg3.IsWhole) (arg4 : Memref sig .tc .vmem S1x1x256 .f32) (harg4 : arg4.IsWhole) (arg5 : Memref sig .tc .vmem S1x1536x256 .bf16) (harg5 : arg5.IsWhole) (arg6 : Memref sig .tc .vmem S1x1536x256 .f32) (harg6 : arg6.IsWhole) (arg7 : Memref sig .tc .vmem S256x2560 .bf16) (harg7 : arg7.IsWhole) (arg8 : Memref sig .tc .vmem S1536x2560 .bf16) (harg8 : arg8.IsWhole) (arg9 : Memref sig .tc .vmem S8x256 .f32) (harg9 : arg9.IsWhole) (arg10 : Memref sig .tc .vmem S1536x2560 .bf16) (harg10 : arg10.IsWhole) (arg11 : Memref sig .tc .vmem S1536x2560 .f32) (harg11 : arg11.IsWhole) (hc0 : cond3_0 i) (hc1 : ¬cond3_1 i)
    (x0 : Vec F S1536x2560 .i8) (x1 : Vec F S1536x1 .f32) (x2 : Vec F S256x2560 .i8) (x3 : Vec F S1x1x256 .f32) (x4 : Vec F S1x1536x256 .bf16) : Vec F S1536x2560 .f32 :=
  VS3_1.read (Elt F) (VS3_1.writes (Elt F) VS3_1.junk (kernelRun3_A c i arg1 harg1 arg2 harg2 arg3 harg3 arg4 harg4 arg5 harg5 arg6 harg6 arg7 harg7 arg8 harg8 arg9 harg9 arg10 harg10 arg11 harg11 hc0 hc1 x0 x1 x2 x3 x4).2.2.2.2.2.1)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 70: 70 of 72), WITH the
    proof that on whole staging memrefs — the inputs' at their contents, the outputs it reads before covering (8) at their running contents `xo·`, the outputs it leaves idle (7: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun3_B (c : Dev nD) (i : grid3.Coords) (arg1 : Memref sig .tc .vmem S1536x2560 .i8) (harg1 : arg1.IsWhole) (arg2 : Memref sig .tc .vmem S1536x1 .f32) (harg2 : arg2.IsWhole) (arg3 : Memref sig .tc .vmem S256x2560 .i8) (harg3 : arg3.IsWhole) (arg4 : Memref sig .tc .vmem S1x1x256 .f32) (harg4 : arg4.IsWhole) (arg5 : Memref sig .tc .vmem S1x1536x256 .bf16) (harg5 : arg5.IsWhole) (arg6 : Memref sig .tc .vmem S1x1536x256 .f32) (harg6 : arg6.IsWhole) (arg7 : Memref sig .tc .vmem S256x2560 .bf16) (harg7 : arg7.IsWhole) (arg8 : Memref sig .tc .vmem S1536x2560 .bf16) (harg8 : arg8.IsWhole) (arg9 : Memref sig .tc .vmem S8x256 .f32) (harg9 : arg9.IsWhole) (arg10 : Memref sig .tc .vmem S1536x2560 .bf16) (harg10 : arg10.IsWhole) (arg11 : Memref sig .tc .vmem S1536x2560 .f32) (harg11 : arg11.IsWhole) (hc0 : ¬cond3_0 i) (hc1 : ¬cond3_1 i)
    (x0 : Vec F S1536x2560 .i8) (x1 : Vec F S1536x1 .f32) (x2 : Vec F S256x2560 .i8) (x3 : Vec F S1x1x256 .f32) (x4 : Vec F S1x1536x256 .bf16) (xo8 : Vec F S8x256 .f32) (xs0 : Vec F S1536x2560 .bf16) (xs1 : Vec F S1536x2560 .f32) :
    Σ' (L5 : List (View.Piece (Elt F) S1x1536x256 .f32)), Σ' (L6 : List (View.Piece (Elt F) S256x2560 .bf16)), Σ' (L7 : List (View.Piece (Elt F) S1536x2560 .bf16)), Σ' (L8 : List (View.Piece (Elt F) S8x256 .f32)), Σ' (LS0 : List (View.Piece (Elt F) S1536x2560 .bf16)), { LS1 : List (View.Piece (Elt F) S1536x2560 .f32) //
      ∀ (xi7 : Vec F S1536x2560 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare xi7 ∗ owns (c : Thread nD τ) arg9 fullShare xo8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ owns (c : Thread nD τ) arg8 fullShare xi7 ∗ (∃ f, arg9.view.loc (c : Thread nD τ) ↦[arg9.view.set]{fullShare} arg9.view.writes (Elt F) f L8) ∗ owns (c : Thread nD τ) arg10 fullShare xs0 ∗ (∃ f, arg11.view.loc (c : Thread nD τ) ↦[arg11.view.set]{fullShare} arg11.view.writes (Elt F) f LS1)) -∗ K ⟨⟩))
          ⊢ wp frame (wpE (defs₀ (F := F)) Variants.none c none) E (cc3_fwd_bwd i arg1 harg1 arg2 harg2 arg3 harg3 arg4 harg4 arg5 harg5 arg6 harg6 arg7 harg7 arg8 harg8 arg9 harg9 arg10 harg10 arg11 harg11) K } := by
  refine ⟨?_, ?_, [], ?_, [], ?_, fun xi7 E K => ?run⟩
  case run =>
    simp only [cc3_fwd_bwd_eq_skeleton]; unfold cc3_fwd_bwd_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg8.eq_unread hf7; obtain rfl := harg9.eq_unread hf8; obtain rfl := harg10.eq_unread hfs0; obtain rfl := harg11.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]
    · iexists _; isplitr; · ipureintro; exact harg8.read_unread _
      iexact H7
    isplitl [H8]; · iexists _; iexact H8
    isplitl [HS0]
    · iexists _; isplitr; · ipureintro; exact harg10.read_unread _
      iexact HS0
    iexists _; iexact HS1

/-- Case B's pieces for output 5 tile its block (1 store of `S1x1536x256`, checked by the kernel's evaluation: Lib/Ring.lean `Piece.tiledL`, linear in the pieces, through a loop's `@[irreducible]` trip theorem too), so they cover it. -/
theorem cover3_B_5 (c : Dev nD) (i : grid3.Coords) (arg1 : Memref sig .tc .vmem S1536x2560 .i8) (harg1 : arg1.IsWhole) (arg2 : Memref sig .tc .vmem S1536x1 .f32) (harg2 : arg2.IsWhole) (arg3 : Memref sig .tc .vmem S256x2560 .i8) (harg3 : arg3.IsWhole) (arg4 : Memref sig .tc .vmem S1x1x256 .f32) (harg4 : arg4.IsWhole) (arg5 : Memref sig .tc .vmem S1x1536x256 .bf16) (harg5 : arg5.IsWhole) (arg6 : Memref sig .tc .vmem S1x1536x256 .f32) (harg6 : arg6.IsWhole) (arg7 : Memref sig .tc .vmem S256x2560 .bf16) (harg7 : arg7.IsWhole) (arg8 : Memref sig .tc .vmem S1536x2560 .bf16) (harg8 : arg8.IsWhole) (arg9 : Memref sig .tc .vmem S8x256 .f32) (harg9 : arg9.IsWhole) (arg10 : Memref sig .tc .vmem S1536x2560 .bf16) (harg10 : arg10.IsWhole) (arg11 : Memref sig .tc .vmem S1536x2560 .f32) (harg11 : arg11.IsWhole) (hc0 : ¬cond3_0 i) (hc1 : ¬cond3_1 i)
    (x0 : Vec F S1536x2560 .i8) (x1 : Vec F S1536x1 .f32) (x2 : Vec F S256x2560 .i8) (x3 : Vec F S1x1x256 .f32) (x4 : Vec F S1x1536x256 .bf16) (xo8 : Vec F S8x256 .f32) (xs0 : Vec F S1536x2560 .bf16) (xs1 : Vec F S1536x2560 .f32) (y : S1x1536x256.Idx) :
    ∃ pc ∈ (kernelRun3_B c i arg1 harg1 arg2 harg2 arg3 harg3 arg4 harg4 arg5 harg5 arg6 harg6 arg7 harg7 arg8 harg8 arg9 harg9 arg10 harg10 arg11 harg11 hc0 hc1 x0 x1 x2 x3 x4 xo8 xs0 xs1).1, y ∈ pc.1.set :=
  View.cover_of_tiledL (kernelRun3_B c i arg1 harg1 arg2 harg2 arg3 harg3 arg4 harg4 arg5 harg5 arg6 harg6 arg7 harg7 arg8 harg8 arg9 harg9 arg10 harg10 arg11 harg11 hc0 hc1 x0 x1 x2 x3 x4 xo8 xs0 xs1).1 S1x1536x256.size (by sl_kernel_rfl) y

/-- What case B leaves in output 5's staging buffer: its pieces read back over junk. -/
def out3_B_5 (c : Dev nD) (i : grid3.Coords) (arg1 : Memref sig .tc .vmem S1536x2560 .i8) (harg1 : arg1.IsWhole) (arg2 : Memref sig .tc .vmem S1536x1 .f32) (harg2 : arg2.IsWhole) (arg3 : Memref sig .tc .vmem S256x2560 .i8) (harg3 : arg3.IsWhole) (arg4 : Memref sig .tc .vmem S1x1x256 .f32) (harg4 : arg4.IsWhole) (arg5 : Memref sig .tc .vmem S1x1536x256 .bf16) (harg5 : arg5.IsWhole) (arg6 : Memref sig .tc .vmem S1x1536x256 .f32) (harg6 : arg6.IsWhole) (arg7 : Memref sig .tc .vmem S256x2560 .bf16) (harg7 : arg7.IsWhole) (arg8 : Memref sig .tc .vmem S1536x2560 .bf16) (harg8 : arg8.IsWhole) (arg9 : Memref sig .tc .vmem S8x256 .f32) (harg9 : arg9.IsWhole) (arg10 : Memref sig .tc .vmem S1536x2560 .bf16) (harg10 : arg10.IsWhole) (arg11 : Memref sig .tc .vmem S1536x2560 .f32) (harg11 : arg11.IsWhole) (hc0 : ¬cond3_0 i) (hc1 : ¬cond3_1 i)
    (x0 : Vec F S1536x2560 .i8) (x1 : Vec F S1536x1 .f32) (x2 : Vec F S256x2560 .i8) (x3 : Vec F S1x1x256 .f32) (x4 : Vec F S1x1536x256 .bf16) (xo8 : Vec F S8x256 .f32) (xs0 : Vec F S1536x2560 .bf16) (xs1 : Vec F S1536x2560 .f32) : Vec F S1x1536x256 .f32 :=
  VO3_5.read (Elt F) (VO3_5.writes (Elt F) VO3_5.junk (kernelRun3_B c i arg1 harg1 arg2 harg2 arg3 harg3 arg4 harg4 arg5 harg5 arg6 harg6 arg7 harg7 arg8 harg8 arg9 harg9 arg10 harg10 arg11 harg11 hc0 hc1 x0 x1 x2 x3 x4 xo8 xs0 xs1).1)

/-- Case B's pieces for output 6 tile its block (1 store of `S256x2560`, checked by the kernel's evaluation: Lib/Ring.lean `Piece.tiledL`, linear in the pieces, through a loop's `@[irreducible]` trip theorem too), so they cover it. -/
theorem cover3_B_6 (c : Dev nD) (i : grid3.Coords) (arg1 : Memref sig .tc .vmem S1536x2560 .i8) (harg1 : arg1.IsWhole) (arg2 : Memref sig .tc .vmem S1536x1 .f32) (harg2 : arg2.IsWhole) (arg3 : Memref sig .tc .vmem S256x2560 .i8) (harg3 : arg3.IsWhole) (arg4 : Memref sig .tc .vmem S1x1x256 .f32) (harg4 : arg4.IsWhole) (arg5 : Memref sig .tc .vmem S1x1536x256 .bf16) (harg5 : arg5.IsWhole) (arg6 : Memref sig .tc .vmem S1x1536x256 .f32) (harg6 : arg6.IsWhole) (arg7 : Memref sig .tc .vmem S256x2560 .bf16) (harg7 : arg7.IsWhole) (arg8 : Memref sig .tc .vmem S1536x2560 .bf16) (harg8 : arg8.IsWhole) (arg9 : Memref sig .tc .vmem S8x256 .f32) (harg9 : arg9.IsWhole) (arg10 : Memref sig .tc .vmem S1536x2560 .bf16) (harg10 : arg10.IsWhole) (arg11 : Memref sig .tc .vmem S1536x2560 .f32) (harg11 : arg11.IsWhole) (hc0 : ¬cond3_0 i) (hc1 : ¬cond3_1 i)
    (x0 : Vec F S1536x2560 .i8) (x1 : Vec F S1536x1 .f32) (x2 : Vec F S256x2560 .i8) (x3 : Vec F S1x1x256 .f32) (x4 : Vec F S1x1536x256 .bf16) (xo8 : Vec F S8x256 .f32) (xs0 : Vec F S1536x2560 .bf16) (xs1 : Vec F S1536x2560 .f32) (y : S256x2560.Idx) :
    ∃ pc ∈ (kernelRun3_B c i arg1 harg1 arg2 harg2 arg3 harg3 arg4 harg4 arg5 harg5 arg6 harg6 arg7 harg7 arg8 harg8 arg9 harg9 arg10 harg10 arg11 harg11 hc0 hc1 x0 x1 x2 x3 x4 xo8 xs0 xs1).2.1, y ∈ pc.1.set :=
  View.cover_of_tiledL (kernelRun3_B c i arg1 harg1 arg2 harg2 arg3 harg3 arg4 harg4 arg5 harg5 arg6 harg6 arg7 harg7 arg8 harg8 arg9 harg9 arg10 harg10 arg11 harg11 hc0 hc1 x0 x1 x2 x3 x4 xo8 xs0 xs1).2.1 S256x2560.size (by sl_kernel_rfl) y

/-- What case B leaves in output 6's staging buffer: its pieces read back over junk. -/
def out3_B_6 (c : Dev nD) (i : grid3.Coords) (arg1 : Memref sig .tc .vmem S1536x2560 .i8) (harg1 : arg1.IsWhole) (arg2 : Memref sig .tc .vmem S1536x1 .f32) (harg2 : arg2.IsWhole) (arg3 : Memref sig .tc .vmem S256x2560 .i8) (harg3 : arg3.IsWhole) (arg4 : Memref sig .tc .vmem S1x1x256 .f32) (harg4 : arg4.IsWhole) (arg5 : Memref sig .tc .vmem S1x1536x256 .bf16) (harg5 : arg5.IsWhole) (arg6 : Memref sig .tc .vmem S1x1536x256 .f32) (harg6 : arg6.IsWhole) (arg7 : Memref sig .tc .vmem S256x2560 .bf16) (harg7 : arg7.IsWhole) (arg8 : Memref sig .tc .vmem S1536x2560 .bf16) (harg8 : arg8.IsWhole) (arg9 : Memref sig .tc .vmem S8x256 .f32) (harg9 : arg9.IsWhole) (arg10 : Memref sig .tc .vmem S1536x2560 .bf16) (harg10 : arg10.IsWhole) (arg11 : Memref sig .tc .vmem S1536x2560 .f32) (harg11 : arg11.IsWhole) (hc0 : ¬cond3_0 i) (hc1 : ¬cond3_1 i)
    (x0 : Vec F S1536x2560 .i8) (x1 : Vec F S1536x1 .f32) (x2 : Vec F S256x2560 .i8) (x3 : Vec F S1x1x256 .f32) (x4 : Vec F S1x1536x256 .bf16) (xo8 : Vec F S8x256 .f32) (xs0 : Vec F S1536x2560 .bf16) (xs1 : Vec F S1536x2560 .f32) : Vec F S256x2560 .bf16 :=
  VO3_6.read (Elt F) (VO3_6.writes (Elt F) VO3_6.junk (kernelRun3_B c i arg1 harg1 arg2 harg2 arg3 harg3 arg4 harg4 arg5 harg5 arg6 harg6 arg7 harg7 arg8 harg8 arg9 harg9 arg10 harg10 arg11 harg11 hc0 hc1 x0 x1 x2 x3 x4 xo8 xs0 xs1).2.1)

/-- Case B stores nothing into output 7 (the window is idle at its points and not written back there):
    no pieces — a placeholder (junk read back) that nothing consults, since at these points the window is neither
    written back nor read at the next point (Lib/Pipeline.lean "Idle points"). -/
def out3_B_7 (c : Dev nD) (i : grid3.Coords) (arg1 : Memref sig .tc .vmem S1536x2560 .i8) (harg1 : arg1.IsWhole) (arg2 : Memref sig .tc .vmem S1536x1 .f32) (harg2 : arg2.IsWhole) (arg3 : Memref sig .tc .vmem S256x2560 .i8) (harg3 : arg3.IsWhole) (arg4 : Memref sig .tc .vmem S1x1x256 .f32) (harg4 : arg4.IsWhole) (arg5 : Memref sig .tc .vmem S1x1536x256 .bf16) (harg5 : arg5.IsWhole) (arg6 : Memref sig .tc .vmem S1x1536x256 .f32) (harg6 : arg6.IsWhole) (arg7 : Memref sig .tc .vmem S256x2560 .bf16) (harg7 : arg7.IsWhole) (arg8 : Memref sig .tc .vmem S1536x2560 .bf16) (harg8 : arg8.IsWhole) (arg9 : Memref sig .tc .vmem S8x256 .f32) (harg9 : arg9.IsWhole) (arg10 : Memref sig .tc .vmem S1536x2560 .bf16) (harg10 : arg10.IsWhole) (arg11 : Memref sig .tc .vmem S1536x2560 .f32) (harg11 : arg11.IsWhole) (hc0 : ¬cond3_0 i) (hc1 : ¬cond3_1 i)
    (x0 : Vec F S1536x2560 .i8) (x1 : Vec F S1536x1 .f32) (x2 : Vec F S256x2560 .i8) (x3 : Vec F S1x1x256 .f32) (x4 : Vec F S1x1536x256 .bf16) (xo8 : Vec F S8x256 .f32) (xs0 : Vec F S1536x2560 .bf16) (xs1 : Vec F S1536x2560 .f32) : Vec F S1536x2560 .bf16 :=
  VO3_7.read (Elt F) (VO3_7.writes (Elt F) VO3_7.junk (kernelRun3_B c i arg1 harg1 arg2 harg2 arg3 harg3 arg4 harg4 arg5 harg5 arg6 harg6 arg7 harg7 arg8 harg8 arg9 harg9 arg10 harg10 arg11 harg11 hc0 hc1 x0 x1 x2 x3 x4 xo8 xs0 xs1).2.2.1)

/-- Case B's pieces for output 8 tile its block (1 store of `S8x256`, checked by the kernel's evaluation: Lib/Ring.lean `Piece.tiledL`, linear in the pieces, through a loop's `@[irreducible]` trip theorem too), so they cover it. -/
theorem cover3_B_8 (c : Dev nD) (i : grid3.Coords) (arg1 : Memref sig .tc .vmem S1536x2560 .i8) (harg1 : arg1.IsWhole) (arg2 : Memref sig .tc .vmem S1536x1 .f32) (harg2 : arg2.IsWhole) (arg3 : Memref sig .tc .vmem S256x2560 .i8) (harg3 : arg3.IsWhole) (arg4 : Memref sig .tc .vmem S1x1x256 .f32) (harg4 : arg4.IsWhole) (arg5 : Memref sig .tc .vmem S1x1536x256 .bf16) (harg5 : arg5.IsWhole) (arg6 : Memref sig .tc .vmem S1x1536x256 .f32) (harg6 : arg6.IsWhole) (arg7 : Memref sig .tc .vmem S256x2560 .bf16) (harg7 : arg7.IsWhole) (arg8 : Memref sig .tc .vmem S1536x2560 .bf16) (harg8 : arg8.IsWhole) (arg9 : Memref sig .tc .vmem S8x256 .f32) (harg9 : arg9.IsWhole) (arg10 : Memref sig .tc .vmem S1536x2560 .bf16) (harg10 : arg10.IsWhole) (arg11 : Memref sig .tc .vmem S1536x2560 .f32) (harg11 : arg11.IsWhole) (hc0 : ¬cond3_0 i) (hc1 : ¬cond3_1 i)
    (x0 : Vec F S1536x2560 .i8) (x1 : Vec F S1536x1 .f32) (x2 : Vec F S256x2560 .i8) (x3 : Vec F S1x1x256 .f32) (x4 : Vec F S1x1536x256 .bf16) (xo8 : Vec F S8x256 .f32) (xs0 : Vec F S1536x2560 .bf16) (xs1 : Vec F S1536x2560 .f32) (y : S8x256.Idx) :
    ∃ pc ∈ (kernelRun3_B c i arg1 harg1 arg2 harg2 arg3 harg3 arg4 harg4 arg5 harg5 arg6 harg6 arg7 harg7 arg8 harg8 arg9 harg9 arg10 harg10 arg11 harg11 hc0 hc1 x0 x1 x2 x3 x4 xo8 xs0 xs1).2.2.2.1, y ∈ pc.1.set :=
  View.cover_of_tiledL (kernelRun3_B c i arg1 harg1 arg2 harg2 arg3 harg3 arg4 harg4 arg5 harg5 arg6 harg6 arg7 harg7 arg8 harg8 arg9 harg9 arg10 harg10 arg11 harg11 hc0 hc1 x0 x1 x2 x3 x4 xo8 xs0 xs1).2.2.2.1 S8x256.size (by sl_kernel_rfl) y

/-- What case B leaves in output 8's staging buffer: its pieces read back over junk. -/
def out3_B_8 (c : Dev nD) (i : grid3.Coords) (arg1 : Memref sig .tc .vmem S1536x2560 .i8) (harg1 : arg1.IsWhole) (arg2 : Memref sig .tc .vmem S1536x1 .f32) (harg2 : arg2.IsWhole) (arg3 : Memref sig .tc .vmem S256x2560 .i8) (harg3 : arg3.IsWhole) (arg4 : Memref sig .tc .vmem S1x1x256 .f32) (harg4 : arg4.IsWhole) (arg5 : Memref sig .tc .vmem S1x1536x256 .bf16) (harg5 : arg5.IsWhole) (arg6 : Memref sig .tc .vmem S1x1536x256 .f32) (harg6 : arg6.IsWhole) (arg7 : Memref sig .tc .vmem S256x2560 .bf16) (harg7 : arg7.IsWhole) (arg8 : Memref sig .tc .vmem S1536x2560 .bf16) (harg8 : arg8.IsWhole) (arg9 : Memref sig .tc .vmem S8x256 .f32) (harg9 : arg9.IsWhole) (arg10 : Memref sig .tc .vmem S1536x2560 .bf16) (harg10 : arg10.IsWhole) (arg11 : Memref sig .tc .vmem S1536x2560 .f32) (harg11 : arg11.IsWhole) (hc0 : ¬cond3_0 i) (hc1 : ¬cond3_1 i)
    (x0 : Vec F S1536x2560 .i8) (x1 : Vec F S1536x1 .f32) (x2 : Vec F S256x2560 .i8) (x3 : Vec F S1x1x256 .f32) (x4 : Vec F S1x1536x256 .bf16) (xo8 : Vec F S8x256 .f32) (xs0 : Vec F S1536x2560 .bf16) (xs1 : Vec F S1536x2560 .f32) : Vec F S8x256 .f32 :=
  VO3_8.read (Elt F) (VO3_8.writes (Elt F) VO3_8.junk (kernelRun3_B c i arg1 harg1 arg2 harg2 arg3 harg3 arg4 harg4 arg5 harg5 arg6 harg6 arg7 harg7 arg8 harg8 arg9 harg9 arg10 harg10 arg11 harg11 hc0 hc1 x0 x1 x2 x3 x4 xo8 xs0 xs1).2.2.2.1)

/-- Case B stores nothing into scratch `arg10`: it holds what the point before left. -/
def sout3_B_0 (c : Dev nD) (i : grid3.Coords) (arg1 : Memref sig .tc .vmem S1536x2560 .i8) (harg1 : arg1.IsWhole) (arg2 : Memref sig .tc .vmem S1536x1 .f32) (harg2 : arg2.IsWhole) (arg3 : Memref sig .tc .vmem S256x2560 .i8) (harg3 : arg3.IsWhole) (arg4 : Memref sig .tc .vmem S1x1x256 .f32) (harg4 : arg4.IsWhole) (arg5 : Memref sig .tc .vmem S1x1536x256 .bf16) (harg5 : arg5.IsWhole) (arg6 : Memref sig .tc .vmem S1x1536x256 .f32) (harg6 : arg6.IsWhole) (arg7 : Memref sig .tc .vmem S256x2560 .bf16) (harg7 : arg7.IsWhole) (arg8 : Memref sig .tc .vmem S1536x2560 .bf16) (harg8 : arg8.IsWhole) (arg9 : Memref sig .tc .vmem S8x256 .f32) (harg9 : arg9.IsWhole) (arg10 : Memref sig .tc .vmem S1536x2560 .bf16) (harg10 : arg10.IsWhole) (arg11 : Memref sig .tc .vmem S1536x2560 .f32) (harg11 : arg11.IsWhole) (hc0 : ¬cond3_0 i) (hc1 : ¬cond3_1 i)
    (x0 : Vec F S1536x2560 .i8) (x1 : Vec F S1536x1 .f32) (x2 : Vec F S256x2560 .i8) (x3 : Vec F S1x1x256 .f32) (x4 : Vec F S1x1536x256 .bf16) (xo8 : Vec F S8x256 .f32) (xs0 : Vec F S1536x2560 .bf16) (xs1 : Vec F S1536x2560 .f32) : Vec F S1536x2560 .bf16 := xs0

/-- Case B's pieces for scratch `arg11`, which the kernel carries between points, cover it: 1 piece of `S1536x2560` tiling it (Lib/Ring.lean `Piece.tiledL`). -/
theorem scover3_B_1 (c : Dev nD) (i : grid3.Coords) (arg1 : Memref sig .tc .vmem S1536x2560 .i8) (harg1 : arg1.IsWhole) (arg2 : Memref sig .tc .vmem S1536x1 .f32) (harg2 : arg2.IsWhole) (arg3 : Memref sig .tc .vmem S256x2560 .i8) (harg3 : arg3.IsWhole) (arg4 : Memref sig .tc .vmem S1x1x256 .f32) (harg4 : arg4.IsWhole) (arg5 : Memref sig .tc .vmem S1x1536x256 .bf16) (harg5 : arg5.IsWhole) (arg6 : Memref sig .tc .vmem S1x1536x256 .f32) (harg6 : arg6.IsWhole) (arg7 : Memref sig .tc .vmem S256x2560 .bf16) (harg7 : arg7.IsWhole) (arg8 : Memref sig .tc .vmem S1536x2560 .bf16) (harg8 : arg8.IsWhole) (arg9 : Memref sig .tc .vmem S8x256 .f32) (harg9 : arg9.IsWhole) (arg10 : Memref sig .tc .vmem S1536x2560 .bf16) (harg10 : arg10.IsWhole) (arg11 : Memref sig .tc .vmem S1536x2560 .f32) (harg11 : arg11.IsWhole) (hc0 : ¬cond3_0 i) (hc1 : ¬cond3_1 i)
    (x0 : Vec F S1536x2560 .i8) (x1 : Vec F S1536x1 .f32) (x2 : Vec F S256x2560 .i8) (x3 : Vec F S1x1x256 .f32) (x4 : Vec F S1x1536x256 .bf16) (xo8 : Vec F S8x256 .f32) (xs0 : Vec F S1536x2560 .bf16) (xs1 : Vec F S1536x2560 .f32) (y : S1536x2560.Idx) :
    ∃ pc ∈ (kernelRun3_B c i arg1 harg1 arg2 harg2 arg3 harg3 arg4 harg4 arg5 harg5 arg6 harg6 arg7 harg7 arg8 harg8 arg9 harg9 arg10 harg10 arg11 harg11 hc0 hc1 x0 x1 x2 x3 x4 xo8 xs0 xs1).2.2.2.2.2.1, y ∈ pc.1.set :=
  View.cover_of_tiledL (kernelRun3_B c i arg1 harg1 arg2 harg2 arg3 harg3 arg4 harg4 arg5 harg5 arg6 harg6 arg7 harg7 arg8 harg8 arg9 harg9 arg10 harg10 arg11 harg11 hc0 hc1 x0 x1 x2 x3 x4 xo8 xs0 xs1).2.2.2.2.2.1 S1536x2560.size (by sl_kernel_rfl) y

/-- What case B leaves in scratch `arg11`: its pieces read back over junk. -/
def sout3_B_1 (c : Dev nD) (i : grid3.Coords) (arg1 : Memref sig .tc .vmem S1536x2560 .i8) (harg1 : arg1.IsWhole) (arg2 : Memref sig .tc .vmem S1536x1 .f32) (harg2 : arg2.IsWhole) (arg3 : Memref sig .tc .vmem S256x2560 .i8) (harg3 : arg3.IsWhole) (arg4 : Memref sig .tc .vmem S1x1x256 .f32) (harg4 : arg4.IsWhole) (arg5 : Memref sig .tc .vmem S1x1536x256 .bf16) (harg5 : arg5.IsWhole) (arg6 : Memref sig .tc .vmem S1x1536x256 .f32) (harg6 : arg6.IsWhole) (arg7 : Memref sig .tc .vmem S256x2560 .bf16) (harg7 : arg7.IsWhole) (arg8 : Memref sig .tc .vmem S1536x2560 .bf16) (harg8 : arg8.IsWhole) (arg9 : Memref sig .tc .vmem S8x256 .f32) (harg9 : arg9.IsWhole) (arg10 : Memref sig .tc .vmem S1536x2560 .bf16) (harg10 : arg10.IsWhole) (arg11 : Memref sig .tc .vmem S1536x2560 .f32) (harg11 : arg11.IsWhole) (hc0 : ¬cond3_0 i) (hc1 : ¬cond3_1 i)
    (x0 : Vec F S1536x2560 .i8) (x1 : Vec F S1536x1 .f32) (x2 : Vec F S256x2560 .i8) (x3 : Vec F S1x1x256 .f32) (x4 : Vec F S1x1536x256 .bf16) (xo8 : Vec F S8x256 .f32) (xs0 : Vec F S1536x2560 .bf16) (xs1 : Vec F S1536x2560 .f32) : Vec F S1536x2560 .f32 :=
  VS3_1.read (Elt F) (VS3_1.writes (Elt F) VS3_1.junk (kernelRun3_B c i arg1 harg1 arg2 harg2 arg3 harg3 arg4 harg4 arg5 harg5 arg6 harg6 arg7 harg7 arg8 harg8 arg9 harg9 arg10 harg10 arg11 harg11 hc0 hc1 x0 x1 x2 x3 x4 xo8 xs0 xs1).2.2.2.2.2.1)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 71), WITH the
    proof that on whole staging memrefs — the inputs' at their contents, the outputs it reads before covering (8) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun3_C (c : Dev nD) (i : grid3.Coords) (arg1 : Memref sig .tc .vmem S1536x2560 .i8) (harg1 : arg1.IsWhole) (arg2 : Memref sig .tc .vmem S1536x1 .f32) (harg2 : arg2.IsWhole) (arg3 : Memref sig .tc .vmem S256x2560 .i8) (harg3 : arg3.IsWhole) (arg4 : Memref sig .tc .vmem S1x1x256 .f32) (harg4 : arg4.IsWhole) (arg5 : Memref sig .tc .vmem S1x1536x256 .bf16) (harg5 : arg5.IsWhole) (arg6 : Memref sig .tc .vmem S1x1536x256 .f32) (harg6 : arg6.IsWhole) (arg7 : Memref sig .tc .vmem S256x2560 .bf16) (harg7 : arg7.IsWhole) (arg8 : Memref sig .tc .vmem S1536x2560 .bf16) (harg8 : arg8.IsWhole) (arg9 : Memref sig .tc .vmem S8x256 .f32) (harg9 : arg9.IsWhole) (arg10 : Memref sig .tc .vmem S1536x2560 .bf16) (harg10 : arg10.IsWhole) (arg11 : Memref sig .tc .vmem S1536x2560 .f32) (harg11 : arg11.IsWhole) (hc0 : ¬cond3_0 i) (hc1 : cond3_1 i)
    (x0 : Vec F S1536x2560 .i8) (x1 : Vec F S1536x1 .f32) (x2 : Vec F S256x2560 .i8) (x3 : Vec F S1x1x256 .f32) (x4 : Vec F S1x1536x256 .bf16) (xo8 : Vec F S8x256 .f32) (xs0 : Vec F S1536x2560 .bf16) (xs1 : Vec F S1536x2560 .f32) :
    Σ' (L5 : List (View.Piece (Elt F) S1x1536x256 .f32)), Σ' (L6 : List (View.Piece (Elt F) S256x2560 .bf16)), Σ' (L7 : List (View.Piece (Elt F) S1536x2560 .bf16)), Σ' (L8 : List (View.Piece (Elt F) S8x256 .f32)), Σ' (LS0 : List (View.Piece (Elt F) S1536x2560 .bf16)), { LS1 : List (View.Piece (Elt F) S1536x2560 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xo8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ owns (c : Thread nD τ) arg10 fullShare xs0 ∗ (∃ f, arg11.view.loc (c : Thread nD τ) ↦[arg11.view.set]{fullShare} arg11.view.writes (Elt F) f LS1)) -∗ K ⟨⟩))
          ⊢ wp frame (wpE (defs₀ (F := F)) Variants.none c none) E (cc3_fwd_bwd i arg1 harg1 arg2 harg2 arg3 harg3 arg4 harg4 arg5 harg5 arg6 harg6 arg7 harg7 arg8 harg8 arg9 harg9 arg10 harg10 arg11 harg11) K } := by
  refine ⟨?_, ?_, ?_, ?_, [], ?_, fun E K => ?run⟩
  case run =>
    simp only [cc3_fwd_bwd_eq_skeleton]; unfold cc3_fwd_bwd_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hf8; obtain rfl := harg10.eq_unread hfs0; obtain rfl := harg11.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [H8]; · iexists _; iexact H8
    isplitl [HS0]
    · iexists _; isplitr; · ipureintro; exact harg10.read_unread _
      iexact HS0
    iexists _; iexact HS1

/-- Case C's pieces for output 5 tile its block (1 store of `S1x1536x256`, checked by the kernel's evaluation: Lib/Ring.lean `Piece.tiledL`, linear in the pieces, through a loop's `@[irreducible]` trip theorem too), so they cover it. -/
theorem cover3_C_5 (c : Dev nD) (i : grid3.Coords) (arg1 : Memref sig .tc .vmem S1536x2560 .i8) (harg1 : arg1.IsWhole) (arg2 : Memref sig .tc .vmem S1536x1 .f32) (harg2 : arg2.IsWhole) (arg3 : Memref sig .tc .vmem S256x2560 .i8) (harg3 : arg3.IsWhole) (arg4 : Memref sig .tc .vmem S1x1x256 .f32) (harg4 : arg4.IsWhole) (arg5 : Memref sig .tc .vmem S1x1536x256 .bf16) (harg5 : arg5.IsWhole) (arg6 : Memref sig .tc .vmem S1x1536x256 .f32) (harg6 : arg6.IsWhole) (arg7 : Memref sig .tc .vmem S256x2560 .bf16) (harg7 : arg7.IsWhole) (arg8 : Memref sig .tc .vmem S1536x2560 .bf16) (harg8 : arg8.IsWhole) (arg9 : Memref sig .tc .vmem S8x256 .f32) (harg9 : arg9.IsWhole) (arg10 : Memref sig .tc .vmem S1536x2560 .bf16) (harg10 : arg10.IsWhole) (arg11 : Memref sig .tc .vmem S1536x2560 .f32) (harg11 : arg11.IsWhole) (hc0 : ¬cond3_0 i) (hc1 : cond3_1 i)
    (x0 : Vec F S1536x2560 .i8) (x1 : Vec F S1536x1 .f32) (x2 : Vec F S256x2560 .i8) (x3 : Vec F S1x1x256 .f32) (x4 : Vec F S1x1536x256 .bf16) (xo8 : Vec F S8x256 .f32) (xs0 : Vec F S1536x2560 .bf16) (xs1 : Vec F S1536x2560 .f32) (y : S1x1536x256.Idx) :
    ∃ pc ∈ (kernelRun3_C c i arg1 harg1 arg2 harg2 arg3 harg3 arg4 harg4 arg5 harg5 arg6 harg6 arg7 harg7 arg8 harg8 arg9 harg9 arg10 harg10 arg11 harg11 hc0 hc1 x0 x1 x2 x3 x4 xo8 xs0 xs1).1, y ∈ pc.1.set :=
  View.cover_of_tiledL (kernelRun3_C c i arg1 harg1 arg2 harg2 arg3 harg3 arg4 harg4 arg5 harg5 arg6 harg6 arg7 harg7 arg8 harg8 arg9 harg9 arg10 harg10 arg11 harg11 hc0 hc1 x0 x1 x2 x3 x4 xo8 xs0 xs1).1 S1x1536x256.size (by sl_kernel_rfl) y

/-- What case C leaves in output 5's staging buffer: its pieces read back over junk. -/
def out3_C_5 (c : Dev nD) (i : grid3.Coords) (arg1 : Memref sig .tc .vmem S1536x2560 .i8) (harg1 : arg1.IsWhole) (arg2 : Memref sig .tc .vmem S1536x1 .f32) (harg2 : arg2.IsWhole) (arg3 : Memref sig .tc .vmem S256x2560 .i8) (harg3 : arg3.IsWhole) (arg4 : Memref sig .tc .vmem S1x1x256 .f32) (harg4 : arg4.IsWhole) (arg5 : Memref sig .tc .vmem S1x1536x256 .bf16) (harg5 : arg5.IsWhole) (arg6 : Memref sig .tc .vmem S1x1536x256 .f32) (harg6 : arg6.IsWhole) (arg7 : Memref sig .tc .vmem S256x2560 .bf16) (harg7 : arg7.IsWhole) (arg8 : Memref sig .tc .vmem S1536x2560 .bf16) (harg8 : arg8.IsWhole) (arg9 : Memref sig .tc .vmem S8x256 .f32) (harg9 : arg9.IsWhole) (arg10 : Memref sig .tc .vmem S1536x2560 .bf16) (harg10 : arg10.IsWhole) (arg11 : Memref sig .tc .vmem S1536x2560 .f32) (harg11 : arg11.IsWhole) (hc0 : ¬cond3_0 i) (hc1 : cond3_1 i)
    (x0 : Vec F S1536x2560 .i8) (x1 : Vec F S1536x1 .f32) (x2 : Vec F S256x2560 .i8) (x3 : Vec F S1x1x256 .f32) (x4 : Vec F S1x1536x256 .bf16) (xo8 : Vec F S8x256 .f32) (xs0 : Vec F S1536x2560 .bf16) (xs1 : Vec F S1536x2560 .f32) : Vec F S1x1536x256 .f32 :=
  VO3_5.read (Elt F) (VO3_5.writes (Elt F) VO3_5.junk (kernelRun3_C c i arg1 harg1 arg2 harg2 arg3 harg3 arg4 harg4 arg5 harg5 arg6 harg6 arg7 harg7 arg8 harg8 arg9 harg9 arg10 harg10 arg11 harg11 hc0 hc1 x0 x1 x2 x3 x4 xo8 xs0 xs1).1)

/-- Case C's pieces for output 6 tile its block (1 store of `S256x2560`, checked by the kernel's evaluation: Lib/Ring.lean `Piece.tiledL`, linear in the pieces, through a loop's `@[irreducible]` trip theorem too), so they cover it. -/
theorem cover3_C_6 (c : Dev nD) (i : grid3.Coords) (arg1 : Memref sig .tc .vmem S1536x2560 .i8) (harg1 : arg1.IsWhole) (arg2 : Memref sig .tc .vmem S1536x1 .f32) (harg2 : arg2.IsWhole) (arg3 : Memref sig .tc .vmem S256x2560 .i8) (harg3 : arg3.IsWhole) (arg4 : Memref sig .tc .vmem S1x1x256 .f32) (harg4 : arg4.IsWhole) (arg5 : Memref sig .tc .vmem S1x1536x256 .bf16) (harg5 : arg5.IsWhole) (arg6 : Memref sig .tc .vmem S1x1536x256 .f32) (harg6 : arg6.IsWhole) (arg7 : Memref sig .tc .vmem S256x2560 .bf16) (harg7 : arg7.IsWhole) (arg8 : Memref sig .tc .vmem S1536x2560 .bf16) (harg8 : arg8.IsWhole) (arg9 : Memref sig .tc .vmem S8x256 .f32) (harg9 : arg9.IsWhole) (arg10 : Memref sig .tc .vmem S1536x2560 .bf16) (harg10 : arg10.IsWhole) (arg11 : Memref sig .tc .vmem S1536x2560 .f32) (harg11 : arg11.IsWhole) (hc0 : ¬cond3_0 i) (hc1 : cond3_1 i)
    (x0 : Vec F S1536x2560 .i8) (x1 : Vec F S1536x1 .f32) (x2 : Vec F S256x2560 .i8) (x3 : Vec F S1x1x256 .f32) (x4 : Vec F S1x1536x256 .bf16) (xo8 : Vec F S8x256 .f32) (xs0 : Vec F S1536x2560 .bf16) (xs1 : Vec F S1536x2560 .f32) (y : S256x2560.Idx) :
    ∃ pc ∈ (kernelRun3_C c i arg1 harg1 arg2 harg2 arg3 harg3 arg4 harg4 arg5 harg5 arg6 harg6 arg7 harg7 arg8 harg8 arg9 harg9 arg10 harg10 arg11 harg11 hc0 hc1 x0 x1 x2 x3 x4 xo8 xs0 xs1).2.1, y ∈ pc.1.set :=
  View.cover_of_tiledL (kernelRun3_C c i arg1 harg1 arg2 harg2 arg3 harg3 arg4 harg4 arg5 harg5 arg6 harg6 arg7 harg7 arg8 harg8 arg9 harg9 arg10 harg10 arg11 harg11 hc0 hc1 x0 x1 x2 x3 x4 xo8 xs0 xs1).2.1 S256x2560.size (by sl_kernel_rfl) y

/-- What case C leaves in output 6's staging buffer: its pieces read back over junk. -/
def out3_C_6 (c : Dev nD) (i : grid3.Coords) (arg1 : Memref sig .tc .vmem S1536x2560 .i8) (harg1 : arg1.IsWhole) (arg2 : Memref sig .tc .vmem S1536x1 .f32) (harg2 : arg2.IsWhole) (arg3 : Memref sig .tc .vmem S256x2560 .i8) (harg3 : arg3.IsWhole) (arg4 : Memref sig .tc .vmem S1x1x256 .f32) (harg4 : arg4.IsWhole) (arg5 : Memref sig .tc .vmem S1x1536x256 .bf16) (harg5 : arg5.IsWhole) (arg6 : Memref sig .tc .vmem S1x1536x256 .f32) (harg6 : arg6.IsWhole) (arg7 : Memref sig .tc .vmem S256x2560 .bf16) (harg7 : arg7.IsWhole) (arg8 : Memref sig .tc .vmem S1536x2560 .bf16) (harg8 : arg8.IsWhole) (arg9 : Memref sig .tc .vmem S8x256 .f32) (harg9 : arg9.IsWhole) (arg10 : Memref sig .tc .vmem S1536x2560 .bf16) (harg10 : arg10.IsWhole) (arg11 : Memref sig .tc .vmem S1536x2560 .f32) (harg11 : arg11.IsWhole) (hc0 : ¬cond3_0 i) (hc1 : cond3_1 i)
    (x0 : Vec F S1536x2560 .i8) (x1 : Vec F S1536x1 .f32) (x2 : Vec F S256x2560 .i8) (x3 : Vec F S1x1x256 .f32) (x4 : Vec F S1x1536x256 .bf16) (xo8 : Vec F S8x256 .f32) (xs0 : Vec F S1536x2560 .bf16) (xs1 : Vec F S1536x2560 .f32) : Vec F S256x2560 .bf16 :=
  VO3_6.read (Elt F) (VO3_6.writes (Elt F) VO3_6.junk (kernelRun3_C c i arg1 harg1 arg2 harg2 arg3 harg3 arg4 harg4 arg5 harg5 arg6 harg6 arg7 harg7 arg8 harg8 arg9 harg9 arg10 harg10 arg11 harg11 hc0 hc1 x0 x1 x2 x3 x4 xo8 xs0 xs1).2.1)

/-- Case C's pieces for output 7 tile its block (1 store of `S1536x2560`, checked by the kernel's evaluation: Lib/Ring.lean `Piece.tiledL`, linear in the pieces, through a loop's `@[irreducible]` trip theorem too), so they cover it. -/
theorem cover3_C_7 (c : Dev nD) (i : grid3.Coords) (arg1 : Memref sig .tc .vmem S1536x2560 .i8) (harg1 : arg1.IsWhole) (arg2 : Memref sig .tc .vmem S1536x1 .f32) (harg2 : arg2.IsWhole) (arg3 : Memref sig .tc .vmem S256x2560 .i8) (harg3 : arg3.IsWhole) (arg4 : Memref sig .tc .vmem S1x1x256 .f32) (harg4 : arg4.IsWhole) (arg5 : Memref sig .tc .vmem S1x1536x256 .bf16) (harg5 : arg5.IsWhole) (arg6 : Memref sig .tc .vmem S1x1536x256 .f32) (harg6 : arg6.IsWhole) (arg7 : Memref sig .tc .vmem S256x2560 .bf16) (harg7 : arg7.IsWhole) (arg8 : Memref sig .tc .vmem S1536x2560 .bf16) (harg8 : arg8.IsWhole) (arg9 : Memref sig .tc .vmem S8x256 .f32) (harg9 : arg9.IsWhole) (arg10 : Memref sig .tc .vmem S1536x2560 .bf16) (harg10 : arg10.IsWhole) (arg11 : Memref sig .tc .vmem S1536x2560 .f32) (harg11 : arg11.IsWhole) (hc0 : ¬cond3_0 i) (hc1 : cond3_1 i)
    (x0 : Vec F S1536x2560 .i8) (x1 : Vec F S1536x1 .f32) (x2 : Vec F S256x2560 .i8) (x3 : Vec F S1x1x256 .f32) (x4 : Vec F S1x1536x256 .bf16) (xo8 : Vec F S8x256 .f32) (xs0 : Vec F S1536x2560 .bf16) (xs1 : Vec F S1536x2560 .f32) (y : S1536x2560.Idx) :
    ∃ pc ∈ (kernelRun3_C c i arg1 harg1 arg2 harg2 arg3 harg3 arg4 harg4 arg5 harg5 arg6 harg6 arg7 harg7 arg8 harg8 arg9 harg9 arg10 harg10 arg11 harg11 hc0 hc1 x0 x1 x2 x3 x4 xo8 xs0 xs1).2.2.1, y ∈ pc.1.set :=
  View.cover_of_tiledL (kernelRun3_C c i arg1 harg1 arg2 harg2 arg3 harg3 arg4 harg4 arg5 harg5 arg6 harg6 arg7 harg7 arg8 harg8 arg9 harg9 arg10 harg10 arg11 harg11 hc0 hc1 x0 x1 x2 x3 x4 xo8 xs0 xs1).2.2.1 S1536x2560.size (by sl_kernel_rfl) y

/-- What case C leaves in output 7's staging buffer: its pieces read back over junk. -/
def out3_C_7 (c : Dev nD) (i : grid3.Coords) (arg1 : Memref sig .tc .vmem S1536x2560 .i8) (harg1 : arg1.IsWhole) (arg2 : Memref sig .tc .vmem S1536x1 .f32) (harg2 : arg2.IsWhole) (arg3 : Memref sig .tc .vmem S256x2560 .i8) (harg3 : arg3.IsWhole) (arg4 : Memref sig .tc .vmem S1x1x256 .f32) (harg4 : arg4.IsWhole) (arg5 : Memref sig .tc .vmem S1x1536x256 .bf16) (harg5 : arg5.IsWhole) (arg6 : Memref sig .tc .vmem S1x1536x256 .f32) (harg6 : arg6.IsWhole) (arg7 : Memref sig .tc .vmem S256x2560 .bf16) (harg7 : arg7.IsWhole) (arg8 : Memref sig .tc .vmem S1536x2560 .bf16) (harg8 : arg8.IsWhole) (arg9 : Memref sig .tc .vmem S8x256 .f32) (harg9 : arg9.IsWhole) (arg10 : Memref sig .tc .vmem S1536x2560 .bf16) (harg10 : arg10.IsWhole) (arg11 : Memref sig .tc .vmem S1536x2560 .f32) (harg11 : arg11.IsWhole) (hc0 : ¬cond3_0 i) (hc1 : cond3_1 i)
    (x0 : Vec F S1536x2560 .i8) (x1 : Vec F S1536x1 .f32) (x2 : Vec F S256x2560 .i8) (x3 : Vec F S1x1x256 .f32) (x4 : Vec F S1x1536x256 .bf16) (xo8 : Vec F S8x256 .f32) (xs0 : Vec F S1536x2560 .bf16) (xs1 : Vec F S1536x2560 .f32) : Vec F S1536x2560 .bf16 :=
  VO3_7.read (Elt F) (VO3_7.writes (Elt F) VO3_7.junk (kernelRun3_C c i arg1 harg1 arg2 harg2 arg3 harg3 arg4 harg4 arg5 harg5 arg6 harg6 arg7 harg7 arg8 harg8 arg9 harg9 arg10 harg10 arg11 harg11 hc0 hc1 x0 x1 x2 x3 x4 xo8 xs0 xs1).2.2.1)

/-- Case C's pieces for output 8 tile its block (1 store of `S8x256`, checked by the kernel's evaluation: Lib/Ring.lean `Piece.tiledL`, linear in the pieces, through a loop's `@[irreducible]` trip theorem too), so they cover it. -/
theorem cover3_C_8 (c : Dev nD) (i : grid3.Coords) (arg1 : Memref sig .tc .vmem S1536x2560 .i8) (harg1 : arg1.IsWhole) (arg2 : Memref sig .tc .vmem S1536x1 .f32) (harg2 : arg2.IsWhole) (arg3 : Memref sig .tc .vmem S256x2560 .i8) (harg3 : arg3.IsWhole) (arg4 : Memref sig .tc .vmem S1x1x256 .f32) (harg4 : arg4.IsWhole) (arg5 : Memref sig .tc .vmem S1x1536x256 .bf16) (harg5 : arg5.IsWhole) (arg6 : Memref sig .tc .vmem S1x1536x256 .f32) (harg6 : arg6.IsWhole) (arg7 : Memref sig .tc .vmem S256x2560 .bf16) (harg7 : arg7.IsWhole) (arg8 : Memref sig .tc .vmem S1536x2560 .bf16) (harg8 : arg8.IsWhole) (arg9 : Memref sig .tc .vmem S8x256 .f32) (harg9 : arg9.IsWhole) (arg10 : Memref sig .tc .vmem S1536x2560 .bf16) (harg10 : arg10.IsWhole) (arg11 : Memref sig .tc .vmem S1536x2560 .f32) (harg11 : arg11.IsWhole) (hc0 : ¬cond3_0 i) (hc1 : cond3_1 i)
    (x0 : Vec F S1536x2560 .i8) (x1 : Vec F S1536x1 .f32) (x2 : Vec F S256x2560 .i8) (x3 : Vec F S1x1x256 .f32) (x4 : Vec F S1x1536x256 .bf16) (xo8 : Vec F S8x256 .f32) (xs0 : Vec F S1536x2560 .bf16) (xs1 : Vec F S1536x2560 .f32) (y : S8x256.Idx) :
    ∃ pc ∈ (kernelRun3_C c i arg1 harg1 arg2 harg2 arg3 harg3 arg4 harg4 arg5 harg5 arg6 harg6 arg7 harg7 arg8 harg8 arg9 harg9 arg10 harg10 arg11 harg11 hc0 hc1 x0 x1 x2 x3 x4 xo8 xs0 xs1).2.2.2.1, y ∈ pc.1.set :=
  View.cover_of_tiledL (kernelRun3_C c i arg1 harg1 arg2 harg2 arg3 harg3 arg4 harg4 arg5 harg5 arg6 harg6 arg7 harg7 arg8 harg8 arg9 harg9 arg10 harg10 arg11 harg11 hc0 hc1 x0 x1 x2 x3 x4 xo8 xs0 xs1).2.2.2.1 S8x256.size (by sl_kernel_rfl) y

/-- What case C leaves in output 8's staging buffer: its pieces read back over junk. -/
def out3_C_8 (c : Dev nD) (i : grid3.Coords) (arg1 : Memref sig .tc .vmem S1536x2560 .i8) (harg1 : arg1.IsWhole) (arg2 : Memref sig .tc .vmem S1536x1 .f32) (harg2 : arg2.IsWhole) (arg3 : Memref sig .tc .vmem S256x2560 .i8) (harg3 : arg3.IsWhole) (arg4 : Memref sig .tc .vmem S1x1x256 .f32) (harg4 : arg4.IsWhole) (arg5 : Memref sig .tc .vmem S1x1536x256 .bf16) (harg5 : arg5.IsWhole) (arg6 : Memref sig .tc .vmem S1x1536x256 .f32) (harg6 : arg6.IsWhole) (arg7 : Memref sig .tc .vmem S256x2560 .bf16) (harg7 : arg7.IsWhole) (arg8 : Memref sig .tc .vmem S1536x2560 .bf16) (harg8 : arg8.IsWhole) (arg9 : Memref sig .tc .vmem S8x256 .f32) (harg9 : arg9.IsWhole) (arg10 : Memref sig .tc .vmem S1536x2560 .bf16) (harg10 : arg10.IsWhole) (arg11 : Memref sig .tc .vmem S1536x2560 .f32) (harg11 : arg11.IsWhole) (hc0 : ¬cond3_0 i) (hc1 : cond3_1 i)
    (x0 : Vec F S1536x2560 .i8) (x1 : Vec F S1536x1 .f32) (x2 : Vec F S256x2560 .i8) (x3 : Vec F S1x1x256 .f32) (x4 : Vec F S1x1536x256 .bf16) (xo8 : Vec F S8x256 .f32) (xs0 : Vec F S1536x2560 .bf16) (xs1 : Vec F S1536x2560 .f32) : Vec F S8x256 .f32 :=
  VO3_8.read (Elt F) (VO3_8.writes (Elt F) VO3_8.junk (kernelRun3_C c i arg1 harg1 arg2 harg2 arg3 harg3 arg4 harg4 arg5 harg5 arg6 harg6 arg7 harg7 arg8 harg8 arg9 harg9 arg10 harg10 arg11 harg11 hc0 hc1 x0 x1 x2 x3 x4 xo8 xs0 xs1).2.2.2.1)

/-- Case C stores nothing into scratch `arg10`: it holds what the point before left. -/
def sout3_C_0 (c : Dev nD) (i : grid3.Coords) (arg1 : Memref sig .tc .vmem S1536x2560 .i8) (harg1 : arg1.IsWhole) (arg2 : Memref sig .tc .vmem S1536x1 .f32) (harg2 : arg2.IsWhole) (arg3 : Memref sig .tc .vmem S256x2560 .i8) (harg3 : arg3.IsWhole) (arg4 : Memref sig .tc .vmem S1x1x256 .f32) (harg4 : arg4.IsWhole) (arg5 : Memref sig .tc .vmem S1x1536x256 .bf16) (harg5 : arg5.IsWhole) (arg6 : Memref sig .tc .vmem S1x1536x256 .f32) (harg6 : arg6.IsWhole) (arg7 : Memref sig .tc .vmem S256x2560 .bf16) (harg7 : arg7.IsWhole) (arg8 : Memref sig .tc .vmem S1536x2560 .bf16) (harg8 : arg8.IsWhole) (arg9 : Memref sig .tc .vmem S8x256 .f32) (harg9 : arg9.IsWhole) (arg10 : Memref sig .tc .vmem S1536x2560 .bf16) (harg10 : arg10.IsWhole) (arg11 : Memref sig .tc .vmem S1536x2560 .f32) (harg11 : arg11.IsWhole) (hc0 : ¬cond3_0 i) (hc1 : cond3_1 i)
    (x0 : Vec F S1536x2560 .i8) (x1 : Vec F S1536x1 .f32) (x2 : Vec F S256x2560 .i8) (x3 : Vec F S1x1x256 .f32) (x4 : Vec F S1x1536x256 .bf16) (xo8 : Vec F S8x256 .f32) (xs0 : Vec F S1536x2560 .bf16) (xs1 : Vec F S1536x2560 .f32) : Vec F S1536x2560 .bf16 := xs0

/-- Case C's pieces for scratch `arg11`, which the kernel carries between points, cover it: 1 piece of `S1536x2560` tiling it (Lib/Ring.lean `Piece.tiledL`). -/
theorem scover3_C_1 (c : Dev nD) (i : grid3.Coords) (arg1 : Memref sig .tc .vmem S1536x2560 .i8) (harg1 : arg1.IsWhole) (arg2 : Memref sig .tc .vmem S1536x1 .f32) (harg2 : arg2.IsWhole) (arg3 : Memref sig .tc .vmem S256x2560 .i8) (harg3 : arg3.IsWhole) (arg4 : Memref sig .tc .vmem S1x1x256 .f32) (harg4 : arg4.IsWhole) (arg5 : Memref sig .tc .vmem S1x1536x256 .bf16) (harg5 : arg5.IsWhole) (arg6 : Memref sig .tc .vmem S1x1536x256 .f32) (harg6 : arg6.IsWhole) (arg7 : Memref sig .tc .vmem S256x2560 .bf16) (harg7 : arg7.IsWhole) (arg8 : Memref sig .tc .vmem S1536x2560 .bf16) (harg8 : arg8.IsWhole) (arg9 : Memref sig .tc .vmem S8x256 .f32) (harg9 : arg9.IsWhole) (arg10 : Memref sig .tc .vmem S1536x2560 .bf16) (harg10 : arg10.IsWhole) (arg11 : Memref sig .tc .vmem S1536x2560 .f32) (harg11 : arg11.IsWhole) (hc0 : ¬cond3_0 i) (hc1 : cond3_1 i)
    (x0 : Vec F S1536x2560 .i8) (x1 : Vec F S1536x1 .f32) (x2 : Vec F S256x2560 .i8) (x3 : Vec F S1x1x256 .f32) (x4 : Vec F S1x1536x256 .bf16) (xo8 : Vec F S8x256 .f32) (xs0 : Vec F S1536x2560 .bf16) (xs1 : Vec F S1536x2560 .f32) (y : S1536x2560.Idx) :
    ∃ pc ∈ (kernelRun3_C c i arg1 harg1 arg2 harg2 arg3 harg3 arg4 harg4 arg5 harg5 arg6 harg6 arg7 harg7 arg8 harg8 arg9 harg9 arg10 harg10 arg11 harg11 hc0 hc1 x0 x1 x2 x3 x4 xo8 xs0 xs1).2.2.2.2.2.1, y ∈ pc.1.set :=
  View.cover_of_tiledL (kernelRun3_C c i arg1 harg1 arg2 harg2 arg3 harg3 arg4 harg4 arg5 harg5 arg6 harg6 arg7 harg7 arg8 harg8 arg9 harg9 arg10 harg10 arg11 harg11 hc0 hc1 x0 x1 x2 x3 x4 xo8 xs0 xs1).2.2.2.2.2.1 S1536x2560.size (by sl_kernel_rfl) y

/-- What case C leaves in scratch `arg11`: its pieces read back over junk. -/
def sout3_C_1 (c : Dev nD) (i : grid3.Coords) (arg1 : Memref sig .tc .vmem S1536x2560 .i8) (harg1 : arg1.IsWhole) (arg2 : Memref sig .tc .vmem S1536x1 .f32) (harg2 : arg2.IsWhole) (arg3 : Memref sig .tc .vmem S256x2560 .i8) (harg3 : arg3.IsWhole) (arg4 : Memref sig .tc .vmem S1x1x256 .f32) (harg4 : arg4.IsWhole) (arg5 : Memref sig .tc .vmem S1x1536x256 .bf16) (harg5 : arg5.IsWhole) (arg6 : Memref sig .tc .vmem S1x1536x256 .f32) (harg6 : arg6.IsWhole) (arg7 : Memref sig .tc .vmem S256x2560 .bf16) (harg7 : arg7.IsWhole) (arg8 : Memref sig .tc .vmem S1536x2560 .bf16) (harg8 : arg8.IsWhole) (arg9 : Memref sig .tc .vmem S8x256 .f32) (harg9 : arg9.IsWhole) (arg10 : Memref sig .tc .vmem S1536x2560 .bf16) (harg10 : arg10.IsWhole) (arg11 : Memref sig .tc .vmem S1536x2560 .f32) (harg11 : arg11.IsWhole) (hc0 : ¬cond3_0 i) (hc1 : cond3_1 i)
    (x0 : Vec F S1536x2560 .i8) (x1 : Vec F S1536x1 .f32) (x2 : Vec F S256x2560 .i8) (x3 : Vec F S1x1x256 .f32) (x4 : Vec F S1x1536x256 .bf16) (xo8 : Vec F S8x256 .f32) (xs0 : Vec F S1536x2560 .bf16) (xs1 : Vec F S1536x2560 .f32) : Vec F S1536x2560 .f32 :=
  VS3_1.read (Elt F) (VS3_1.writes (Elt F) VS3_1.junk (kernelRun3_C c i arg1 harg1 arg2 harg2 arg3 harg3 arg4 harg4 arg5 harg5 arg6 harg6 arg7 harg7 arg8 harg8 arg9 harg9 arg10 harg10 arg11 harg11 hc0 hc1 x0 x1 x2 x3 x4 xo8 xs0 xs1).2.2.2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before3_W_κ`). An assignment of the conditions no point meets is no case (`False.elim`). -/
def outsAt3 (c : Dev nD) : (n : ℕ) → n < cfg3.N → Vec F S1x1536x256 .f32 × Vec F S256x2560 .bf16 × Vec F S1536x2560 .bf16 × Vec F S8x256 .f32 × Vec F S1536x2560 .bf16 × Vec F S1536x2560 .f32
  | 0, hn => (out3_A_5 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) (ms3_8 ⟨0, hn⟩) (hs3_8 ⟨0, hn⟩) scM3_0 (Memref.isWhole_whole _) scM3_1 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩), out3_A_6 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) (ms3_8 ⟨0, hn⟩) (hs3_8 ⟨0, hn⟩) scM3_0 (Memref.isWhole_whole _) scM3_1 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩), out3_A_7 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) (ms3_8 ⟨0, hn⟩) (hs3_8 ⟨0, hn⟩) scM3_0 (Memref.isWhole_whole _) scM3_1 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩), out3_A_8 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) (ms3_8 ⟨0, hn⟩) (hs3_8 ⟨0, hn⟩) scM3_0 (Memref.isWhole_whole _) scM3_1 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) (ms3_8 ⟨0, hn⟩) (hs3_8 ⟨0, hn⟩) scM3_0 (Memref.isWhole_whole _) scM3_1 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩), sout3_A_1 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) (ms3_8 ⟨0, hn⟩) (hs3_8 ⟨0, hn⟩) scM3_0 (Memref.isWhole_whole _) scM3_1 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩))
  | n + 1, hn =>
    if h0 : (n + 1) % 72 = 0 then
      if h1 : (n + 1) % 72 = 71 then
        False.elim (by have hN : n + 1 < 72 := lt_of_lt_of_eq hn (show cfg3.N = 72 from N_3); omega)
      else
        (out3_A_5 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) scM3_0 (Memref.isWhole_whole _) scM3_1 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩), out3_A_6 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) scM3_0 (Memref.isWhole_whole _) scM3_1 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩), out3_A_7 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) scM3_0 (Memref.isWhole_whole _) scM3_1 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩), out3_A_8 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) scM3_0 (Memref.isWhole_whole _) scM3_1 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) scM3_0 (Memref.isWhole_whole _) scM3_1 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩), sout3_A_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) scM3_0 (Memref.isWhole_whole _) scM3_1 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩))
    else
      if h1 : (n + 1) % 72 = 71 then
        (out3_C_5 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) scM3_0 (Memref.isWhole_whole _) scM3_1 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2.2.2.1 (outsAt3 c n (Nat.lt_of_succ_lt hn)).2.2.2.2.1 (outsAt3 c n (Nat.lt_of_succ_lt hn)).2.2.2.2.2, out3_C_6 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) scM3_0 (Memref.isWhole_whole _) scM3_1 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2.2.2.1 (outsAt3 c n (Nat.lt_of_succ_lt hn)).2.2.2.2.1 (outsAt3 c n (Nat.lt_of_succ_lt hn)).2.2.2.2.2, out3_C_7 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) scM3_0 (Memref.isWhole_whole _) scM3_1 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2.2.2.1 (outsAt3 c n (Nat.lt_of_succ_lt hn)).2.2.2.2.1 (outsAt3 c n (Nat.lt_of_succ_lt hn)).2.2.2.2.2, out3_C_8 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) scM3_0 (Memref.isWhole_whole _) scM3_1 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2.2.2.1 (outsAt3 c n (Nat.lt_of_succ_lt hn)).2.2.2.2.1 (outsAt3 c n (Nat.lt_of_succ_lt hn)).2.2.2.2.2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) scM3_0 (Memref.isWhole_whole _) scM3_1 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2.2.2.1 (outsAt3 c n (Nat.lt_of_succ_lt hn)).2.2.2.2.1 (outsAt3 c n (Nat.lt_of_succ_lt hn)).2.2.2.2.2, sout3_C_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) scM3_0 (Memref.isWhole_whole _) scM3_1 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2.2.2.1 (outsAt3 c n (Nat.lt_of_succ_lt hn)).2.2.2.2.1 (outsAt3 c n (Nat.lt_of_succ_lt hn)).2.2.2.2.2)
      else
        (out3_B_5 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) scM3_0 (Memref.isWhole_whole _) scM3_1 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2.2.2.1 (outsAt3 c n (Nat.lt_of_succ_lt hn)).2.2.2.2.1 (outsAt3 c n (Nat.lt_of_succ_lt hn)).2.2.2.2.2, out3_B_6 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) scM3_0 (Memref.isWhole_whole _) scM3_1 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2.2.2.1 (outsAt3 c n (Nat.lt_of_succ_lt hn)).2.2.2.2.1 (outsAt3 c n (Nat.lt_of_succ_lt hn)).2.2.2.2.2, out3_B_7 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) scM3_0 (Memref.isWhole_whole _) scM3_1 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2.2.2.1 (outsAt3 c n (Nat.lt_of_succ_lt hn)).2.2.2.2.1 (outsAt3 c n (Nat.lt_of_succ_lt hn)).2.2.2.2.2, out3_B_8 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) scM3_0 (Memref.isWhole_whole _) scM3_1 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2.2.2.1 (outsAt3 c n (Nat.lt_of_succ_lt hn)).2.2.2.2.1 (outsAt3 c n (Nat.lt_of_succ_lt hn)).2.2.2.2.2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) scM3_0 (Memref.isWhole_whole _) scM3_1 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2.2.2.1 (outsAt3 c n (Nat.lt_of_succ_lt hn)).2.2.2.2.1 (outsAt3 c n (Nat.lt_of_succ_lt hn)).2.2.2.2.2, sout3_B_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) scM3_0 (Memref.isWhole_whole _) scM3_1 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2.2.2.1 (outsAt3 c n (Nat.lt_of_succ_lt hn)).2.2.2.2.1 (outsAt3 c n (Nat.lt_of_succ_lt hn)).2.2.2.2.2)

/-- `outsAt3` at a point of case A: that case's contents. -/
theorem outsAt3_A (c : Dev nD) (t : Fin cfg3.N) (h0 : t.val % 72 = 0) (h1 : ¬t.val % 72 = 71) :
    outsAt3 V c t.val t.isLt = (out3_A_5 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t), out3_A_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t), out3_A_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t), out3_A_8 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t), sout3_A_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t), sout3_A_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t)) := by
  obtain ⟨n, hn⟩ := t
  cases n with
  | zero => exact rfl
  | succ n => exact (dif_pos h0).trans ((dif_neg h1).trans rfl)

/-- `outsAt3` at a point of case B: that case's contents, over what the point before left. -/
theorem outsAt3_B (c : Dev nD) (t : Fin cfg3.N) (h0 : ¬t.val % 72 = 0) (h1 : ¬t.val % 72 = 71) :
    outsAt3 V c t.val t.isLt = (out3_B_5 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (outsAt3 V c (t.val - 1) (Nat.lt_of_le_of_lt (Nat.sub_le _ _) t.isLt)).2.2.2.1 (outsAt3 V c (t.val - 1) (Nat.lt_of_le_of_lt (Nat.sub_le _ _) t.isLt)).2.2.2.2.1 (outsAt3 V c (t.val - 1) (Nat.lt_of_le_of_lt (Nat.sub_le _ _) t.isLt)).2.2.2.2.2, out3_B_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (outsAt3 V c (t.val - 1) (Nat.lt_of_le_of_lt (Nat.sub_le _ _) t.isLt)).2.2.2.1 (outsAt3 V c (t.val - 1) (Nat.lt_of_le_of_lt (Nat.sub_le _ _) t.isLt)).2.2.2.2.1 (outsAt3 V c (t.val - 1) (Nat.lt_of_le_of_lt (Nat.sub_le _ _) t.isLt)).2.2.2.2.2, out3_B_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (outsAt3 V c (t.val - 1) (Nat.lt_of_le_of_lt (Nat.sub_le _ _) t.isLt)).2.2.2.1 (outsAt3 V c (t.val - 1) (Nat.lt_of_le_of_lt (Nat.sub_le _ _) t.isLt)).2.2.2.2.1 (outsAt3 V c (t.val - 1) (Nat.lt_of_le_of_lt (Nat.sub_le _ _) t.isLt)).2.2.2.2.2, out3_B_8 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (outsAt3 V c (t.val - 1) (Nat.lt_of_le_of_lt (Nat.sub_le _ _) t.isLt)).2.2.2.1 (outsAt3 V c (t.val - 1) (Nat.lt_of_le_of_lt (Nat.sub_le _ _) t.isLt)).2.2.2.2.1 (outsAt3 V c (t.val - 1) (Nat.lt_of_le_of_lt (Nat.sub_le _ _) t.isLt)).2.2.2.2.2, sout3_B_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (outsAt3 V c (t.val - 1) (Nat.lt_of_le_of_lt (Nat.sub_le _ _) t.isLt)).2.2.2.1 (outsAt3 V c (t.val - 1) (Nat.lt_of_le_of_lt (Nat.sub_le _ _) t.isLt)).2.2.2.2.1 (outsAt3 V c (t.val - 1) (Nat.lt_of_le_of_lt (Nat.sub_le _ _) t.isLt)).2.2.2.2.2, sout3_B_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (outsAt3 V c (t.val - 1) (Nat.lt_of_le_of_lt (Nat.sub_le _ _) t.isLt)).2.2.2.1 (outsAt3 V c (t.val - 1) (Nat.lt_of_le_of_lt (Nat.sub_le _ _) t.isLt)).2.2.2.2.1 (outsAt3 V c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt3` at a point of case C: that case's contents, over what the point before left. -/
theorem outsAt3_C (c : Dev nD) (t : Fin cfg3.N) (h0 : ¬t.val % 72 = 0) (h1 : t.val % 72 = 71) :
    outsAt3 V c t.val t.isLt = (out3_C_5 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (outsAt3 V c (t.val - 1) (Nat.lt_of_le_of_lt (Nat.sub_le _ _) t.isLt)).2.2.2.1 (outsAt3 V c (t.val - 1) (Nat.lt_of_le_of_lt (Nat.sub_le _ _) t.isLt)).2.2.2.2.1 (outsAt3 V c (t.val - 1) (Nat.lt_of_le_of_lt (Nat.sub_le _ _) t.isLt)).2.2.2.2.2, out3_C_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (outsAt3 V c (t.val - 1) (Nat.lt_of_le_of_lt (Nat.sub_le _ _) t.isLt)).2.2.2.1 (outsAt3 V c (t.val - 1) (Nat.lt_of_le_of_lt (Nat.sub_le _ _) t.isLt)).2.2.2.2.1 (outsAt3 V c (t.val - 1) (Nat.lt_of_le_of_lt (Nat.sub_le _ _) t.isLt)).2.2.2.2.2, out3_C_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (outsAt3 V c (t.val - 1) (Nat.lt_of_le_of_lt (Nat.sub_le _ _) t.isLt)).2.2.2.1 (outsAt3 V c (t.val - 1) (Nat.lt_of_le_of_lt (Nat.sub_le _ _) t.isLt)).2.2.2.2.1 (outsAt3 V c (t.val - 1) (Nat.lt_of_le_of_lt (Nat.sub_le _ _) t.isLt)).2.2.2.2.2, out3_C_8 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (outsAt3 V c (t.val - 1) (Nat.lt_of_le_of_lt (Nat.sub_le _ _) t.isLt)).2.2.2.1 (outsAt3 V c (t.val - 1) (Nat.lt_of_le_of_lt (Nat.sub_le _ _) t.isLt)).2.2.2.2.1 (outsAt3 V c (t.val - 1) (Nat.lt_of_le_of_lt (Nat.sub_le _ _) t.isLt)).2.2.2.2.2, sout3_C_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (outsAt3 V c (t.val - 1) (Nat.lt_of_le_of_lt (Nat.sub_le _ _) t.isLt)).2.2.2.1 (outsAt3 V c (t.val - 1) (Nat.lt_of_le_of_lt (Nat.sub_le _ _) t.isLt)).2.2.2.2.1 (outsAt3 V c (t.val - 1) (Nat.lt_of_le_of_lt (Nat.sub_le _ _) t.isLt)).2.2.2.2.2, sout3_C_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (outsAt3 V c (t.val - 1) (Nat.lt_of_le_of_lt (Nat.sub_le _ _) t.isLt)).2.2.2.1 (outsAt3 V c (t.val - 1) (Nat.lt_of_le_of_lt (Nat.sub_le _ _) t.isLt)).2.2.2.2.1 (outsAt3 V c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt3`'s scratch components), the others at anything, and the generator register
    at some state. -/
def PhiS (c : Dev nD) : (n : ℕ) → n ≤ cfg3.N → sProp 𝕄
  | 0, _ => Pipeline.ΦA spec3 c
  | n + 1, hn => iprop(iprop(owns (c : Thread nD τ) scM3_0 fullShare ((outsAt3 V c n hn).2.2.2.2.1) ∗ owns (c : Thread nD τ) scM3_1 fullShare ((outsAt3 V c n hn).2.2.2.2.2) ∗ Pipeline.scopedRestBut spec3 c [cc3_scratch0, cc3_scratch1]) ∗ (∃ r, prngReg c r))

theorem PhiS_zero (c : Dev nD) (n : ℕ) (h : n ≤ cfg3.N) (hz : n = 0) : PhiS V c n h = Pipeline.ΦA spec3 c := by
  subst hz; rfl

/-- After point `n` (before point `n + 1`): the carried scratch at that point's contents. -/
theorem PhiS_succ (c : Dev nD) (n : ℕ) (hn : n < cfg3.N) :
    PhiS V c (n + 1) hn = iprop(iprop(owns (c : Thread nD τ) scM3_0 fullShare ((outsAt3 V c n hn).2.2.2.2.1) ∗ owns (c : Thread nD τ) scM3_1 fullShare ((outsAt3 V c n hn).2.2.2.2.2) ∗ Pipeline.scopedRestBut spec3 c [cc3_scratch0, cc3_scratch1]) ∗ (∃ r, prngReg c r)) := rfl

/-- Before a point that is not the first: the carried scratch at what the point before left. -/
theorem PhiS_pos (c : Dev nD) (n : ℕ) (h : n ≤ cfg3.N) (hz : n ≠ 0) :
    PhiS V c n h = iprop(iprop(owns (c : Thread nD τ) scM3_0 fullShare ((outsAt3 V c (n - 1) (by omega)).2.2.2.2.1) ∗ owns (c : Thread nD τ) scM3_1 fullShare ((outsAt3 V c (n - 1) (by omega)).2.2.2.2.2) ∗ Pipeline.scopedRestBut spec3 c [cc3_scratch0, cc3_scratch1]) ∗ (∃ r, prngReg c r)) := by
  cases n with
  | zero => exact absurd rfl hz
  | succ n => rfl

/-! ## The pipeline's proof data -/

/-- The proof data of pipeline 3 on core `c`: the arrays as the region finds them (`V`); after the body at
    point `t` each input's buffer at its block and the outputs' at `outsAt3`; the invariant the class's
    (`PhiS`: the class's `ΦA` before the first point, then the scoped rest with the carried scratch at `outsAt3`'s component);
    nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => (outsAt3 V c t.val t.isLt).1
    | ⟨6, _⟩ => (outsAt3 V c t.val t.isLt).2.1
    | ⟨7, _⟩ => (outsAt3 V c t.val t.isLt).2.2.1
    | ⟨8, _⟩ => (outsAt3 V c t.val t.isLt).2.2.2.1
  Φ t := PhiS V c t.val (Nat.le_of_lt_succ t.isLt)
  q _ := fullShare
  owed _ := 0

/-- The proof data's arrays are the region-entry contents, by projecting the definition (`dsimp`): a region record cites
    this for its arrays rather than have Lean unfold `V`, the fold through @main up to the region's entry. -/
theorem A_eq3 (c : Dev nD) (w : Fin cfg3.W) : (dat3 V c).A w = V c (Pipeline.arrRef spec3 w) := by
  dsimp only [dat3]

/-- The invariant at a point's start (the proof data at `t.castSucc`), restated at `t.val`. -/
theorem PhiS_castSucc (c : Dev nD) (t : Fin cfg3.N) :
    (dat3 V c).Φ t.castSucc = PhiS V c t.val (Nat.le_of_lt t.isLt) := by
  dsimp only [dat3]; exact Pipeline.Dat.Φ_castSucc (PhiS V c) t

/-- What the body leaves, window by window (the proof data's `match` reduced by `dsimp`). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = (outsAt3 V c t.val t.isLt).1 := by dsimp only [dat3]
theorem after3_6 (c : Dev nD) (t : Fin cfg3.N) : (dat3 V c).after 6 t = (outsAt3 V c t.val t.isLt).2.1 := by dsimp only [dat3]
theorem after3_7 (c : Dev nD) (t : Fin cfg3.N) : (dat3 V c).after 7 t = (outsAt3 V c t.val t.isLt).2.2.1 := by dsimp only [dat3]
theorem after3_8 (c : Dev nD) (t : Fin cfg3.N) : (dat3 V c).after 8 t = (outsAt3 V c t.val t.isLt).2.2.2.1 := by dsimp only [dat3]

/-- Each input's current staging buffer holds its block at every point, fetched there or not (`beforeK_W_of`). -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
/-- At a point of case B output 8's current staging buffer holds what the body left at the point before: the point is
    not the first, the buffer was not written back between (`flush3_8`), the window is live and uncut (Lib/Pipeline/Frame.lean
    `Dat.before_out_kept`). -/
theorem before3_8_B (c : Dev nD) (t : Fin cfg3.N) (h0 : ¬t.val % 72 = 0) (h1 : ¬t.val % 72 = 71) (d) :
    (dat3 V c).before 8 t d = (outsAt3 V c (t.val - 1) (Nat.lt_of_le_of_lt (Nat.sub_le _ _) t.isLt)).2.2.2.1 := by
  have hN : t.val < 72 := lt_of_lt_of_eq t.isLt (show cfg3.N = 72 from N_3)
  rw [Dat.before_out_kept _ 8 rfl t (by omega) (Bool.eq_false_iff.mpr fun h => by have := (flush3_8 _).mp h; dsimp only at this; omega)
    (fun _ => rfl) (fun _ _ => rfl)]
  dsimp only [dat3]
/-- At a point of case C output 8's current staging buffer holds what the body left at the point before: the point is
    not the first, the buffer was not written back between (`flush3_8`), the window is live and uncut (Lib/Pipeline/Frame.lean
    `Dat.before_out_kept`). -/
theorem before3_8_C (c : Dev nD) (t : Fin cfg3.N) (h0 : ¬t.val % 72 = 0) (h1 : t.val % 72 = 71) (d) :
    (dat3 V c).before 8 t d = (outsAt3 V c (t.val - 1) (Nat.lt_of_le_of_lt (Nat.sub_le _ _) t.isLt)).2.2.2.1 := by
  have hN : t.val < 72 := lt_of_lt_of_eq t.isLt (show cfg3.N = 72 from N_3)
  rw [Dat.before_out_kept _ 8 rfl t (by omega) (Bool.eq_false_iff.mpr fun h => by have := (flush3_8 _).mp h; dsimp only at this; omega)
    (fun _ => rfl) (fun _ _ => rfl)]
  dsimp only [dat3]

/-! ## The body obligation, at a generic point -/

/-- What the body is called with at point `t` (Lib/Pipeline.lean `BodyObligation`'s precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d))
    ∗ (∃ d, owns (c : Thread nD τ) (ms3_8 t) fullShare ((dat3 V c).before 8 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t
    ∗ (dat3 V c).leavesExact 8 t)

set_option maxHeartbeats 9600000 in
/-- The body at any point: the inputs' memrefs hold their blocks (`before3_W`); the closed forms say which case the point is in (`by_cases`), an output the case reads before covering holds what the point before left (`before3_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl]
  rw [show (dat3 V c).Φ t.succ = PhiS V c (t.val + 1) t.isLt from rfl, PhiS_succ]
  have hN : t.val < 72 := lt_of_lt_of_eq t.isLt (show cfg3.N = 72 from N_3)
  by_cases h0 : t.val % 72 = 0
  · by_cases h1 : t.val % 72 = 71
    · exfalso; omega
    · rw [show (dat3 V c).leavesExact 0 t = owns (c : Thread nD τ) (ms3_0 t) fullShare ((dat3 V c).after 0 t) from by
      unfold Dat.leavesExact; rw [liveAt3_0 t], after3_0]
      rw [show (dat3 V c).leavesExact 1 t = owns (c : Thread nD τ) (ms3_1 t) fullShare ((dat3 V c).after 1 t) from by
      unfold Dat.leavesExact; rw [liveAt3_1 t], after3_1]
      rw [show (dat3 V c).leavesExact 2 t = owns (c : Thread nD τ) (ms3_2 t) fullShare ((dat3 V c).after 2 t) from by
      unfold Dat.leavesExact; rw [liveAt3_2 t], after3_2]
      rw [show (dat3 V c).leavesExact 3 t = owns (c : Thread nD τ) (ms3_3 t) fullShare ((dat3 V c).after 3 t) from by
      unfold Dat.leavesExact; rw [liveAt3_3 t], after3_3]
      rw [show (dat3 V c).leavesExact 4 t = owns (c : Thread nD τ) (ms3_4 t) fullShare ((dat3 V c).after 4 t) from by
      unfold Dat.leavesExact; rw [liveAt3_4 t], after3_4]
      rw [show (dat3 V c).leavesExact 5 t = owns (c : Thread nD τ) (ms3_5 t) fullShare ((dat3 V c).after 5 t) from by
      unfold Dat.leavesExact; rw [liveAt3_5 t], after3_5]
      rw [show (dat3 V c).leavesExact 6 t = owns (c : Thread nD τ) (ms3_6 t) fullShare ((dat3 V c).after 6 t) from by
      unfold Dat.leavesExact; rw [liveAt3_6 t], after3_6]
      rw [Dat.leavesExact_idle (dat3 V c) 7 t (idleAt3_7_A t ((hcond3_0 t).mpr h0) (fun h => h1 ((hcond3_1 t).mp h))) (noFlush3_7_A t ((hcond3_0 t).mpr h0) (fun h => h1 ((hcond3_1 t).mp h)))]
      rw [show (dat3 V c).leavesExact 8 t = owns (c : Thread nD τ) (ms3_8 t) fullShare ((dat3 V c).after 8 t) from by
      unfold Dat.leavesExact; rw [liveAt3_8 t], after3_8]
      by_cases hz : t.val = 0
      · rw [PhiS_castSucc V c t, PhiS_zero V c _ _ hz, PhiA3_eq]
        rw [outsAt3_A V c t h0 h1]
        unfold out3_A_5 out3_A_6 out3_A_8 sout3_A_0 sout3_A_1; (try dsimp only)
        iintro ⟨⟨⟨HS0, HS1, HR2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun3_A c (grid3.coords t) _ _ _ _ _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t)).2.2.2.2.2.2 _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexact H7
        isplitl [H8]; · iexists _; iexact H8
        isplitl [HS0]; · iexact HS0
        isplitl [HS1]; · iexact HS1
        iintro ⟨H0, H1, H2, H3, H4, ⟨%e5, H5⟩, ⟨%e6, H6⟩, H7, ⟨%e8, H8⟩, ⟨%es0, HS0⟩, ⟨%es1, HS1⟩⟩
        isplitl [HS0 HS1 HR2 Hg]
        · isplitl [HS0 HS1 HR2]
          · isplitl [HS0]
            · unfold owns; iexists _; isplitr
              swap; · iexact HS0
              ipureintro; exact View.read_writes_of_cover _ _ _ _ _ (scover3_A_0 c _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover3_A_1 c _ _ _ _ _ _ _ _ _ _ _ _ _ _ _ _ _ _ _ _ _ _ _ _ _ _ _ _ _ _)
            iexact HR2
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover3_A_5 c _ _ _ _ _ _ _ _ _ _ _ _ _ _ _ _ _ _ _ _ _ _ _ _ _ _ _ _ _ _)
        isplitl [H6]
        · unfold owns; iexists _; isplitr
          swap; · iexact H6
          ipureintro; exact View.read_writes_of_cover _ _ _ _ _ (cover3_A_6 c _ _ _ _ _ _ _ _ _ _ _ _ _ _ _ _ _ _ _ _ _ _ _ _ _ _ _ _ _ _)
        isplitl [H7]; · iexists _; iexact H7
        unfold owns; iexists _; isplitr
        swap; · iexact H8
        ipureintro; exact View.read_writes_of_cover _ _ _ _ _ (cover3_A_8 c _ _ _ _ _ _ _ _ _ _ _ _ _ _ _ _ _ _ _ _ _ _ _ _ _ _ _ _ _ _)
      · exfalso; have hN : t.val < 72 := lt_of_lt_of_eq t.isLt (show cfg3.N = 72 from N_3); omega
  · by_cases h1 : t.val % 72 = 71
    · rw [show (dat3 V c).leavesExact 0 t = owns (c : Thread nD τ) (ms3_0 t) fullShare ((dat3 V c).after 0 t) from by
      unfold Dat.leavesExact; rw [liveAt3_0 t], after3_0]
      rw [show (dat3 V c).leavesExact 1 t = owns (c : Thread nD τ) (ms3_1 t) fullShare ((dat3 V c).after 1 t) from by
      unfold Dat.leavesExact; rw [liveAt3_1 t], after3_1]
      rw [show (dat3 V c).leavesExact 2 t = owns (c : Thread nD τ) (ms3_2 t) fullShare ((dat3 V c).after 2 t) from by
      unfold Dat.leavesExact; rw [liveAt3_2 t], after3_2]
      rw [show (dat3 V c).leavesExact 3 t = owns (c : Thread nD τ) (ms3_3 t) fullShare ((dat3 V c).after 3 t) from by
      unfold Dat.leavesExact; rw [liveAt3_3 t], after3_3]
      rw [show (dat3 V c).leavesExact 4 t = owns (c : Thread nD τ) (ms3_4 t) fullShare ((dat3 V c).after 4 t) from by
      unfold Dat.leavesExact; rw [liveAt3_4 t], after3_4]
      rw [show (dat3 V c).leavesExact 5 t = owns (c : Thread nD τ) (ms3_5 t) fullShare ((dat3 V c).after 5 t) from by
      unfold Dat.leavesExact; rw [liveAt3_5 t], after3_5]
      rw [show (dat3 V c).leavesExact 6 t = owns (c : Thread nD τ) (ms3_6 t) fullShare ((dat3 V c).after 6 t) from by
      unfold Dat.leavesExact; rw [liveAt3_6 t], after3_6]
      rw [show (dat3 V c).leavesExact 7 t = owns (c : Thread nD τ) (ms3_7 t) fullShare ((dat3 V c).after 7 t) from by
      unfold Dat.leavesExact; rw [liveAt3_7_C t (fun h => h0 ((hcond3_0 t).mp h)) ((hcond3_1 t).mpr h1)], after3_7]
      rw [show (dat3 V c).leavesExact 8 t = owns (c : Thread nD τ) (ms3_8 t) fullShare ((dat3 V c).after 8 t) from by
      unfold Dat.leavesExact; rw [liveAt3_8 t], after3_8]
      by_cases hz : t.val = 0
      · exfalso; have hN : t.val < 72 := lt_of_lt_of_eq t.isLt (show cfg3.N = 72 from N_3); omega
      · rw [PhiS_castSucc V c t, PhiS_pos V c _ _ hz]
        rw [outsAt3_C V c t h0 h1]
        simp only [before3_8_C V c t h0 h1]
        unfold out3_C_5 out3_C_6 out3_C_7 out3_C_8 sout3_C_0 sout3_C_1; (try dsimp only)
        iintro ⟨⟨⟨HS0, HS1, HR2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun3_C c (grid3.coords t) _ _ _ _ _ _ _ _ _ _ _ _ _ _ _ _ _ _ _ _ _ _ (fun h => h0 ((hcond3_0 t).mp h)) ((hcond3_1 t).mpr h1) (iblk3 V c 0 t) (iblk3 V c 1 t) (iblk3 V c 2 t) (iblk3 V c 3 t) (iblk3 V c 4 t) _ _ _).2.2.2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexists _; iexact H7
        isplitl [H8]; · iexact H8
        isplitl [HS0]; · iexact HS0
        isplitl [HS1]; · iexact HS1
        iintro ⟨H0, H1, H2, H3, H4, ⟨%e5, H5⟩, ⟨%e6, H6⟩, ⟨%e7, H7⟩, ⟨%e8, H8⟩, HS0, ⟨%es1, HS1⟩⟩
        isplitl [HS0 HS1 HR2 Hg]
        · isplitl [HS0 HS1 HR2]
          · isplitl [HS0]
            · iexact HS0
            isplitl [HS1]
            · unfold owns; iexists _; isplitr
              swap; · iexact HS1
              ipureintro; exact View.read_writes_of_cover _ _ _ _ _ (scover3_C_1 c _ _ _ _ _ _ _ _ _ _ _ _ _ _ _ _ _ _ _ _ _ _ _ _ _ _ _ _ _ _ _ _ _)
            iexact HR2
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover3_C_5 c _ _ _ _ _ _ _ _ _ _ _ _ _ _ _ _ _ _ _ _ _ _ _ _ _ _ _ _ _ _ _ _ _)
        isplitl [H6]
        · unfold owns; iexists _; isplitr
          swap; · iexact H6
          ipureintro; exact View.read_writes_of_cover _ _ _ _ _ (cover3_C_6 c _ _ _ _ _ _ _ _ _ _ _ _ _ _ _ _ _ _ _ _ _ _ _ _ _ _ _ _ _ _ _ _ _)
        isplitl [H7]
        · unfold owns; iexists _; isplitr
          swap; · iexact H7
          ipureintro; exact View.read_writes_of_cover _ _ _ _ _ (cover3_C_7 c _ _ _ _ _ _ _ _ _ _ _ _ _ _ _ _ _ _ _ _ _ _ _ _ _ _ _ _ _ _ _ _ _)
        unfold owns; iexists _; isplitr
        swap; · iexact H8
        ipureintro; exact View.read_writes_of_cover _ _ _ _ _ (cover3_C_8 c _ _ _ _ _ _ _ _ _ _ _ _ _ _ _ _ _ _ _ _ _ _ _ _ _ _ _ _ _ _ _ _ _)
    · rw [show (dat3 V c).leavesExact 0 t = owns (c : Thread nD τ) (ms3_0 t) fullShare ((dat3 V c).after 0 t) from by
      unfold Dat.leavesExact; rw [liveAt3_0 t], after3_0]
      rw [show (dat3 V c).leavesExact 1 t = owns (c : Thread nD τ) (ms3_1 t) fullShare ((dat3 V c).after 1 t) from by
      unfold Dat.leavesExact; rw [liveAt3_1 t], after3_1]
      rw [show (dat3 V c).leavesExact 2 t = owns (c : Thread nD τ) (ms3_2 t) fullShare ((dat3 V c).after 2 t) from by
      unfold Dat.leavesExact; rw [liveAt3_2 t], after3_2]
      rw [show (dat3 V c).leavesExact 3 t = owns (c : Thread nD τ) (ms3_3 t) fullShare ((dat3 V c).after 3 t) from by
      unfold Dat.leavesExact; rw [liveAt3_3 t], after3_3]
      rw [show (dat3 V c).leavesExact 4 t = owns (c : Thread nD τ) (ms3_4 t) fullShare ((dat3 V c).after 4 t) from by
      unfold Dat.leavesExact; rw [liveAt3_4 t], after3_4]
      rw [show (dat3 V c).leavesExact 5 t = owns (c : Thread nD τ) (ms3_5 t) fullShare ((dat3 V c).after 5 t) from by
      unfold Dat.leavesExact; rw [liveAt3_5 t], after3_5]
      rw [show (dat3 V c).leavesExact 6 t = owns (c : Thread nD τ) (ms3_6 t) fullShare ((dat3 V c).after 6 t) from by
      unfold Dat.leavesExact; rw [liveAt3_6 t], after3_6]
      rw [Dat.leavesExact_idle (dat3 V c) 7 t (idleAt3_7_B t (fun h => h0 ((hcond3_0 t).mp h)) (fun h => h1 ((hcond3_1 t).mp h))) (noFlush3_7_B t (fun h => h0 ((hcond3_0 t).mp h)) (fun h => h1 ((hcond3_1 t).mp h)))]
      rw [show (dat3 V c).leavesExact 8 t = owns (c : Thread nD τ) (ms3_8 t) fullShare ((dat3 V c).after 8 t) from by
      unfold Dat.leavesExact; rw [liveAt3_8 t], after3_8]
      by_cases hz : t.val = 0
      · exfalso; have hN : t.val < 72 := lt_of_lt_of_eq t.isLt (show cfg3.N = 72 from N_3); omega
      · rw [PhiS_castSucc V c t, PhiS_pos V c _ _ hz]
        rw [outsAt3_B V c t h0 h1]
        simp only [before3_8_B V c t h0 h1]
        unfold out3_B_5 out3_B_6 out3_B_8 sout3_B_0 sout3_B_1; (try dsimp only)
        iintro ⟨⟨⟨HS0, HS1, HR2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun3_B c (grid3.coords t) _ _ _ _ _ _ _ _ _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) (iblk3 V c 4 t) _ _ _).2.2.2.2.2.2 _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexact H7
        isplitl [H8]; · iexact H8
        isplitl [HS0]; · iexact HS0
        isplitl [HS1]; · iexact HS1
        iintro ⟨H0, H1, H2, H3, H4, ⟨%e5, H5⟩, ⟨%e6, H6⟩, H7, ⟨%e8, H8⟩, HS0, ⟨%es1, HS1⟩⟩
        isplitl [HS0 HS1 HR2 Hg]
        · isplitl [HS0 HS1 HR2]
          · isplitl [HS0]
            · iexact HS0
            isplitl [HS1]
            · unfold owns; iexists _; isplitr
              swap; · iexact HS1
              ipureintro; exact View.read_writes_of_cover _ _ _ _ _ (scover3_B_1 c _ _ _ _ _ _ _ _ _ _ _ _ _ _ _ _ _ _ _ _ _ _ _ _ _ _ _ _ _ _ _ _ _)
            iexact HR2
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover3_B_5 c _ _ _ _ _ _ _ _ _ _ _ _ _ _ _ _ _ _ _ _ _ _ _ _ _ _ _ _ _ _ _ _ _)
        isplitl [H6]
        · unfold owns; iexists _; isplitr
          swap; · iexact H6
          ipureintro; exact View.read_writes_of_cover _ _ _ _ _ (cover3_B_6 c _ _ _ _ _ _ _ _ _ _ _ _ _ _ _ _ _ _ _ _ _ _ _ _ _ _ _ _ _ _ _ _ _)
        isplitl [H7]; · iexists _; iexact H7
        unfold owns; iexists _; isplitr
        swap; · iexact H8
        ipureintro; exact View.read_writes_of_cover _ _ _ _ _ (cover3_B_8 c _ _ _ _ _ _ _ _ _ _ _ _ _ _ _ _ _ _ _ _ _ _ _ _ _ _ _ _ _ _ _ _ _)

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

/-- The library's body obligation, at every point: the body's triple restated (Lib/Pipeline/FrameBody.lean `triple_restated`). -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

/-- What the launch hands the region (`ΦA`) is the invariant before the first point. -/
theorem hin (c : Dev nD) : Pipeline.ΦA spec3 c ⊢ (dat3 V c).Φ 0 := by
  rw [show (dat3 V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg3.N + 1)) (ht : t.val ≠ 0) : (dat3 V c).Φ t ⊢ Pipeline.ΦA spec3 c := by
  rw [show (dat3 V c).Φ t = PhiS V c t.val (Nat.le_of_lt_succ t.isLt) from rfl, PhiS_pos V c _ _ ht, PhiA3_eq]
  iintro ⟨⟨HS0, HS1, HR2⟩, Hg⟩
  isplitl [HS0 HS1 HR2]
  · isplitl [HS0]
    · iexists _; iexact HS0
    isplitl [HS1]
    · iexists _; iexact HS1
    iexact HR2
  iexact Hg

/-- The same after the last point. -/
theorem hout (c : Dev nD) : (dat3 V c).Φ (Fin.last cfg3.N) ⊢ Pipeline.ΦA spec3 c :=
  Phi_out V c _ (by rw [Fin.val_last]; have : cfg3.N = 72 := N_3; omega)

end Regions

end Cert.KernelIdeal.Gen

end
-- ==== Proof.Frame.Region4.lean ====
/- pallas_call 4 (`grad`) at any entry contents `V`: its windows' blocks, the run of its body in each case of its
   conditionals, what the body leaves in each buffer, the proof data `dat4` and the body's obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Pipeline.TableIdle
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 4 of @main: custom_call 4, `cc4_grad` (pipeline 4), at the entry contents `V` —   -/

/-! ## The windows' blocks -/

/-- Window `w`'s block at point `t`, read off its array as the region finds it (`V`). -/
noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch conditions -/

/-- The condition of the body's `scf.if` 0 (`k4_h1`), from the grid coordinates (the skeleton's scalar
    chain substituted). -/
abbrev cond4_0 (i : grid4.Coords) : Prop := k4_cond1 i = 1#1
/-- It holds at the points ≡ 0 (mod 39) — by arithmetic of the point. -/
theorem hcond4_0 : ∀ t : Fin cfg4.N, cond4_0 (grid4.coords t) ↔ t.val % 39 = 0 :=
  (fun t => by
    have ht : t.val < 78 := Nat.lt_of_lt_of_eq t.isLt N_4
    have e0 : (grid4.coords t 0).val = t.val / 39 % 2 := Pipeline.Grid.coords_val t 0 (by decide) rfl
    have e1 : (grid4.coords t 1).val = t.val / 1 % 39 := Pipeline.Grid.coords_val t 1 (by decide) rfl
    simp only [cond4_0, k4_cond1, e0, e1]
    word_cmp
   : ∀ t : Fin grid4.N, cond4_0 (grid4.coords t) ↔ t.val % 39 = 0)

/-- The condition of the body's `scf.if` 1 (`k4_h2`), from the grid coordinates (the skeleton's scalar
    chain substituted). -/
abbrev cond4_1 (i : grid4.Coords) : Prop := k4_cond2 i = 1#1
/-- It holds at the points whose coordinates have i1 ≤ 2 — decided over the grid. -/
theorem hcond4_1 : ∀ t : Fin cfg4.N, cond4_1 (grid4.coords t) ↔ t.val % 39 ≤ 2 :=
  (by decide +kernel : ∀ t : Fin grid4.N, cond4_1 (grid4.coords t) ↔ t.val % 39 ≤ 2)

/-- The condition of the body's `scf.if` 2 (`k4_h3`), from the grid coordinates (the skeleton's scalar
    chain substituted). -/
abbrev cond4_2 (i : grid4.Coords) : Prop := k4_cond3 i = 1#1
/-- It holds at the points whose coordinates have 3 ≤ i1 — decided over the grid. -/
theorem hcond4_2 : ∀ t : Fin cfg4.N, cond4_2 (grid4.coords t) ↔ 3 ≤ t.val % 39 :=
  (by decide +kernel : ∀ t : Fin grid4.N, cond4_2 (grid4.coords t) ↔ 3 ≤ t.val % 39)

/-- The condition of the body's `scf.if` 3 (`k4_h4`), from the grid coordinates (the skeleton's scalar
    chain substituted). -/
abbrev cond4_3 (i : grid4.Coords) : Prop := k4_cond4 i = 1#1
/-- It holds at the points ≡ 38 (mod 39) — by arithmetic of the point. -/
theorem hcond4_3 : ∀ t : Fin cfg4.N, cond4_3 (grid4.coords t) ↔ t.val % 39 = 38 :=
  (fun t => by
    have ht : t.val < 78 := Nat.lt_of_lt_of_eq t.isLt N_4
    have e0 : (grid4.coords t 0).val = t.val / 39 % 2 := Pipeline.Grid.coords_val t 0 (by decide) rfl
    have e1 : (grid4.coords t 1).val = t.val / 1 % 39 := Pipeline.Grid.coords_val t 1 (by decide) rfl
    simp only [cond4_3, k4_cond4, e0, e1]
    word_cmp
   : ∀ t : Fin grid4.N, cond4_3 (grid4.coords t) ↔ t.val % 39 = 38)

/-! ## Where the windows are idle (the printed configuration's table `Cfg.idle`) -/

/-- Window 0 is never idle (an input). -/
theorem liveAt4_0 : ∀ t : Fin cfg4.N, cfg4.idle 0 (grid4.coords t) = false := fun _ => rfl
/-- Window 1 is never idle (an input). -/
theorem liveAt4_1 : ∀ t : Fin cfg4.N, cfg4.idle 1 (grid4.coords t) = false := fun _ => rfl
/-- Window 2 is never idle (an input). -/
theorem liveAt4_2 : ∀ t : Fin cfg4.N, cfg4.idle 2 (grid4.coords t) = false := fun _ => rfl
/-- Window 3 is never idle (an input). -/
theorem liveAt4_3 : ∀ t : Fin cfg4.N, cfg4.idle 3 (grid4.coords t) = false := fun _ => rfl
/-! A case with many branch conditions on the grid states them as ONE proposition, its `Decidable` instance assembled
one condition at a time: the facts below about that case's points are decided under it and restated with one premise
per condition, so that the instance `decide` searches for does not grow with their number. -/

/-- Case A's branch conditions on the grid, as one proposition. -/
abbrev conds4_A (i : grid4.Coords) : Prop := cond4_0 i ∧ cond4_1 i ∧ ¬cond4_2 i ∧ ¬cond4_3 i
instance conds4_A.dec (i : grid4.Coords) : Decidable (conds4_A i) :=
  @instDecidableAnd _ _ inferInstance (@instDecidableAnd _ _ inferInstance (@instDecidableAnd _ _ inferInstance inferInstance))
/-- Case B's branch conditions on the grid, as one proposition. -/
abbrev conds4_B (i : grid4.Coords) : Prop := ¬cond4_0 i ∧ cond4_1 i ∧ ¬cond4_2 i ∧ ¬cond4_3 i
instance conds4_B.dec (i : grid4.Coords) : Decidable (conds4_B i) :=
  @instDecidableAnd _ _ inferInstance (@instDecidableAnd _ _ inferInstance (@instDecidableAnd _ _ inferInstance inferInstance))
/-- Case C's branch conditions on the grid, as one proposition. -/
abbrev conds4_C (i : grid4.Coords) : Prop := ¬cond4_0 i ∧ ¬cond4_1 i ∧ cond4_2 i ∧ ¬cond4_3 i
instance conds4_C.dec (i : grid4.Coords) : Decidable (conds4_C i) :=
  @instDecidableAnd _ _ inferInstance (@instDecidableAnd _ _ inferInstance (@instDecidableAnd _ _ inferInstance inferInstance))
/-- Case D's branch conditions on the grid, as one proposition. -/
abbrev conds4_D (i : grid4.Coords) : Prop := ¬cond4_0 i ∧ ¬cond4_1 i ∧ cond4_2 i ∧ cond4_3 i
instance conds4_D.dec (i : grid4.Coords) : Decidable (conds4_D i) :=
  @instDecidableAnd _ _ inferInstance (@instDecidableAnd _ _ inferInstance (@instDecidableAnd _ _ inferInstance inferInstance))
/-- Whether output 4's buffer is FRESH at each position `1 ‥ N` — holds nothing the body stored since the region's entry or the
    last write-back (written back at the point before, or idle there and fresh before it) —, as a bitmask the classifier
    computed, bit `n` for position `n + 1`; position 0 is fresh. `freshTab4_4_step` checks it against the configuration's own
    step point by point and Lib/Pipeline/TableIdle.lean `Cfg.fresh_tab` makes it `Cfg.fresh` (`fresh4_4_eq`). -/
def freshTab4_4 : ℕ → Bool
  | 0 => true
  | n + 1 => (0x20000000004000000000 : ℕ).testBit n
theorem freshTab4_4_step : ∀ t : Fin cfg4.N,
    freshTab4_4 (t.val + 1) = ((cfg4.win 4).flush t || (cfg4.idle 4 (cfg4.grid.coords t) && freshTab4_4 t.val)) := by decide +kernel
theorem fresh4_4_eq (t : Fin cfg4.N) : cfg4.fresh 4 t.val = freshTab4_4 t.val :=
  Pipeline.Cfg.fresh_tab cfg4 4 freshTab4_4 rfl freshTab4_4_step t.val (Nat.le_of_lt t.isLt)
/-- At the points of case A the printed configuration (`Cfg.idle`) calls output 4 live: the case stores into it. -/
theorem liveAt4_4_A : ∀ t : Fin cfg4.N, cond4_0 (grid4.coords t) → cond4_1 (grid4.coords t) → ¬cond4_2 (grid4.coords t) → ¬cond4_3 (grid4.coords t) → cfg4.idle 4 (grid4.coords t) = false :=
  fun t h0 h1 h2 h3 => (by decide +kernel : ∀ t : Fin cfg4.N, conds4_A (grid4.coords t) → cfg4.idle 4 (grid4.coords t) = false) t ⟨h0, h1, h2, h3⟩
/-- At the points of case B the printed configuration (`Cfg.idle`) calls output 4 live: the case stores into it. -/
theorem liveAt4_4_B : ∀ t : Fin cfg4.N, ¬cond4_0 (grid4.coords t) → cond4_1 (grid4.coords t) → ¬cond4_2 (grid4.coords t) → ¬cond4_3 (grid4.coords t) → cfg4.idle 4 (grid4.coords t) = false :=
  fun t h0 h1 h2 h3 => (by decide +kernel : ∀ t : Fin cfg4.N, conds4_B (grid4.coords t) → cfg4.idle 4 (grid4.coords t) = false) t ⟨h0, h1, h2, h3⟩
/-- At the points of case B, which keeps output 4's prior contents (reads it before covering, or covers it in part), the
    window's buffer is not FRESH: something was stored into it since the region's entry or its last write-back, idle points
    between or not (Lib/Pipeline/TableIdle.lean `Cfg.fresh`, by the table `freshTab4_4`). -/
theorem notFresh4_4_B : ∀ t : Fin cfg4.N, ¬cond4_0 (grid4.coords t) → cond4_1 (grid4.coords t) → ¬cond4_2 (grid4.coords t) → ¬cond4_3 (grid4.coords t) → cfg4.fresh 4 t.val = false :=
  fun t h0 h1 h2 h3 => (by intro t; rw [fresh4_4_eq t]; revert t; decide +kernel : ∀ t : Fin cfg4.N, conds4_B (grid4.coords t) → cfg4.fresh 4 t.val = false) t ⟨h0, h1, h2, h3⟩
/-- At the points of case C the printed configuration (`Cfg.idle`) calls output 4 live: the case stores into it. -/
theorem liveAt4_4_C : ∀ t : Fin cfg4.N, ¬cond4_0 (grid4.coords t) → ¬cond4_1 (grid4.coords t) → cond4_2 (grid4.coords t) → ¬cond4_3 (grid4.coords t) → cfg4.idle 4 (grid4.coords t) = false :=
  fun t h0 h1 h2 h3 => (by decide +kernel : ∀ t : Fin cfg4.N, conds4_C (grid4.coords t) → cfg4.idle 4 (grid4.coords t) = false) t ⟨h0, h1, h2, h3⟩
/-- At the points of case C, which keeps output 4's prior contents (reads it before covering, or covers it in part), the
    window's buffer is not FRESH: something was stored into it since the region's entry or its last write-back, idle points
    between or not (Lib/Pipeline/TableIdle.lean `Cfg.fresh`, by the table `freshTab4_4`). -/
theorem notFresh4_4_C : ∀ t : Fin cfg4.N, ¬cond4_0 (grid4.coords t) → ¬cond4_1 (grid4.coords t) → cond4_2 (grid4.coords t) → ¬cond4_3 (grid4.coords t) → cfg4.fresh 4 t.val = false :=
  fun t h0 h1 h2 h3 => (by intro t; rw [fresh4_4_eq t]; revert t; decide +kernel : ∀ t : Fin cfg4.N, conds4_C (grid4.coords t) → cfg4.fresh 4 t.val = false) t ⟨h0, h1, h2, h3⟩
/-- At the points of case D the printed configuration (`Cfg.idle`) calls output 4 live: the case stores into it. -/
theorem liveAt4_4_D : ∀ t : Fin cfg4.N, ¬cond4_0 (grid4.coords t) → ¬cond4_1 (grid4.coords t) → cond4_2 (grid4.coords t) → cond4_3 (grid4.coords t) → cfg4.idle 4 (grid4.coords t) = false :=
  fun t h0 h1 h2 h3 => (by decide +kernel : ∀ t : Fin cfg4.N, conds4_D (grid4.coords t) → cfg4.idle 4 (grid4.coords t) = false) t ⟨h0, h1, h2, h3⟩
/-- At the points of case D, which keeps output 4's prior contents (reads it before covering, or covers it in part), the
    window's buffer is not FRESH: something was stored into it since the region's entry or its last write-back, idle points
    between or not (Lib/Pipeline/TableIdle.lean `Cfg.fresh`, by the table `freshTab4_4`). -/
theorem notFresh4_4_D : ∀ t : Fin cfg4.N, ¬cond4_0 (grid4.coords t) → ¬cond4_1 (grid4.coords t) → cond4_2 (grid4.coords t) → cond4_3 (grid4.coords t) → cfg4.fresh 4 t.val = false :=
  fun t h0 h1 h2 h3 => (by intro t; rw [fresh4_4_eq t]; revert t; decide +kernel : ∀ t : Fin cfg4.N, conds4_D (grid4.coords t) → cfg4.fresh 4 t.val = false) t ⟨h0, h1, h2, h3⟩

/-! ## The kernel body on any staging memrefs: a subtype the run finds -/

/-- One staging buffer of output window 4, through which its contents are stated (`View.read_writes_of_cover`: the
    choice does not matter). -/
abbrev VO4_4 : View sig .tc .vmem S2560x1280 .f32 := (Memref.whole cc4_stg4_0 : Memref sig .tc .vmem S2560x1280 .f32).view
/-- Each window's current staging memref at point `t`, spelled as the pipeline passes it (`bodyAt4`), and its wholeness. -/
abbrev ms4_0 (t : Fin cfg4.N) : Memref sig .tc .vmem S512x2560 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S512x1280 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S512x2560 .bf16 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S512x1280 .bf16 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S2560x1280 .f32 := win4_4.stage (cfg4.slots t 4)
abbrev hs4_4 (t : Fin cfg4.N) : (ms4_4 t).IsWhole := hstage4_4 ((cfg4.slots t 4).cast nbuf4_4)

-- (the run's proof term is large: the definition's epilogue — `abstractNestedProofs` — walks it past the default budget)
set_option maxHeartbeats 1000000 in
/-- What the body's stores leave in each output's staging memref, as pieces (last first) IN CASE A (`scf.if` 0 taken, `scf.if` 1 taken, `scf.if` 2 not taken, `scf.if` 3 not taken: points 0, 39), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun4_A (c : Dev nD) (i : grid4.Coords) (arg2 : Memref sig .tc .vmem S512x2560 .bf16) (harg2 : arg2.IsWhole) (arg3 : Memref sig .tc .vmem S512x1280 .bf16) (harg3 : arg3.IsWhole) (arg4 : Memref sig .tc .vmem S512x2560 .bf16) (harg4 : arg4.IsWhole) (arg5 : Memref sig .tc .vmem S512x1280 .bf16) (harg5 : arg5.IsWhole) (arg6 : Memref sig .tc .vmem S2560x1280 .f32) (harg6 : arg6.IsWhole) (hc0 : cond4_0 i) (hc1 : cond4_1 i) (hc2 : ¬cond4_2 i) (hc3 : ¬cond4_3 i)
    (x0 : Vec F S512x2560 .bf16) (x1 : Vec F S512x1280 .bf16) (x2 : Vec F S512x2560 .bf16) (x3 : Vec F S512x1280 .bf16) :
    { L4 : List (View.Piece (Elt F) S2560x1280 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc4_grad i arg2 harg2 arg3 harg3 arg4 harg4 arg5 harg5 arg6 harg6) K } := by
  refine ⟨?_, fun E K => ?run⟩
  case run =>
    simp only [cc4_grad_eq_skeleton]; unfold cc4_grad_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

/-- Case A's pieces for output 4 tile its block (2 stores of `S2560x1280`, checked by the kernel's evaluation: Lib/Ring.lean `Piece.tiledL`, linear in the pieces, through a loop's `@[irreducible]` trip theorem too), so they cover it. -/
theorem cover4_A_4 (c : Dev nD) (i : grid4.Coords) (arg2 : Memref sig .tc .vmem S512x2560 .bf16) (harg2 : arg2.IsWhole) (arg3 : Memref sig .tc .vmem S512x1280 .bf16) (harg3 : arg3.IsWhole) (arg4 : Memref sig .tc .vmem S512x2560 .bf16) (harg4 : arg4.IsWhole) (arg5 : Memref sig .tc .vmem S512x1280 .bf16) (harg5 : arg5.IsWhole) (arg6 : Memref sig .tc .vmem S2560x1280 .f32) (harg6 : arg6.IsWhole) (hc0 : cond4_0 i) (hc1 : cond4_1 i) (hc2 : ¬cond4_2 i) (hc3 : ¬cond4_3 i)
    (x0 : Vec F S512x2560 .bf16) (x1 : Vec F S512x1280 .bf16) (x2 : Vec F S512x2560 .bf16) (x3 : Vec F S512x1280 .bf16) (y : S2560x1280.Idx) :
    ∃ pc ∈ (kernelRun4_A c i arg2 harg2 arg3 harg3 arg4 harg4 arg5 harg5 arg6 harg6 hc0 hc1 hc2 hc3 x0 x1 x2 x3).1, y ∈ pc.1.set :=
  View.cover_of_tiledL (kernelRun4_A c i arg2 harg2 arg3 harg3 arg4 harg4 arg5 harg5 arg6 harg6 hc0 hc1 hc2 hc3 x0 x1 x2 x3).1 S2560x1280.size (by sl_kernel_rfl) y

/-- What case A leaves in output 4's staging buffer: its pieces read back over junk. -/
def out4_A_4 (c : Dev nD) (i : grid4.Coords) (arg2 : Memref sig .tc .vmem S512x2560 .bf16) (harg2 : arg2.IsWhole) (arg3 : Memref sig .tc .vmem S512x1280 .bf16) (harg3 : arg3.IsWhole) (arg4 : Memref sig .tc .vmem S512x2560 .bf16) (harg4 : arg4.IsWhole) (arg5 : Memref sig .tc .vmem S512x1280 .bf16) (harg5 : arg5.IsWhole) (arg6 : Memref sig .tc .vmem S2560x1280 .f32) (harg6 : arg6.IsWhole) (hc0 : cond4_0 i) (hc1 : cond4_1 i) (hc2 : ¬cond4_2 i) (hc3 : ¬cond4_3 i)
    (x0 : Vec F S512x2560 .bf16) (x1 : Vec F S512x1280 .bf16) (x2 : Vec F S512x2560 .bf16) (x3 : Vec F S512x1280 .bf16) : Vec F S2560x1280 .f32 :=
  VO4_4.read (Elt F) (VO4_4.writes (Elt F) VO4_4.junk (kernelRun4_A c i arg2 harg2 arg3 harg3 arg4 harg4 arg5 harg5 arg6 harg6 hc0 hc1 hc2 hc3 x0 x1 x2 x3).1)

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 not taken, `scf.if` 3 not taken: points 1, 2, 40, 41), WITH the
    proof that on whole staging memrefs — the inputs' at their contents, the outputs it reads before covering (4) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun4_B (c : Dev nD) (i : grid4.Coords) (arg2 : Memref sig .tc .vmem S512x2560 .bf16) (harg2 : arg2.IsWhole) (arg3 : Memref sig .tc .vmem S512x1280 .bf16) (harg3 : arg3.IsWhole) (arg4 : Memref sig .tc .vmem S512x2560 .bf16) (harg4 : arg4.IsWhole) (arg5 : Memref sig .tc .vmem S512x1280 .bf16) (harg5 : arg5.IsWhole) (arg6 : Memref sig .tc .vmem S2560x1280 .f32) (harg6 : arg6.IsWhole) (hc0 : ¬cond4_0 i) (hc1 : cond4_1 i) (hc2 : ¬cond4_2 i) (hc3 : ¬cond4_3 i)
    (x0 : Vec F S512x2560 .bf16) (x1 : Vec F S512x1280 .bf16) (x2 : Vec F S512x2560 .bf16) (x3 : Vec F S512x1280 .bf16) (xo4 : Vec F S2560x1280 .f32) :
    { L4 : List (View.Piece (Elt F) S2560x1280 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc4_grad i arg2 harg2 arg3 harg3 arg4 harg4 arg5 harg5 arg6 harg6) K } := by
  refine ⟨?_, fun E K => ?run⟩
  case run =>
    simp only [cc4_grad_eq_skeleton]; unfold cc4_grad_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

/-- Case B's pieces for output 4 tile its block (1 store of `S2560x1280`, checked by the kernel's evaluation: Lib/Ring.lean `Piece.tiledL`, linear in the pieces, through a loop's `@[irreducible]` trip theorem too), so they cover it. -/
theorem cover4_B_4 (c : Dev nD) (i : grid4.Coords) (arg2 : Memref sig .tc .vmem S512x2560 .bf16) (harg2 : arg2.IsWhole) (arg3 : Memref sig .tc .vmem S512x1280 .bf16) (harg3 : arg3.IsWhole) (arg4 : Memref sig .tc .vmem S512x2560 .bf16) (harg4 : arg4.IsWhole) (arg5 : Memref sig .tc .vmem S512x1280 .bf16) (harg5 : arg5.IsWhole) (arg6 : Memref sig .tc .vmem S2560x1280 .f32) (harg6 : arg6.IsWhole) (hc0 : ¬cond4_0 i) (hc1 : cond4_1 i) (hc2 : ¬cond4_2 i) (hc3 : ¬cond4_3 i)
    (x0 : Vec F S512x2560 .bf16) (x1 : Vec F S512x1280 .bf16) (x2 : Vec F S512x2560 .bf16) (x3 : Vec F S512x1280 .bf16) (xo4 : Vec F S2560x1280 .f32) (y : S2560x1280.Idx) :
    ∃ pc ∈ (kernelRun4_B c i arg2 harg2 arg3 harg3 arg4 harg4 arg5 harg5 arg6 harg6 hc0 hc1 hc2 hc3 x0 x1 x2 x3 xo4).1, y ∈ pc.1.set :=
  View.cover_of_tiledL (kernelRun4_B c i arg2 harg2 arg3 harg3 arg4 harg4 arg5 harg5 arg6 harg6 hc0 hc1 hc2 hc3 x0 x1 x2 x3 xo4).1 S2560x1280.size (by sl_kernel_rfl) y

/-- What case B leaves in output 4's staging buffer: its pieces read back over junk. -/
def out4_B_4 (c : Dev nD) (i : grid4.Coords) (arg2 : Memref sig .tc .vmem S512x2560 .bf16) (harg2 : arg2.IsWhole) (arg3 : Memref sig .tc .vmem S512x1280 .bf16) (harg3 : arg3.IsWhole) (arg4 : Memref sig .tc .vmem S512x2560 .bf16) (harg4 : arg4.IsWhole) (arg5 : Memref sig .tc .vmem S512x1280 .bf16) (harg5 : arg5.IsWhole) (arg6 : Memref sig .tc .vmem S2560x1280 .f32) (harg6 : arg6.IsWhole) (hc0 : ¬cond4_0 i) (hc1 : cond4_1 i) (hc2 : ¬cond4_2 i) (hc3 : ¬cond4_3 i)
    (x0 : Vec F S512x2560 .bf16) (x1 : Vec F S512x1280 .bf16) (x2 : Vec F S512x2560 .bf16) (x3 : Vec F S512x1280 .bf16) (xo4 : Vec F S2560x1280 .f32) : Vec F S2560x1280 .f32 :=
  VO4_4.read (Elt F) (VO4_4.writes (Elt F) VO4_4.junk (kernelRun4_B c i arg2 harg2 arg3 harg3 arg4 harg4 arg5 harg5 arg6 harg6 hc0 hc1 hc2 hc3 x0 x1 x2 x3 xo4).1)

-- (the run's proof term is large: the definition's epilogue — `abstractNestedProofs` — walks it past the default budget)
set_option maxHeartbeats 1000000 in
/-- What the body's stores leave in each output's staging memref, as pieces (last first) IN CASE C (`scf.if` 0 not taken, `scf.if` 1 not taken, `scf.if` 2 taken, `scf.if` 3 not taken: points 3, 4, … 76: 70 of 78), WITH the
    proof that on whole staging memrefs — the inputs' at their contents, the outputs it reads before covering (4) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun4_C (c : Dev nD) (i : grid4.Coords) (arg2 : Memref sig .tc .vmem S512x2560 .bf16) (harg2 : arg2.IsWhole) (arg3 : Memref sig .tc .vmem S512x1280 .bf16) (harg3 : arg3.IsWhole) (arg4 : Memref sig .tc .vmem S512x2560 .bf16) (harg4 : arg4.IsWhole) (arg5 : Memref sig .tc .vmem S512x1280 .bf16) (harg5 : arg5.IsWhole) (arg6 : Memref sig .tc .vmem S2560x1280 .f32) (harg6 : arg6.IsWhole) (hc0 : ¬cond4_0 i) (hc1 : ¬cond4_1 i) (hc2 : cond4_2 i) (hc3 : ¬cond4_3 i)
    (x0 : Vec F S512x2560 .bf16) (x1 : Vec F S512x1280 .bf16) (x2 : Vec F S512x2560 .bf16) (x3 : Vec F S512x1280 .bf16) (xo4 : Vec F S2560x1280 .f32) :
    { L4 : List (View.Piece (Elt F) S2560x1280 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc4_grad i arg2 harg2 arg3 harg3 arg4 harg4 arg5 harg5 arg6 harg6) K } := by
  refine ⟨?_, fun E K => ?run⟩
  case run =>
    simp only [cc4_grad_eq_skeleton]; unfold cc4_grad_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

/-- Case C's pieces for output 4 tile its block (1 store of `S2560x1280`, checked by the kernel's evaluation: Lib/Ring.lean `Piece.tiledL`, linear in the pieces, through a loop's `@[irreducible]` trip theorem too), so they cover it. -/
theorem cover4_C_4 (c : Dev nD) (i : grid4.Coords) (arg2 : Memref sig .tc .vmem S512x2560 .bf16) (harg2 : arg2.IsWhole) (arg3 : Memref sig .tc .vmem S512x1280 .bf16) (harg3 : arg3.IsWhole) (arg4 : Memref sig .tc .vmem S512x2560 .bf16) (harg4 : arg4.IsWhole) (arg5 : Memref sig .tc .vmem S512x1280 .bf16) (harg5 : arg5.IsWhole) (arg6 : Memref sig .tc .vmem S2560x1280 .f32) (harg6 : arg6.IsWhole) (hc0 : ¬cond4_0 i) (hc1 : ¬cond4_1 i) (hc2 : cond4_2 i) (hc3 : ¬cond4_3 i)
    (x0 : Vec F S512x2560 .bf16) (x1 : Vec F S512x1280 .bf16) (x2 : Vec F S512x2560 .bf16) (x3 : Vec F S512x1280 .bf16) (xo4 : Vec F S2560x1280 .f32) (y : S2560x1280.Idx) :
    ∃ pc ∈ (kernelRun4_C c i arg2 harg2 arg3 harg3 arg4 harg4 arg5 harg5 arg6 harg6 hc0 hc1 hc2 hc3 x0 x1 x2 x3 xo4).1, y ∈ pc.1.set :=
  View.cover_of_tiledL (kernelRun4_C c i arg2 harg2 arg3 harg3 arg4 harg4 arg5 harg5 arg6 harg6 hc0 hc1 hc2 hc3 x0 x1 x2 x3 xo4).1 S2560x1280.size (by sl_kernel_rfl) y

/-- What case C leaves in output 4's staging buffer: its pieces read back over junk. -/
def out4_C_4 (c : Dev nD) (i : grid4.Coords) (arg2 : Memref sig .tc .vmem S512x2560 .bf16) (harg2 : arg2.IsWhole) (arg3 : Memref sig .tc .vmem S512x1280 .bf16) (harg3 : arg3.IsWhole) (arg4 : Memref sig .tc .vmem S512x2560 .bf16) (harg4 : arg4.IsWhole) (arg5 : Memref sig .tc .vmem S512x1280 .bf16) (harg5 : arg5.IsWhole) (arg6 : Memref sig .tc .vmem S2560x1280 .f32) (harg6 : arg6.IsWhole) (hc0 : ¬cond4_0 i) (hc1 : ¬cond4_1 i) (hc2 : cond4_2 i) (hc3 : ¬cond4_3 i)
    (x0 : Vec F S512x2560 .bf16) (x1 : Vec F S512x1280 .bf16) (x2 : Vec F S512x2560 .bf16) (x3 : Vec F S512x1280 .bf16) (xo4 : Vec F S2560x1280 .f32) : Vec F S2560x1280 .f32 :=
  VO4_4.read (Elt F) (VO4_4.writes (Elt F) VO4_4.junk (kernelRun4_C c i arg2 harg2 arg3 harg3 arg4 harg4 arg5 harg5 arg6 harg6 hc0 hc1 hc2 hc3 x0 x1 x2 x3 xo4).1)

-- (the run's proof term is large: the definition's epilogue — `abstractNestedProofs` — walks it past the default budget)
set_option maxHeartbeats 1000000 in
/-- What the body's stores leave in each output's staging memref, as pieces (last first) IN CASE D (`scf.if` 0 not taken, `scf.if` 1 not taken, `scf.if` 2 taken, `scf.if` 3 taken: points 38, 77), WITH the
    proof that on whole staging memrefs — the inputs' at their contents, the outputs it reads before covering (4) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun4_D (c : Dev nD) (i : grid4.Coords) (arg2 : Memref sig .tc .vmem S512x2560 .bf16) (harg2 : arg2.IsWhole) (arg3 : Memref sig .tc .vmem S512x1280 .bf16) (harg3 : arg3.IsWhole) (arg4 : Memref sig .tc .vmem S512x2560 .bf16) (harg4 : arg4.IsWhole) (arg5 : Memref sig .tc .vmem S512x1280 .bf16) (harg5 : arg5.IsWhole) (arg6 : Memref sig .tc .vmem S2560x1280 .f32) (harg6 : arg6.IsWhole) (hc0 : ¬cond4_0 i) (hc1 : ¬cond4_1 i) (hc2 : cond4_2 i) (hc3 : cond4_3 i)
    (x0 : Vec F S512x2560 .bf16) (x1 : Vec F S512x1280 .bf16) (x2 : Vec F S512x2560 .bf16) (x3 : Vec F S512x1280 .bf16) (xo4 : Vec F S2560x1280 .f32) :
    { L4 : List (View.Piece (Elt F) S2560x1280 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc4_grad i arg2 harg2 arg3 harg3 arg4 harg4 arg5 harg5 arg6 harg6) K } := by
  refine ⟨?_, fun E K => ?run⟩
  case run =>
    simp only [cc4_grad_eq_skeleton]; unfold cc4_grad_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

/-- Case D's pieces for output 4 tile its block (2 stores of `S2560x1280`, checked by the kernel's evaluation: Lib/Ring.lean `Piece.tiledL`, linear in the pieces, through a loop's `@[irreducible]` trip theorem too), so they cover it. -/
theorem cover4_D_4 (c : Dev nD) (i : grid4.Coords) (arg2 : Memref sig .tc .vmem S512x2560 .bf16) (harg2 : arg2.IsWhole) (arg3 : Memref sig .tc .vmem S512x1280 .bf16) (harg3 : arg3.IsWhole) (arg4 : Memref sig .tc .vmem S512x2560 .bf16) (harg4 : arg4.IsWhole) (arg5 : Memref sig .tc .vmem S512x1280 .bf16) (harg5 : arg5.IsWhole) (arg6 : Memref sig .tc .vmem S2560x1280 .f32) (harg6 : arg6.IsWhole) (hc0 : ¬cond4_0 i) (hc1 : ¬cond4_1 i) (hc2 : cond4_2 i) (hc3 : cond4_3 i)
    (x0 : Vec F S512x2560 .bf16) (x1 : Vec F S512x1280 .bf16) (x2 : Vec F S512x2560 .bf16) (x3 : Vec F S512x1280 .bf16) (xo4 : Vec F S2560x1280 .f32) (y : S2560x1280.Idx) :
    ∃ pc ∈ (kernelRun4_D c i arg2 harg2 arg3 harg3 arg4 harg4 arg5 harg5 arg6 harg6 hc0 hc1 hc2 hc3 x0 x1 x2 x3 xo4).1, y ∈ pc.1.set :=
  View.cover_of_tiledL (kernelRun4_D c i arg2 harg2 arg3 harg3 arg4 harg4 arg5 harg5 arg6 harg6 hc0 hc1 hc2 hc3 x0 x1 x2 x3 xo4).1 S2560x1280.size (by sl_kernel_rfl) y

/-- What case D leaves in output 4's staging buffer: its pieces read back over junk. -/
def out4_D_4 (c : Dev nD) (i : grid4.Coords) (arg2 : Memref sig .tc .vmem S512x2560 .bf16) (harg2 : arg2.IsWhole) (arg3 : Memref sig .tc .vmem S512x1280 .bf16) (harg3 : arg3.IsWhole) (arg4 : Memref sig .tc .vmem S512x2560 .bf16) (harg4 : arg4.IsWhole) (arg5 : Memref sig .tc .vmem S512x1280 .bf16) (harg5 : arg5.IsWhole) (arg6 : Memref sig .tc .vmem S2560x1280 .f32) (harg6 : arg6.IsWhole) (hc0 : ¬cond4_0 i) (hc1 : ¬cond4_1 i) (hc2 : cond4_2 i) (hc3 : cond4_3 i)
    (x0 : Vec F S512x2560 .bf16) (x1 : Vec F S512x1280 .bf16) (x2 : Vec F S512x2560 .bf16) (x3 : Vec F S512x1280 .bf16) (xo4 : Vec F S2560x1280 .f32) : Vec F S2560x1280 .f32 :=
  VO4_4.read (Elt F) (VO4_4.writes (Elt F) VO4_4.junk (kernelRun4_D c i arg2 harg2 arg3 harg3 arg4 harg4 arg5 harg5 arg6 harg6 hc0 hc1 hc2 hc3 x0 x1 x2 x3 xo4).1)

/-! ## What the outputs hold after each point -/

/-- THE ACCUMULATION. What the outputs' staging buffers hold after the body at position `n`:
    the case the closed forms select at `n`, run at the point's memrefs and input blocks, an output it reads before covering
    at what this leaves at `n - 1` (its buffer is not written back between: `before4_W_κ`); an output it leaves idle whose contents another case keeps stays
    what this leaves at `n - 1`, carried. An assignment of the conditions no point meets is no case (`False.elim`). -/
def outsAt4 (c : Dev nD) : (n : ℕ) → n < cfg4.N → Vec F S2560x1280 .f32
  | 0, hn => out4_A_4 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) ((hcond4_0 ⟨0, hn⟩).mpr (Nat.zero_mod _)) ((hcond4_1 ⟨0, hn⟩).mpr (by (try dsimp only) <;> omega)) (fun h => (fun h => by (try dsimp only at h); omega) ((hcond4_2 ⟨0, hn⟩).mp h)) (fun h => (fun h => by (try dsimp only at h); omega) ((hcond4_3 ⟨0, hn⟩).mp h)) (iblk4 V c 0 ⟨0, hn⟩) (iblk4 V c 1 ⟨0, hn⟩) (iblk4 V c 2 ⟨0, hn⟩) (iblk4 V c 3 ⟨0, hn⟩)
  | n + 1, hn =>
    if h0 : (n + 1) % 39 = 0 then
      if h1 : (n + 1) % 39 ≤ 2 then
        if h2 : 3 ≤ (n + 1) % 39 then
          False.elim (by have hN : n + 1 < 78 := lt_of_lt_of_eq hn (show cfg4.N = 78 from N_4); omega)
        else
          if h3 : (n + 1) % 39 = 38 then
            False.elim (by have hN : n + 1 < 78 := lt_of_lt_of_eq hn (show cfg4.N = 78 from N_4); omega)
          else
            out4_A_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) ((hcond4_0 ⟨n + 1, hn⟩).mpr h0) ((hcond4_1 ⟨n + 1, hn⟩).mpr h1) (fun h => h2 ((hcond4_2 ⟨n + 1, hn⟩).mp h)) (fun h => h3 ((hcond4_3 ⟨n + 1, hn⟩).mp h)) (iblk4 V c 0 ⟨n + 1, hn⟩) (iblk4 V c 1 ⟨n + 1, hn⟩) (iblk4 V c 2 ⟨n + 1, hn⟩) (iblk4 V c 3 ⟨n + 1, hn⟩)
      else
        False.elim (by have hN : n + 1 < 78 := lt_of_lt_of_eq hn (show cfg4.N = 78 from N_4); omega)
    else
      if h1 : (n + 1) % 39 ≤ 2 then
        if h2 : 3 ≤ (n + 1) % 39 then
          False.elim (by have hN : n + 1 < 78 := lt_of_lt_of_eq hn (show cfg4.N = 78 from N_4); omega)
        else
          if h3 : (n + 1) % 39 = 38 then
            False.elim (by have hN : n + 1 < 78 := lt_of_lt_of_eq hn (show cfg4.N = 78 from N_4); omega)
          else
            out4_B_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (fun h => h0 ((hcond4_0 ⟨n + 1, hn⟩).mp h)) ((hcond4_1 ⟨n + 1, hn⟩).mpr h1) (fun h => h2 ((hcond4_2 ⟨n + 1, hn⟩).mp h)) (fun h => h3 ((hcond4_3 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn))
      else
        if h2 : 3 ≤ (n + 1) % 39 then
          if h3 : (n + 1) % 39 = 38 then
            out4_D_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (fun h => h0 ((hcond4_0 ⟨n + 1, hn⟩).mp h)) (fun h => h1 ((hcond4_1 ⟨n + 1, hn⟩).mp h)) ((hcond4_2 ⟨n + 1, hn⟩).mpr h2) ((hcond4_3 ⟨n + 1, hn⟩).mpr h3) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn))
          else
            out4_C_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (fun h => h0 ((hcond4_0 ⟨n + 1, hn⟩).mp h)) (fun h => h1 ((hcond4_1 ⟨n + 1, hn⟩).mp h)) ((hcond4_2 ⟨n + 1, hn⟩).mpr h2) (fun h => h3 ((hcond4_3 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn))
        else
          False.elim (by have hN : n + 1 < 78 := lt_of_lt_of_eq hn (show cfg4.N = 78 from N_4); omega)

/-- `outsAt4` at a point of case A: that case's contents. -/
theorem outsAt4_A (c : Dev nD) (t : Fin cfg4.N) (h0 : t.val % 39 = 0) (h1 : t.val % 39 ≤ 2) (h2 : ¬3 ≤ t.val % 39) (h3 : ¬t.val % 39 = 38) :
    outsAt4 V c t.val t.isLt = out4_A_4 c (grid4.coords t) (ms4_0 t) (hs4_0 t) (ms4_1 t) (hs4_1 t) (ms4_2 t) (hs4_2 t) (ms4_3 t) (hs4_3 t) (ms4_4 t) (hs4_4 t) ((hcond4_0 t).mpr h0) ((hcond4_1 t).mpr h1) (fun h => h2 ((hcond4_2 t).mp h)) (fun h => h3 ((hcond4_3 t).mp h)) (iblk4 V c 0 t) (iblk4 V c 1 t) (iblk4 V c 2 t) (iblk4 V c 3 t) := by
  obtain ⟨n, hn⟩ := t
  cases n with
  | zero => exact rfl
  | succ n => exact (dif_pos h0).trans ((dif_pos h1).trans ((dif_neg h2).trans ((dif_neg h3).trans rfl)))

/-- `outsAt4` at a point of case B: that case's contents, over what the point before left. -/
theorem outsAt4_B (c : Dev nD) (t : Fin cfg4.N) (h0 : ¬t.val % 39 = 0) (h1 : t.val % 39 ≤ 2) (h2 : ¬3 ≤ t.val % 39) (h3 : ¬t.val % 39 = 38) :
    outsAt4 V c t.val t.isLt = out4_B_4 c (grid4.coords t) (ms4_0 t) (hs4_0 t) (ms4_1 t) (hs4_1 t) (ms4_2 t) (hs4_2 t) (ms4_3 t) (hs4_3 t) (ms4_4 t) (hs4_4 t) (fun h => h0 ((hcond4_0 t).mp h)) ((hcond4_1 t).mpr h1) (fun h => h2 ((hcond4_2 t).mp h)) (fun h => h3 ((hcond4_3 t).mp h)) (iblk4 V c 0 t) (iblk4 V c 1 t) (iblk4 V c 2 t) (iblk4 V c 3 t) (outsAt4 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans ((dif_neg h2).trans ((dif_neg h3).trans rfl)))

/-- `outsAt4` at a point of case C: that case's contents, over what the point before left. -/
theorem outsAt4_C (c : Dev nD) (t : Fin cfg4.N) (h0 : ¬t.val % 39 = 0) (h1 : ¬t.val % 39 ≤ 2) (h2 : 3 ≤ t.val % 39) (h3 : ¬t.val % 39 = 38) :
    outsAt4 V c t.val t.isLt = out4_C_4 c (grid4.coords t) (ms4_0 t) (hs4_0 t) (ms4_1 t) (hs4_1 t) (ms4_2 t) (hs4_2 t) (ms4_3 t) (hs4_3 t) (ms4_4 t) (hs4_4 t) (fun h => h0 ((hcond4_0 t).mp h)) (fun h => h1 ((hcond4_1 t).mp h)) ((hcond4_2 t).mpr h2) (fun h => h3 ((hcond4_3 t).mp h)) (iblk4 V c 0 t) (iblk4 V c 1 t) (iblk4 V c 2 t) (iblk4 V c 3 t) (outsAt4 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans rfl)))

/-- `outsAt4` at a point of case D: that case's contents, over what the point before left. -/
theorem outsAt4_D (c : Dev nD) (t : Fin cfg4.N) (h0 : ¬t.val % 39 = 0) (h1 : ¬t.val % 39 ≤ 2) (h2 : 3 ≤ t.val % 39) (h3 : t.val % 39 = 38) :
    outsAt4 V c t.val t.isLt = out4_D_4 c (grid4.coords t) (ms4_0 t) (hs4_0 t) (ms4_1 t) (hs4_1 t) (ms4_2 t) (hs4_2 t) (ms4_3 t) (hs4_3 t) (ms4_4 t) (hs4_4 t) (fun h => h0 ((hcond4_0 t).mp h)) (fun h => h1 ((hcond4_1 t).mp h)) ((hcond4_2 t).mpr h2) ((hcond4_3 t).mpr h3) (iblk4 V c 0 t) (iblk4 V c 1 t) (iblk4 V c 2 t) (iblk4 V c 3 t) (outsAt4 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_pos h2).trans ((dif_pos h3).trans rfl)))

/-! ## The pipeline's proof data -/

/-- The proof data of pipeline 4 on core `c`: the arrays as the region finds them (`V`); after the body at
    point `t` each input's buffer at its block and the outputs' at `outsAt4`; the invariant the class's
    (Lib/Pipeline/Frame.lean `ΦA`: the scoped rest and the generator register); nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => (outsAt4 V c t.val t.isLt)
  Φ _ := Pipeline.ΦA spec4 c
  q _ := fullShare
  owed _ := 0

/-- The proof data's arrays are the region-entry contents, by projecting the definition (`dsimp`): a region record cites
    this for its arrays rather than have Lean unfold `V`, the fold through @main up to the region's entry. -/
theorem A_eq4 (c : Dev nD) (w : Fin cfg4.W) : (dat4 V c).A w = V c (Pipeline.arrRef spec4 w) := by
  dsimp only [dat4]

/-- What the body leaves, window by window (the proof data's `match` reduced by `dsimp`). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = (outsAt4 V c t.val t.isLt) := by dsimp only [dat4]

/-- Each input's current staging buffer holds its block at every point, fetched there or not (`beforeK_W_of`). -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-- Output 4's contents CARRY through the points that leave it idle: at such a point, its buffer not fresh, the proof data's
    `after` is the point before's (the case there stores nothing into the window and its term says so; a case that stores
    into it is not idle there by `liveAt4_4_κ`) — the hypothesis of Lib/Pipeline/TableIdle.lean `Dat.before_out_traj`. -/
theorem hcarry4_4 (c : Dev nD) : ∀ (t : Fin cfg4.N) (_ : t.val ≠ 0), cfg4.idle 4 (grid4.coords t) = true → cfg4.fresh 4 t.val = false →
    (dat4 V c).after 4 t = (dat4 V c).after 4 ⟨t.val - 1, by omega⟩ := by
  intro t _ hi _
  have hN : t.val < 78 := lt_of_lt_of_eq t.isLt (show cfg4.N = 78 from N_4)
  rw [after4_4, after4_4]
  by_cases h0 : t.val % 39 = 0
  · by_cases h1 : t.val % 39 ≤ 2
    · by_cases h2 : 3 ≤ t.val % 39
      · exfalso; omega
      · by_cases h3 : t.val % 39 = 38
        · exfalso; omega
        · rw [liveAt4_4_A t ((hcond4_0 t).mpr h0) ((hcond4_1 t).mpr h1) (fun h => h2 ((hcond4_2 t).mp h)) (fun h => h3 ((hcond4_3 t).mp h))] at hi
          exact absurd hi Bool.false_ne_true
    · exfalso; omega
  · by_cases h1 : t.val % 39 ≤ 2
    · by_cases h2 : 3 ≤ t.val % 39
      · exfalso; omega
      · by_cases h3 : t.val % 39 = 38
        · exfalso; omega
        · rw [liveAt4_4_B t (fun h => h0 ((hcond4_0 t).mp h)) ((hcond4_1 t).mpr h1) (fun h => h2 ((hcond4_2 t).mp h)) (fun h => h3 ((hcond4_3 t).mp h))] at hi
          exact absurd hi Bool.false_ne_true
    · by_cases h2 : 3 ≤ t.val % 39
      · by_cases h3 : t.val % 39 = 38
        · rw [liveAt4_4_D t (fun h => h0 ((hcond4_0 t).mp h)) (fun h => h1 ((hcond4_1 t).mp h)) ((hcond4_2 t).mpr h2) ((hcond4_3 t).mpr h3)] at hi
          exact absurd hi Bool.false_ne_true
        · rw [liveAt4_4_C t (fun h => h0 ((hcond4_0 t).mp h)) (fun h => h1 ((hcond4_1 t).mp h)) ((hcond4_2 t).mpr h2) (fun h => h3 ((hcond4_3 t).mp h))] at hi
          exact absurd hi Bool.false_ne_true
      · exfalso; omega
/-- At a point of case B output 4's current staging buffer holds what the point before left: the buffer is not fresh
    there (`notFresh4_4_B`: stored into since the region's entry or the last write-back, carried through the points that
    leave it idle by `hcarry4_4`; Lib/Pipeline/TableIdle.lean `Dat.before_out_traj`). -/
theorem before4_4_B (c : Dev nD) (t : Fin cfg4.N) (h0 : ¬t.val % 39 = 0) (h1 : t.val % 39 ≤ 2) (h2 : ¬3 ≤ t.val % 39) (h3 : ¬t.val % 39 = 38) (d) :
    (dat4 V c).before 4 t d = (outsAt4 V c (t.val - 1) (Nat.lt_of_le_of_lt (Nat.sub_le _ _) t.isLt)) := by
  rw [Dat.before_out_traj _ 4 rfl (fun _ _ => rfl) (hcarry4_4 V c) t.val t rfl d,
    if_neg (by rw [notFresh4_4_B t (fun h => h0 ((hcond4_0 t).mp h)) ((hcond4_1 t).mpr h1) (fun h => h2 ((hcond4_2 t).mp h)) (fun h => h3 ((hcond4_3 t).mp h))]; exact Bool.false_ne_true)]
  dsimp only [dat4]
/-- At a point of case C output 4's current staging buffer holds what the point before left: the buffer is not fresh
    there (`notFresh4_4_C`: stored into since the region's entry or the last write-back, carried through the points that
    leave it idle by `hcarry4_4`; Lib/Pipeline/TableIdle.lean `Dat.before_out_traj`). -/
theorem before4_4_C (c : Dev nD) (t : Fin cfg4.N) (h0 : ¬t.val % 39 = 0) (h1 : ¬t.val % 39 ≤ 2) (h2 : 3 ≤ t.val % 39) (h3 : ¬t.val % 39 = 38) (d) :
    (dat4 V c).before 4 t d = (outsAt4 V c (t.val - 1) (Nat.lt_of_le_of_lt (Nat.sub_le _ _) t.isLt)) := by
  rw [Dat.before_out_traj _ 4 rfl (fun _ _ => rfl) (hcarry4_4 V c) t.val t rfl d,
    if_neg (by rw [notFresh4_4_C t (fun h => h0 ((hcond4_0 t).mp h)) (fun h => h1 ((hcond4_1 t).mp h)) ((hcond4_2 t).mpr h2) (fun h => h3 ((hcond4_3 t).mp h))]; exact Bool.false_ne_true)]
  dsimp only [dat4]
/-- At a point of case D output 4's current staging buffer holds what the point before left: the buffer is not fresh
    there (`notFresh4_4_D`: stored into since the region's entry or the last write-back, carried through the points that
    leave it idle by `hcarry4_4`; Lib/Pipeline/TableIdle.lean `Dat.before_out_traj`). -/
theorem before4_4_D (c : Dev nD) (t : Fin cfg4.N) (h0 : ¬t.val % 39 = 0) (h1 : ¬t.val % 39 ≤ 2) (h2 : 3 ≤ t.val % 39) (h3 : t.val % 39 = 38) (d) :
    (dat4 V c).before 4 t d = (outsAt4 V c (t.val - 1) (Nat.lt_of_le_of_lt (Nat.sub_le _ _) t.isLt)) := by
  rw [Dat.before_out_traj _ 4 rfl (fun _ _ => rfl) (hcarry4_4 V c) t.val t rfl d,
    if_neg (by rw [notFresh4_4_D t (fun h => h0 ((hcond4_0 t).mp h)) (fun h => h1 ((hcond4_1 t).mp h)) ((hcond4_2 t).mpr h2) ((hcond4_3 t).mpr h3)]; exact Bool.false_ne_true)]
  dsimp only [dat4]

/-! ## The body obligation, at a generic point -/

/-- What the body is called with at point `t` (Lib/Pipeline.lean `BodyObligation`'s precondition, the windows one by one), -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

set_option maxHeartbeats 1600000 in
/-- The body at any point: the inputs' memrefs hold their blocks (`before4_W`); the closed forms say which case the point is in (`by_cases`), an output the case reads before covering holds what the point before left (`before4_W_κ`); so the
    run applies; the invariant passes through unread; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl]
  have hN : t.val < 78 := lt_of_lt_of_eq t.isLt (show cfg4.N = 78 from N_4)
  by_cases h0 : t.val % 39 = 0
  · by_cases h1 : t.val % 39 ≤ 2
    · by_cases h2 : 3 ≤ t.val % 39
      · exfalso; omega
      · by_cases h3 : t.val % 39 = 38
        · exfalso; omega
        · rw [show (dat4 V c).leavesExact 0 t = owns (c : Thread nD τ) (ms4_0 t) fullShare ((dat4 V c).after 0 t) from by
      unfold Dat.leavesExact; rw [liveAt4_0 t], after4_0]
          rw [show (dat4 V c).leavesExact 1 t = owns (c : Thread nD τ) (ms4_1 t) fullShare ((dat4 V c).after 1 t) from by
      unfold Dat.leavesExact; rw [liveAt4_1 t], after4_1]
          rw [show (dat4 V c).leavesExact 2 t = owns (c : Thread nD τ) (ms4_2 t) fullShare ((dat4 V c).after 2 t) from by
      unfold Dat.leavesExact; rw [liveAt4_2 t], after4_2]
          rw [show (dat4 V c).leavesExact 3 t = owns (c : Thread nD τ) (ms4_3 t) fullShare ((dat4 V c).after 3 t) from by
      unfold Dat.leavesExact; rw [liveAt4_3 t], after4_3]
          rw [show (dat4 V c).leavesExact 4 t = owns (c : Thread nD τ) (ms4_4 t) fullShare ((dat4 V c).after 4 t) from by
      unfold Dat.leavesExact; rw [liveAt4_4_A t ((hcond4_0 t).mpr h0) ((hcond4_1 t).mpr h1) (fun h => h2 ((hcond4_2 t).mp h)) (fun h => h3 ((hcond4_3 t).mp h))], after4_4]
          rw [outsAt4_A V c t h0 h1 h2 h3]
          unfold out4_A_4
          iintro ⟨HΦ, Ho, ⟨%d0, H0⟩, ⟨%d1, H1⟩, ⟨%d2, H2⟩, ⟨%d3, H3⟩, ⟨%d4, H4⟩⟩
          iapply ((kernelRun4_A c (grid4.coords t) _ _ _ _ _ _ _ _ _ _ ((hcond4_0 t).mpr h0) ((hcond4_1 t).mpr h1) (fun h => h2 ((hcond4_2 t).mp h)) (fun h => h3 ((hcond4_3 t).mp h)) (iblk4 V c 0 t) (iblk4 V c 1 t) (iblk4 V c 2 t) (iblk4 V c 3 t)).2 Set.univ _)
          isplitl [H0]; · iexact H0
          isplitl [H1]; · iexact H1
          isplitl [H2]; · iexact H2
          isplitl [H3]; · iexact H3
          isplitl [H4]; · iexists _; iexact H4
          iintro ⟨H0, H1, H2, H3, ⟨%e4, H4⟩⟩
          isplitl [HΦ]; · iexact HΦ
          isplitl [Ho]; · iexact Ho
          isplitl [H0]; · iexact H0
          isplitl [H1]; · iexact H1
          isplitl [H2]; · iexact H2
          isplitl [H3]; · iexact H3
          unfold owns; iexists _; isplitr
          swap; · iexact H4
          ipureintro; exact View.read_writes_of_cover _ _ _ _ _ (cover4_A_4 c _ _ _ _ _ _ _ _ _ _ _ _ _ _ _ _ _ _ _)
    · exfalso; omega
  · by_cases h1 : t.val % 39 ≤ 2
    · by_cases h2 : 3 ≤ t.val % 39
      · exfalso; omega
      · by_cases h3 : t.val % 39 = 38
        · exfalso; omega
        · rw [show (dat4 V c).leavesExact 0 t = owns (c : Thread nD τ) (ms4_0 t) fullShare ((dat4 V c).after 0 t) from by
      unfold Dat.leavesExact; rw [liveAt4_0 t], after4_0]
          rw [show (dat4 V c).leavesExact 1 t = owns (c : Thread nD τ) (ms4_1 t) fullShare ((dat4 V c).after 1 t) from by
      unfold Dat.leavesExact; rw [liveAt4_1 t], after4_1]
          rw [show (dat4 V c).leavesExact 2 t = owns (c : Thread nD τ) (ms4_2 t) fullShare ((dat4 V c).after 2 t) from by
      unfold Dat.leavesExact; rw [liveAt4_2 t], after4_2]
          rw [show (dat4 V c).leavesExact 3 t = owns (c : Thread nD τ) (ms4_3 t) fullShare ((dat4 V c).after 3 t) from by
      unfold Dat.leavesExact; rw [liveAt4_3 t], after4_3]
          rw [show (dat4 V c).leavesExact 4 t = owns (c : Thread nD τ) (ms4_4 t) fullShare ((dat4 V c).after 4 t) from by
      unfold Dat.leavesExact; rw [liveAt4_4_B t (fun h => h0 ((hcond4_0 t).mp h)) ((hcond4_1 t).mpr h1) (fun h => h2 ((hcond4_2 t).mp h)) (fun h => h3 ((hcond4_3 t).mp h))], after4_4]
          rw [outsAt4_B V c t h0 h1 h2 h3]
          simp only [before4_4_B V c t h0 h1 h2 h3]
          unfold out4_B_4
          iintro ⟨HΦ, Ho, ⟨%d0, H0⟩, ⟨%d1, H1⟩, ⟨%d2, H2⟩, ⟨%d3, H3⟩, ⟨%d4, H4⟩⟩
          iapply ((kernelRun4_B c (grid4.coords t) _ _ _ _ _ _ _ _ _ _ (fun h => h0 ((hcond4_0 t).mp h)) ((hcond4_1 t).mpr h1) (fun h => h2 ((hcond4_2 t).mp h)) (fun h => h3 ((hcond4_3 t).mp h)) (iblk4 V c 0 t) (iblk4 V c 1 t) (iblk4 V c 2 t) (iblk4 V c 3 t) _).2 Set.univ _)
          isplitl [H0]; · iexact H0
          isplitl [H1]; · iexact H1
          isplitl [H2]; · iexact H2
          isplitl [H3]; · iexact H3
          isplitl [H4]; · iexact H4
          iintro ⟨H0, H1, H2, H3, ⟨%e4, H4⟩⟩
          isplitl [HΦ]; · iexact HΦ
          isplitl [Ho]; · iexact Ho
          isplitl [H0]; · iexact H0
          isplitl [H1]; · iexact H1
          isplitl [H2]; · iexact H2
          isplitl [H3]; · iexact H3
          unfold owns; iexists _; isplitr
          swap; · iexact H4
          ipureintro; exact View.read_writes_of_cover _ _ _ _ _ (cover4_B_4 c _ _ _ _ _ _ _ _ _ _ _ _ _ _ _ _ _ _ _ _)
    · by_cases h2 : 3 ≤ t.val % 39
      · by_cases h3 : t.val % 39 = 38
        · rw [show (dat4 V c).leavesExact 0 t = owns (c : Thread nD τ) (ms4_0 t) fullShare ((dat4 V c).after 0 t) from by
      unfold Dat.leavesExact; rw [liveAt4_0 t], after4_0]
          rw [show (dat4 V c).leavesExact 1 t = owns (c : Thread nD τ) (ms4_1 t) fullShare ((dat4 V c).after 1 t) from by
      unfold Dat.leavesExact; rw [liveAt4_1 t], after4_1]
          rw [show (dat4 V c).leavesExact 2 t = owns (c : Thread nD τ) (ms4_2 t) fullShare ((dat4 V c).after 2 t) from by
      unfold Dat.leavesExact; rw [liveAt4_2 t], after4_2]
          rw [show (dat4 V c).leavesExact 3 t = owns (c : Thread nD τ) (ms4_3 t) fullShare ((dat4 V c).after 3 t) from by
      unfold Dat.leavesExact; rw [liveAt4_3 t], after4_3]
          rw [show (dat4 V c).leavesExact 4 t = owns (c : Thread nD τ) (ms4_4 t) fullShare ((dat4 V c).after 4 t) from by
      unfold Dat.leavesExact; rw [liveAt4_4_D t (fun h => h0 ((hcond4_0 t).mp h)) (fun h => h1 ((hcond4_1 t).mp h)) ((hcond4_2 t).mpr h2) ((hcond4_3 t).mpr h3)], after4_4]
          rw [outsAt4_D V c t h0 h1 h2 h3]
          simp only [before4_4_D V c t h0 h1 h2 h3]
          unfold out4_D_4
          iintro ⟨HΦ, Ho, ⟨%d0, H0⟩, ⟨%d1, H1⟩, ⟨%d2, H2⟩, ⟨%d3, H3⟩, ⟨%d4, H4⟩⟩
          iapply ((kernelRun4_D c (grid4.coords t) _ _ _ _ _ _ _ _ _ _ (fun h => h0 ((hcond4_0 t).mp h)) (fun h => h1 ((hcond4_1 t).mp h)) ((hcond4_2 t).mpr h2) ((hcond4_3 t).mpr h3) (iblk4 V c 0 t) (iblk4 V c 1 t) (iblk4 V c 2 t) (iblk4 V c 3 t) _).2 Set.univ _)
          isplitl [H0]; · iexact H0
          isplitl [H1]; · iexact H1
          isplitl [H2]; · iexact H2
          isplitl [H3]; · iexact H3
          isplitl [H4]; · iexact H4
          iintro ⟨H0, H1, H2, H3, ⟨%e4, H4⟩⟩
          isplitl [HΦ]; · iexact HΦ
          isplitl [Ho]; · iexact Ho
          isplitl [H0]; · iexact H0
          isplitl [H1]; · iexact H1
          isplitl [H2]; · iexact H2
          isplitl [H3]; · iexact H3
          unfold owns; iexists _; isplitr
          swap; · iexact H4
          ipureintro; exact View.read_writes_of_cover _ _ _ _ _ (cover4_D_4 c _ _ _ _ _ _ _ _ _ _ _ _ _ _ _ _ _ _ _ _)
        · rw [show (dat4 V c).leavesExact 0 t = owns (c : Thread nD τ) (ms4_0 t) fullShare ((dat4 V c).after 0 t) from by
      unfold Dat.leavesExact; rw [liveAt4_0 t], after4_0]
          rw [show (dat4 V c).leavesExact 1 t = owns (c : Thread nD τ) (ms4_1 t) fullShare ((dat4 V c).after 1 t) from by
      unfold Dat.leavesExact; rw [liveAt4_1 t], after4_1]
          rw [show (dat4 V c).leavesExact 2 t = owns (c : Thread nD τ) (ms4_2 t) fullShare ((dat4 V c).after 2 t) from by
      unfold Dat.leavesExact; rw [liveAt4_2 t], after4_2]
          rw [show (dat4 V c).leavesExact 3 t = owns (c : Thread nD τ) (ms4_3 t) fullShare ((dat4 V c).after 3 t) from by
      unfold Dat.leavesExact; rw [liveAt4_3 t], after4_3]
          rw [show (dat4 V c).leavesExact 4 t = owns (c : Thread nD τ) (ms4_4 t) fullShare ((dat4 V c).after 4 t) from by
      unfold Dat.leavesExact; rw [liveAt4_4_C t (fun h => h0 ((hcond4_0 t).mp h)) (fun h => h1 ((hcond4_1 t).mp h)) ((hcond4_2 t).mpr h2) (fun h => h3 ((hcond4_3 t).mp h))], after4_4]
          rw [outsAt4_C V c t h0 h1 h2 h3]
          simp only [before4_4_C V c t h0 h1 h2 h3]
          unfold out4_C_4
          iintro ⟨HΦ, Ho, ⟨%d0, H0⟩, ⟨%d1, H1⟩, ⟨%d2, H2⟩, ⟨%d3, H3⟩, ⟨%d4, H4⟩⟩
          iapply ((kernelRun4_C c (grid4.coords t) _ _ _ _ _ _ _ _ _ _ (fun h => h0 ((hcond4_0 t).mp h)) (fun h => h1 ((hcond4_1 t).mp h)) ((hcond4_2 t).mpr h2) (fun h => h3 ((hcond4_3 t).mp h)) (iblk4 V c 0 t) (iblk4 V c 1 t) (iblk4 V c 2 t) (iblk4 V c 3 t) _).2 Set.univ _)
          isplitl [H0]; · iexact H0
          isplitl [H1]; · iexact H1
          isplitl [H2]; · iexact H2
          isplitl [H3]; · iexact H3
          isplitl [H4]; · iexact H4
          iintro ⟨H0, H1, H2, H3, ⟨%e4, H4⟩⟩
          isplitl [HΦ]; · iexact HΦ
          isplitl [Ho]; · iexact Ho
          isplitl [H0]; · iexact H0
          isplitl [H1]; · iexact H1
          isplitl [H2]; · iexact H2
          isplitl [H3]; · iexact H3
          unfold owns; iexists _; isplitr
          swap; · iexact H4
          ipureintro; exact View.read_writes_of_cover _ _ _ _ _ (cover4_C_4 c _ _ _ _ _ _ _ _ _ _ _ _ _ _ _ _ _ _ _ _)
      · exfalso; omega

/-- The body table's row at point `t`'s slots is the body as `bodyAt4` spells it. -/
theorem defs₀_row4 (t : Fin cfg4.N) :
    defs₀ (F := F) .tc cfg4.body (cfg4.bodyArgs t (cfg4.slots t)) = bodyAt4 t := by
  unfold defs₀; rw [Defs.onTc_tc]

/-- The library's body obligation, at every point: the body's triple restated (Lib/Pipeline/FrameBody.lean `triple_restated`). -/
theorem body_obligation4 (c : Dev nD) : BodyObligation (dat4 (F := F) V c) (defs₀ (F := F)) Variants.none () Set.univ := fun t => by
  rw [bigSep_W4, bigSep_W4, defs₀_row4]
  exact triple_restated (sound_body4 V c t) rfl .rfl fun _ => .rfl

end Regions

end Cert.KernelIdeal.Gen

end
-- ==== Proof.Frame.Hosts0.lean ====
/- What the host's reshapes between the pallas_calls read and write. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v5, main_v6]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-- No operation of `hostOps5` allocates a buffer. -/
theorem hostOps5_fresh : (hostOps5 : List (HloOp τ sig (Elt F))).Forall fun op => op.fresh = ∅ := by
  simp only [List.Forall]; repeat' constructor
/-- The reference each operation of `hostOps5` writes, in order. -/
abbrev hostOps5_W : List (Ref sig .tc) := [main_v9, main_v10, main_v11, main_v12, main_v13, main_v14]
theorem hostOps5_writes : (hostOps5 : List (HloOp τ sig (Elt F))).Forall fun op => op.writes ⊆ (hostOps5_W.map (Proc.devRef (τ := τ) .tc)).toFinset :=
  StableHlo.forall_writes_sub_of_map rfl
/-- `hostOps5` writes none of the argument arrays (checked: each argument against each reference it writes). -/
theorem hostOps5_args : ∀ a ∈ argRefs, a ∉ hostOps5_W := ListAll.forall_mem_of_all_decide (by decide +kernel)

end Cert.KernelIdeal.Gen

end
-- ==== Proof.Frame.Fold0.lean ====
/- The contents of every buffer at each boundary of @main (`W0` … `W8`), and what each item leaves alone. -/
module

public import proofs.«01_k».proof.Proof.Frame.Region0
public import proofs.«01_k».proof.Proof.Frame.Region1
public import proofs.«01_k».proof.Proof.Frame.Region2
public import proofs.«01_k».proof.Proof.Frame.Region3
public import proofs.«01_k».proof.Proof.Frame.Region4
public import proofs.«01_k».proof.Proof.Frame.Hosts0

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`) (region 2's entry). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- A reference that is none of region 2's OUTPUT arrays keeps its entry contents across it: an input window's
    array is never written back (`Dat.arrAt_in`, `A_eq2`); any other buffer is left as is. -/
theorem W4_of (c : Dev nD) (r : Ref sig .tc) (h : ∀ w : Fin cfg2.W, Pipeline.arrRef spec2 w = r → (cfg2.win w).isOut = false) :
    W4 m ρ c (Proc.devRef .tc r) = W3 m ρ c (Proc.devRef .tc r) := by
  by_cases hw : ∃ w : Fin cfg2.W, Pipeline.arrRef spec2 w = r
  · obtain ⟨w, rfl⟩ := hw
    exact (W4_arr m ρ c w).trans (((dat2 (V3 m ρ) c).arrAt_in w (h w rfl) _).trans (A_eq2 (V3 m ρ) c w))
  · exact W4_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn2 a ha)).trans (W3_args m ρ c a ha)
/-- The same read at the TensorCore's references (region 2's exit contents). -/
abbrev V4 : (c : Dev nD) → (b : Ref sig .tc) → Buf (Elt F) ((c : Thread nD τ).loc b) := fun c b => W4 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After `hostOps3` (region 3's entry). -/
abbrev W5 : Dev nD → Valuation τ sig (Elt F) := fun c => StableHlo.after hostOps3 (W4 m ρ c)
/-- A reference `hostOps3` does not write keeps its contents across it. -/
theorem W5_of (c : Dev nD) (r : Ref sig .tc) (h : r ∉ hostOps3_W) : W5 m ρ c (Proc.devRef .tc r) = W4 m ρ c (Proc.devRef .tc r) :=
  StableHlo.after_of_writes_sub hostOps3 _ hostOps3_writes h
theorem W5_args (c : Dev nD) : ∀ a ∈ argRefs, W5 m ρ c (Proc.devRef .tc a) = m ((c : Thread nD τ).loc a) :=
  fun a ha => (W5_of m ρ c a (hostOps3_args a ha)).trans (W4_args m ρ c a ha)
/-- The same read at the TensorCore's references (what region 3's proof data take). -/
abbrev V5 : (c : Dev nD) → (b : Ref sig .tc) → Buf (Elt F) ((c : Thread nD τ).loc b) := fun c b => W5 m ρ c b
/-- At region 3's exit: its arrays at what the pipeline leaves (the inputs as entered, each output's write-backs
    folded: `Dat.arrAt … N`), every other buffer as entered (Lib/Pipeline/FrameSuffix.lean `withArrays`) (region 4's entry). -/
def W6 (c : Dev nD) : Valuation τ sig (Elt F) :=
  Pipeline.withArrays spec3 c (W5 m ρ c) fun w => (dat3 (V5 m ρ) c).arrAt w cfg3.N
theorem W6_arr (c : Dev nD) (w : Fin cfg3.W) :
    W6 m ρ c (Proc.devRef .tc (Pipeline.arrRef spec3 w)) = (dat3 (V5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
/-- A reference that is none of region 3's OUTPUT arrays keeps its entry contents across it: an input window's
    array is never written back (`Dat.arrAt_in`, `A_eq3`); any other buffer is left as is. -/
theorem W6_of (c : Dev nD) (r : Ref sig .tc) (h : ∀ w : Fin cfg3.W, Pipeline.arrRef spec3 w = r → (cfg3.win w).isOut = false) :
    W6 m ρ c (Proc.devRef .tc r) = W5 m ρ c (Proc.devRef .tc r) := by
  by_cases hw : ∃ w : Fin cfg3.W, Pipeline.arrRef spec3 w = r
  · obtain ⟨w, rfl⟩ := hw
    exact (W6_arr m ρ c w).trans (((dat3 (V5 m ρ) c).arrAt_in w (h w rfl) _).trans (A_eq3 (V5 m ρ) c w))
  · exact W6_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn3 a ha)).trans (W5_args m ρ c a ha)
/-- The same read at the TensorCore's references (region 3's exit contents). -/
abbrev V6 : (c : Dev nD) → (b : Ref sig .tc) → Buf (Elt F) ((c : Thread nD τ).loc b) := fun c b => W6 m ρ c b
/-- At region 3's exit each of its arrays holds what the pipeline leaves (`hF3`) and every other buffer what it
    held at entry (`hrest3`): the two hypotheses of Lib/Pipeline/RegionsLoop.lean `unscopedBufs_of_arrays`. -/
theorem hF3 (c : Dev nD) (w : Fin cfg3.W) : (dat3 (V5 m ρ) c).arrAt w cfg3.N = V6 m ρ c (Pipeline.arrRef spec3 w) :=
  (W6_arr m ρ c w).symm
theorem hrest3 (c : Dev nD) : ∀ b, b ∉ Finset.univ.image (Pipeline.arrRef spec3) → V6 m ρ c b = V5 m ρ c b :=
  fun b hb => W6_of_ne m ρ c b fun w e => hb (Finset.mem_image.mpr ⟨w, Finset.mem_univ _, e⟩)

/-- At region 4's exit: its arrays at what the pipeline leaves (the inputs as entered, each output's write-backs
    folded: `Dat.arrAt … N`), every other buffer as entered (Lib/Pipeline/FrameSuffix.lean `withArrays`). -/
def W7 (c : Dev nD) : Valuation τ sig (Elt F) :=
  Pipeline.withArrays spec4 c (W6 m ρ c) fun w => (dat4 (V6 m ρ) c).arrAt w cfg4.N
theorem W7_arr (c : Dev nD) (w : Fin cfg4.W) :
    W7 m ρ c (Proc.devRef .tc (Pipeline.arrRef spec4 w)) = (dat4 (V6 m ρ) c).arrAt w cfg4.N := by
  unfold W7; exact Pipeline.withArrays_arr spec4 launch4.win.arr_inj c _ _ w
theorem W7_of_ne (c : Dev nD) (b : Ref sig .tc) (hb : ∀ w, Pipeline.arrRef spec4 w ≠ b) :
    W7 m ρ c (Proc.devRef .tc b) = W6 m ρ c (Proc.devRef .tc b) := by
  unfold W7; exact Pipeline.withArrays_of_ne spec4 c _ _ b hb
/-- A reference that is none of region 4's OUTPUT arrays keeps its entry contents across it: an input window's
    array is never written back (`Dat.arrAt_in`, `A_eq4`); any other buffer is left as is. -/
theorem W7_of (c : Dev nD) (r : Ref sig .tc) (h : ∀ w : Fin cfg4.W, Pipeline.arrRef spec4 w = r → (cfg4.win w).isOut = false) :
    W7 m ρ c (Proc.devRef .tc r) = W6 m ρ c (Proc.devRef .tc r) := by
  by_cases hw : ∃ w : Fin cfg4.W, Pipeline.arrRef spec4 w = r
  · obtain ⟨w, rfl⟩ := hw
    exact (W7_arr m ρ c w).trans (((dat4 (V6 m ρ) c).arrAt_in w (h w rfl) _).trans (A_eq4 (V6 m ρ) c w))
  · exact W7_of_ne m ρ c r fun w e => hw ⟨w, e⟩
/-- Every argument among region 4's arrays is an input window's (checked: each argument against each window). -/
theorem argsIn4 : ∀ a ∈ argRefs, ∀ w : Fin cfg4.W, Pipeline.arrRef spec4 w = a → (cfg4.win w).isOut = false :=
  ListAll.forall_mem_of_all_decide (by decide +kernel)
theorem W7_args (c : Dev nD) : ∀ a ∈ argRefs, W7 m ρ c (Proc.devRef .tc a) = m ((c : Thread nD τ).loc a) :=
  fun a ha => (W7_of m ρ c a (argsIn4 a ha)).trans (W6_args m ρ c a ha)
/-- The same read at the TensorCore's references (region 4's exit contents). -/
abbrev V7 : (c : Dev nD) → (b : Ref sig .tc) → Buf (Elt F) ((c : Thread nD τ).loc b) := fun c b => W7 m ρ c b
/-- At region 4's exit each of its arrays holds what the pipeline leaves (`hF4`) and every other buffer what it
    held at entry (`hrest4`): the two hypotheses of Lib/Pipeline/RegionsLoop.lean `unscopedBufs_of_arrays`. -/
theorem hF4 (c : Dev nD) (w : Fin cfg4.W) : (dat4 (V6 m ρ) c).arrAt w cfg4.N = V7 m ρ c (Pipeline.arrRef spec4 w) :=
  (W7_arr m ρ c w).symm
theorem hrest4 (c : Dev nD) : ∀ b, b ∉ Finset.univ.image (Pipeline.arrRef spec4) → V7 m ρ c b = V6 m ρ c b :=
  fun b hb => W7_of_ne m ρ c b fun w e => hb (Finset.mem_image.mpr ⟨w, Finset.mem_univ _, e⟩)

/-- After `hostOps5`. -/
abbrev W8 : Dev nD → Valuation τ sig (Elt F) := fun c => StableHlo.after hostOps5 (W7 m ρ c)
/-- A reference `hostOps5` does not write keeps its contents across it. -/
theorem W8_of (c : Dev nD) (r : Ref sig .tc) (h : r ∉ hostOps5_W) : W8 m ρ c (Proc.devRef .tc r) = W7 m ρ c (Proc.devRef .tc r) :=
  StableHlo.after_of_writes_sub hostOps5 _ hostOps5_writes h
theorem W8_args (c : Dev nD) : ∀ a ∈ argRefs, W8 m ρ c (Proc.devRef .tc a) = m ((c : Thread nD τ).loc a) :=
  fun a ha => (W8_of m ρ c a (hostOps5_args a ha)).trans (W7_args m ρ c a ha)

/-! ### The arguments end as launched: no host stretch writes one and no region may change one (a region reads it
    through an input window or bypasses it) -/

theorem W8_main_arg0 (c : Dev nD) : W8 m ρ c (Proc.devRef .tc main_arg0) = m ((c : Thread nD τ).loc main_arg0) :=
  W8_args m ρ c main_arg0 (by decide)
theorem W8_main_arg1 (c : Dev nD) : W8 m ρ c (Proc.devRef .tc main_arg1) = m ((c : Thread nD τ).loc main_arg1) :=
  W8_args m ρ c main_arg1 (by decide)
theorem W8_main_arg2 (c : Dev nD) : W8 m ρ c (Proc.devRef .tc main_arg2) = m ((c : Thread nD τ).loc main_arg2) :=
  W8_args m ρ c main_arg2 (by decide)
theorem W8_main_arg3 (c : Dev nD) : W8 m ρ c (Proc.devRef .tc main_arg3) = m ((c : Thread nD τ).loc main_arg3) :=
  W8_args m ρ c main_arg3 (by decide)
end Cert.KernelIdeal.Gen

end
-- ==== Proof.Frame.State.lean ====
/- The proof data of the five pallas_calls at the contents they are entered from, and the state held between items. -/
module

public import proofs.«01_k».proof.Proof.Frame.Fold0

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 5) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V5 m ρ) c
  | ⟨4, _⟩ => fun c => dat4 (V6 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W8`, the generator register at some state. -/
abbrev Tₙ (c : Dev nD) : sProp 𝕄 := iprop(StableHlo.held (c : Thread nD τ) (Pipeline.ucRefs τ sig) (W8 m ρ c) ∗ ∃ r, prngReg c r)

end Cert.KernelIdeal.Gen

end
-- ==== Proof.Frame.Record0.lean ====
/- pallas_call 0 (`split_r`) as an item of @main: entered from every buffer at named contents, left at named contents. -/
module

public import proofs.«01_k».proof.Proof.Frame.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Frame.Record1.lean ====
/- pallas_call 1 (`rot_x`) as an item of @main: entered from every buffer at named contents, left at named contents. -/
module

public import proofs.«01_k».proof.Proof.Frame.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Frame.Record2.lean ====
/- pallas_call 2 (`rot_w`) as an item of @main: entered from every buffer at named contents, left at named contents. -/
module

public import proofs.«01_k».proof.Proof.Frame.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 2 (custom_call 2) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) (A_eq2 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Frame.Record3.lean ====
/- pallas_call 3 (`fwd_bwd`) as an item of @main: entered from every buffer at named contents, left at named contents. -/
module

public import proofs.«01_k».proof.Proof.Frame.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 3 (custom_call 3) over the thread state: entered from every unscoped buffer at `W5`, left at `W6`
    (what the next segment is entered from). Its arrays split out of the unscoped buffers
    (`arrays_of_unscopedBufs`) and put back at the exit contents (`unscopedBufs_of_arrays`); the generator register into the
    class invariant `ΦA` and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5 m ρ) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec3 c (V5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V5 m ρ c) (A_eq3 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin (V5 m ρ) c)
    unfold Pipeline.ΦA
    iintro ⟨Hp, -, Hr⟩
    isplitl [Hr]; · iexact Hr
    iexact Hp
  hout c := by
    rw [Pipeline.ownSems0_none]
    refine BIBase.Entails.trans (hout (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V5 m ρ c) (V6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Frame.Record4.lean ====
/- pallas_call 4 (`grad`) as an item of @main: entered from every buffer at named contents, left at named contents. -/
module

public import proofs.«01_k».proof.Proof.Frame.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 4 (custom_call 4) over the thread state: entered from every unscoped buffer at `W6`, left at `W7`
    (what the next segment is entered from). Its arrays split out of the unscoped buffers
    (`arrays_of_unscopedBufs`) and put back at the exit contents (`unscopedBufs_of_arrays`); the generator register into the
    class invariant `ΦA` and out; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V6 m ρ) c).loose
  hwaits := Pipeline.hwaits_of_owed_zero _ _ _ _ L lv 4 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec4 c (V6 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V6 m ρ c) (A_eq4 (V6 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V6 m ρ c) (V7 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Frame.lean ====
/- The run of @main: its eight items in order, and the frame (`frame`): every fair execution ends, the arguments are
   unchanged and every semaphore is back at zero. -/
module

public import proofs.«01_k».proof.Proof.Frame.Record0
public import proofs.«01_k».proof.Proof.Frame.Record1
public import proofs.«01_k».proof.Proof.Frame.Record2
public import proofs.«01_k».proof.Proof.Frame.Record3
public import proofs.«01_k».proof.Proof.Frame.Record4

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 8 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)),
    .region (reg3 m ρ),
    .region (reg4 m ρ),
    .host (hseg hostOps5 hostOps5_sub hostOps5_fresh (W7 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- Every fair execution of @main ends with every unscoped buffer at the last boundary's contents `W8` and every
    semaphore back at zero, at any `F`. -/
theorem run : θ_run defs (onTc (τ := τ) (main (F := F))) ⟨m, fun _ => 0, ρ⟩ (fun r => (∀ c : Dev nD,
      ∀ b ∈ Pipeline.ucRefs τ sig, r.2.mem (((c : Thread nD τ)).1, b) = W8 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => ⟨h, funext fun g => hz g (.inr (no_unscoped g.2))⟩)

/-- The frame: every fair execution ends, the arguments are unchanged and every semaphore is back at zero, at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
      ⟨(h.1 c _ (mem_uc main_arg0 (by decide))).trans (W8_main_arg0 m ρ c),
       (h.1 c _ (mem_uc main_arg1 (by decide))).trans (W8_main_arg1 m ρ c),
       (h.1 c _ (mem_uc main_arg2 (by decide))).trans (W8_main_arg2 m ρ c),
       (h.1 c _ (mem_uc main_arg3 (by decide))).trans (W8_main_arg3 m ρ c)⟩, h.2⟩) (run m ρ)

end Cert.KernelIdeal.Gen

end
-- ==== Proof.KernelBits.lean ====
/- The kernel as printed and its idealization are one program text, so the frame proved of the second at any float type
   is the frame of the first, bit for bit. -/
module

public import proofs.«01_k».proof.Defs
public import proofs.«01_k».proof.Proof.Gen.Kernel
public import proofs.«01_k».proof.Proof.Frame

@[expose] public section

noncomputable section

namespace Cert.Proof

open Idealize.ShloMosaic Idealize.SL.Sem Idealize.ShloMosaic.Tactic

/-- The frame of the idealization, read at bits. -/
def FrameAtBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

/-- It holds: the frame is proved at any float type. -/
theorem frameAtBits : FrameAtBits := fun m ρ _ => Cert.KernelIdeal.Gen.frame (F := Bits) m ρ

/-- The kernel as printed is its idealization's text: the two frames are one statement, by definition. -/
theorem quiescent_eq : Cert.quiescent_Kernel = FrameAtBits := by chain_rfl

/-- The printed kernel ends, leaves its arguments as they were and every semaphore at zero. -/
theorem quiescent_Kernel : Cert.quiescent_Kernel := quiescent_eq ▸ frameAtBits

end Cert.Proof

end
-- ==== Proof.Value.Split.lean ====
/- What pallas_call 0 (`split_r`) leaves in its result over the reals: plane 0 is the matrix itself, since the rounding
   to bf16 is the identity there. -/
module

public import proofs.«01_k».proof.Proof.Frame.Region0
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The block of the input at point `t` starts at row block `t`. -/
theorem idx0_0 : ∀ t : Fin cfg0.N, win0_0.index t = ![(grid0.coords t 0).val, 0] := by decide +kernel

/-- The block of the output at point `t` holds every plane of row block `t`. -/
theorem idx0_1 : ∀ t : Fin cfg0.N, win0_1.index t = ![0, (grid0.coords t 0).val, 0] := by decide +kernel

/-- Plane 0 of what the body leaves is the block it read. -/
theorem out0_plane0 (x : Vec Ideal S256x2560 .f32) (y : S3x256x2560.Idx) (h0 : (y 0).val = 0) :
    out0_1 x y = x (ix2 (y 1) (y 2)) := by
  frame_out
  canon_tiles z h
  all_goals try (exfalso; omega)
  pointwise [k0_pay4, k0_pay1]
  exact congrArg x (congrArg₂ ix2 (Fin.ext h1.symm) (Fin.ext h2.symm))

/-- Plane 0 of the split is the matrix that was split. -/
theorem split_plane0 (c : Dev nD) (i j : Fin 2560) :
    (dat0 V c).arrAt 1 cfg0.N (ix3 0 i j) = V c main_arg3 (ix2 i j) := by
  have key := (dat0 V c).arrAt_forall_of_covers 1
    (fun (i : S3x2560x2560.Idx) v => (i 0).val = 0 → v = V c main_arg3 (ix2 (i 1) (i 2))) (by decide +kernel) (fun t hf y => by
      rw [after0_1]
      blk_simp [idx0_1]
      intro h0
      rw [out0_plane0 _ _ h0]
      blk_ext [iblk0, idx0_0, idx0_1]) (ix3 0 i j)
  exact key rfl

end Cert.KernelIdeal.Val

end
-- ==== Proof.Value.Quant.lean ====
/- The quantiser on one row of extended reals: the scale, the rounded and clipped values, the squared error, and the
   fact that a clipped value survives the trip through int8. -/
module

public import Idealize.ShloMosaic.Lib.Pointwise

@[expose] public section

set_option maxRecDepth 16384

noncomputable section

namespace Cert.Quant

open Idealize.ShloMosaic

/-- The largest absolute value of a row (from `-∞`). -/
def amax (v : Fin 2560 → EReal) : EReal :=
  Finset.fold max (Ideal.ofBits .f32 0xFF800000#32) (fun k => FloatOps.absf (F := Ideal) (φ := .f32) (v k)) Finset.univ

/-- The row's scale: 1 for a zero row, else its largest absolute value over `hi`. -/
def scale (hi : BitVec 32) (v : Fin 2560 → EReal) : EReal :=
  if amax v = 0 then 1 else Ideal.div (amax v) (Ideal.ofBits .f32 hi)

/-- The row over its scale, rounded to an integer and clipped to `[lo, hi]`. -/
def quant (lo hi : BitVec 32) (v : Fin 2560 → EReal) (k : Fin 2560) : EReal :=
  min (Ideal.ofBits .f32 hi) (max (Ideal.ofBits .f32 lo)
    (Ideal.liftRound Ideal.roundHalfEven (Ideal.div (v k) (scale hi v))))

/-- The integer codes. -/
def code (lo hi : BitVec 32) (v : Fin 2560 → EReal) (k : Fin 2560) : BitVec 8 :=
  Ideal.fptosi 8 (quant lo hi v k)

/-- The squared error of the quantised row. -/
def err (lo hi : BitVec 32) (v : Fin 2560 → EReal) : EReal :=
  ∑ k, (v k - scale hi v * quant lo hi v k) * (v k - scale hi v * quant lo hi v k)

/-! ## The trip through int8 -/

/-- A rounded value clipped to `[L, H]` is an integer of that range, whatever was rounded. -/
theorem clip_int (L H : ℤ) (hLH : L ≤ H) (z : EReal) :
    ∃ n : ℤ, L ≤ n ∧ n ≤ H ∧
      min ((H : ℝ) : EReal) (max ((L : ℝ) : EReal) (Ideal.liftRound Ideal.roundHalfEven z)) = ((n : ℝ) : EReal) := by
  have h : ((L : ℝ) : EReal) ≤ ((H : ℝ) : EReal) := by exact_mod_cast hLH
  induction z using EReal.rec with
  | bot =>
    refine ⟨L, le_refl _, hLH, ?_⟩
    show min _ (max _ (⊥ : EReal)) = _
    rw [max_eq_left bot_le, min_eq_right h]
  | top =>
    refine ⟨H, hLH, le_refl _, ?_⟩
    show min _ (max _ (⊤ : EReal)) = _
    rw [max_eq_right le_top, min_eq_left le_top]
  | coe r =>
    refine ⟨min H (max L (Ideal.roundHalfEven r)), ?_, min_le_left _ _, ?_⟩
    · exact le_min hLH (le_max_left _ _)
    · show min _ (max _ (((Ideal.roundHalfEven r : ℤ) : ℝ) : EReal)) = _
      have hm : Monotone ((↑) : ℝ → EReal) := fun _ _ h => EReal.coe_le_coe_iff.mpr h
      rw [← hm.map_max, ← hm.map_min]
      push_cast
      rfl

/-- An integer of the int8 range is its own code. -/
theorem trip_int (n : ℤ) (h0 : -128 ≤ n) (h1 : n ≤ 127) :
    FloatOps.sitofp (F := Ideal) .bf16 (Ideal.fptosi 8 ((n : ℝ) : EReal)) = ((n : ℝ) : EReal) := by
  have h : Ideal.toIntClamped (-128) 127 ((n : ℝ) : EReal) = n := by
    show max (-128) (min 127 (if (0 : ℝ) ≤ (n : ℝ) then ⌊(n : ℝ)⌋ else ⌈(n : ℝ)⌉)) = n
    rw [Int.floor_intCast, Int.ceil_intCast, ite_self]
    omega
  show (((Ideal.fptosi 8 ((n : ℝ) : EReal)).toInt : ℝ) : EReal) = _
  unfold Ideal.fptosi
  rw [show (-(2 ^ (8 - 1) : ℕ) : ℤ) = -128 from rfl, show (((2 ^ (8 - 1) : ℕ) : ℤ) - 1) = 127 from rfl, h, BitVec.toInt_ofInt]
  rw [Int.bmod_eq_of_le (by norm_num; omega) (by norm_num; omega)]

theorem ofBits_127 : Ideal.ofBits .f32 0x42FE0000#32 = (((127 : ℤ) : ℝ) : EReal) := by
  simp [Ideal.ofBits, Ideal.ieee, -EReal.coe_mul]; norm_num

theorem ofBits_neg_127 : Ideal.ofBits .f32 0xC2FE0000#32 = (((-127 : ℤ) : ℝ) : EReal) := by
  simp [Ideal.ofBits, Ideal.ieee, -EReal.coe_mul, -EReal.coe_neg]; norm_num

theorem ofBits_7 : Ideal.ofBits .f32 0x40E00000#32 = (((7 : ℤ) : ℝ) : EReal) := by
  simp [Ideal.ofBits, Ideal.ieee, -EReal.coe_mul]; norm_num

theorem ofBits_neg_7 : Ideal.ofBits .f32 0xC0E00000#32 = (((-7 : ℤ) : ℝ) : EReal) := by
  simp [Ideal.ofBits, Ideal.ieee, -EReal.coe_mul, -EReal.coe_neg]; norm_num

/-- The 8-bit codes read back are the clipped values. -/
theorem trip8 (v : Fin 2560 → EReal) (k : Fin 2560) :
    FloatOps.sitofp (F := Ideal) .bf16 (code 0xC2FE0000#32 0x42FE0000#32 v k) = quant 0xC2FE0000#32 0x42FE0000#32 v k := by
  unfold code quant
  rw [ofBits_127, ofBits_neg_127]
  obtain ⟨n, h0, h1, h⟩ := clip_int (-127) 127 (by norm_num) (Ideal.div (v k) (scale 0x42FE0000#32 v))
  rw [h]
  exact trip_int n (by omega) (by omega)

/-- The 4-bit codes read back are the clipped values. -/
theorem trip4 (v : Fin 2560 → EReal) (k : Fin 2560) :
    FloatOps.sitofp (F := Ideal) .bf16 (code 0xC0E00000#32 0x40E00000#32 v k) = quant 0xC0E00000#32 0x40E00000#32 v k := by
  unfold code quant
  rw [ofBits_7, ofBits_neg_7]
  obtain ⟨n, h0, h1, h⟩ := clip_int (-7) 7 (by norm_num) (Ideal.div (v k) (scale 0x40E00000#32 v))
  rw [h]
  exact trip_int n (by omega) (by omega)

end Cert.Quant

end
-- ==== Proof.Value.RotX.lean ====
/- What pallas_call 1 (`rot_x`) leaves in its results over the reals: the rows rotated, then quantised. -/
module

public import proofs.«01_k».proof.Proof.Frame.Region1
public import proofs.«01_k».proof.Proof.Value.Quant
public import Idealize.ShloMosaic.Lib.Pipeline.ValueKit
public import Idealize.ShloMosaic.Lib.Pipeline.ReadBack

@[expose] public section

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-! ## Which block of its array a window takes at a point -/

theorem idx1_0 : ∀ t : Fin cfg1.N, win1_0.index t = ![(grid1.coords t 0).val, 0] := by decide +kernel
theorem idx1_1 : ∀ t : Fin cfg1.N, win1_1.index t = ![0, 0, 0] := by decide +kernel
theorem idx1_2 : ∀ t : Fin cfg1.N, win1_2.index t = ![(grid1.coords t 0).val, 0] := by decide +kernel
theorem idx1_3 : ∀ t : Fin cfg1.N, win1_3.index t = ![(grid1.coords t 0).val, 0] := by decide +kernel
theorem idx1_4 : ∀ t : Fin cfg1.N, win1_4.index t = ![(grid1.coords t 0).val, 0, 0] := by decide +kernel
theorem idx1_5 : ∀ t : Fin cfg1.N, win1_5.index t = ![(grid1.coords t 0).val, 0, 0] := by decide +kernel

/-! ## One point: eight sub-blocks of rows, each row quantised -/

/-- The codes a point writes. -/
theorem outsAt1_codes (c : Dev nD) (t : Fin cfg1.N) (y : S512x2560.Idx) :
    (outsAt1 V c t).1 y = Quant.code 0xC2FE0000#32 0x42FE0000#32
      (fun k => k1_pay5 (iblk1 V c 0 t) (iblk1 V c 1 t) (ix2 (y 0) k)) (y 1) := by
  unfold outsAt1
  frame_open
  simp (disch := decide) only [↓ View.readCov_skip, ↓ View.readCov_cons_toLoadRect, ↓ View.readCov_fill]
  frame_out
  generalize k1_pay5 (iblk1 V c 0 t) (iblk1 V c 1 t) = A
  idx_vars y
  canon_tiles x h
  all_goals (
    idx_vars x
    unfold_payloads
    pointwise
    obtain rfl : y1 = x1 := Fin.ext h1
    simp only [← h0, Fin.eta]
    rfl)

/-- The column of scales a point writes. -/
theorem outsAt1_col (c : Dev nD) (t : Fin cfg1.N) (y : S512x1.Idx) :
    (outsAt1 V c t).2.1 y = Quant.scale 0x42FE0000#32
      (fun k => k1_pay5 (iblk1 V c 0 t) (iblk1 V c 1 t) (ix2 (y 0) k)) := by
  unfold outsAt1
  frame_open
  simp (disch := decide) only [↓ View.readCov_skip, ↓ View.readCov_cons_toLoadRect, ↓ View.readCov_fill]
  frame_out
  generalize k1_pay5 (iblk1 V c 0 t) (iblk1 V c 1 t) = A
  idx_vars y
  canon_tiles x h
  all_goals (
    idx_vars x
    unfold_payloads
    pointwise
    skip
    simp only [← h0, Fin.eta]
    rfl)

/-- The row of scales a point writes. -/
theorem outsAt1_row (c : Dev nD) (t : Fin cfg1.N) (y : S1x1x512.Idx) :
    (outsAt1 V c t).2.2.1 y = Quant.scale 0x42FE0000#32
      (fun k => k1_pay5 (iblk1 V c 0 t) (iblk1 V c 1 t) (ix2 (y 2) k)) := by
  unfold outsAt1
  frame_open
  simp (disch := decide) only [↓ View.readCov_skip, ↓ View.readCov_cons_toLoadRect, ↓ View.readCov_fill]
  frame_out
  generalize k1_pay5 (iblk1 V c 0 t) (iblk1 V c 1 t) = A
  idx_vars y
  canon_tiles x h
  all_goals (
    idx_vars x
    unfold_payloads
    pointwise
    skip
    simp only [← h2, Fin.eta]
    rfl)

/-- The product the quantiser reads: a row of the block against the plane. -/
theorem prod1_apply (x0 : Vec Ideal S512x2560 .bf16) (x1 : Vec Ideal S1x2560x2560 .bf16) (i : Fin 512) (j : Fin 2560) :
    k1_pay5 x0 x1 (ix2 i j) = ∑ l : Fin 2560, x0 (ix2 i l) * x1 (ix3 0 l j) := by
  pointwise [k1_pay5]

/-! ## The arrays -/

/-- Row `i` of the rotated matrix. -/
def row1 (a : Vec Ideal S1536x2560 .bf16) (p : Vec Ideal S3x2560x2560 .bf16) (i : Fin 1536) (k : Fin 2560) : EReal :=
  ∑ l : Fin 2560, a (ix2 i l) * p (ix3 0 l k)

/-- A row of the product of the blocks at a point is the row of the rotated matrix the block starts at. -/
theorem blkrow1 (c : Dev nD) (t : Fin cfg1.N) (r : Fin 512) (i : Fin 1536)
    (h : i.val = (grid1.coords t 0).val * 512 + r.val) (k : Fin 2560) :
    k1_pay5 (iblk1 V c 0 t) (iblk1 V c 1 t) (ix2 r k) = row1 (V c main_v0) (V c main_v2) i k := by
  rw [prod1_apply]
  unfold row1
  refine Finset.sum_congr rfl fun l _ => ?_
  congr 1 <;> blk_ext [iblk1, idx1_0, idx1_1, h]

/-- The codes in the array after the call. -/
theorem arr1_codes (c : Dev nD) :
    (dat1 V c).arrAt 2 cfg1.N = fun (i : S1536x2560.Idx) => Quant.code 0xC2FE0000#32 0x42FE0000#32 (row1 (V c main_v0) (V c main_v2) (i 0)) (i 1) := by
  refine (dat1 V c).arrAt_eq_of_covers 2 _ (by decide +kernel) fun t hf y => ?_
  rw [after1_2]
  blk_simp [idx1_2]
  rw [outsAt1_codes]
  refine congr (congrArg (Quant.code _ _) ?_) (Fin.ext (by blk_simp [idx1_2]; try omega))
  exact funext fun k => blkrow1 V c t _ _ (by blk_simp [idx1_2]; try omega) k

/-- The column of scales in the array after the call. -/
theorem arr1_col (c : Dev nD) :
    (dat1 V c).arrAt 3 cfg1.N = fun (i : S1536x1.Idx) => Quant.scale 0x42FE0000#32 (row1 (V c main_v0) (V c main_v2) (i 0)) := by
  refine (dat1 V c).arrAt_eq_of_covers 3 _ (by decide +kernel) fun t hf y => ?_
  rw [after1_3]
  blk_simp [idx1_3]
  rw [outsAt1_col]
  refine congrArg (Quant.scale _) ?_
  exact funext fun k => blkrow1 V c t _ _ (by blk_simp [idx1_3]; try omega) k

/-- The row of scales in the array after the call. -/
theorem arr1_row (c : Dev nD) :
    (dat1 V c).arrAt 4 cfg1.N = fun (i : S3x1x512.Idx) => Quant.scale 0x42FE0000#32 (row1 (V c main_v0) (V c main_v2) ⟨(i 0).val * 512 + (i 2).val, by have h0 : (i 0).val < 3 := (i 0).isLt; have h2 : (i 2).val < 512 := (i 2).isLt; omega⟩) := by
  refine (dat1 V c).arrAt_eq_of_covers 4 _ (by decide +kernel) fun t hf y => ?_
  rw [after1_4]
  blk_simp [idx1_4]
  rw [outsAt1_row]
  refine congrArg (Quant.scale _) ?_
  exact funext fun k => blkrow1 V c t _ _ (by blk_simp [idx1_4]; try omega) k

end Cert.KernelIdeal.Val

end
-- ==== Proof.Value.RotW.lean ====
/- What pallas_call 2 (`rot_w`) leaves in its results over the reals: the rows rotated, then quantised. -/
module

public import proofs.«01_k».proof.Proof.Frame.Region2
public import proofs.«01_k».proof.Proof.Value.Quant
public import Idealize.ShloMosaic.Lib.Pipeline.ValueKit
public import Idealize.ShloMosaic.Lib.Pipeline.ReadBack

@[expose] public section

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-! ## Which block of its array a window takes at a point -/

theorem idx2_0 : ∀ t : Fin cfg2.N, win2_0.index t = ![(grid2.coords t 0).val, 0] := by decide +kernel
theorem idx2_1 : ∀ t : Fin cfg2.N, win2_1.index t = ![0, 0, 0] := by decide +kernel
theorem idx2_2 : ∀ t : Fin cfg2.N, win2_2.index t = ![(grid2.coords t 0).val, 0] := by decide +kernel
theorem idx2_3 : ∀ t : Fin cfg2.N, win2_3.index t = ![(grid2.coords t 0).val, 0] := by decide +kernel
theorem idx2_4 : ∀ t : Fin cfg2.N, win2_4.index t = ![(grid2.coords t 0).val, 0, 0] := by decide +kernel
theorem idx2_5 : ∀ t : Fin cfg2.N, win2_5.index t = ![(grid2.coords t 0).val, 0, 0] := by decide +kernel

/-! ## One point: eight sub-blocks of rows, each row quantised -/

/-- The codes a point writes. -/
theorem outsAt2_codes (c : Dev nD) (t : Fin cfg2.N) (y : S512x2560.Idx) :
    (outsAt2 V c t).1 y = Quant.code 0xC0E00000#32 0x40E00000#32
      (fun k => k2_pay5 (iblk2 V c 0 t) (iblk2 V c 1 t) (ix2 (y 0) k)) (y 1) := by
  unfold outsAt2
  frame_open
  simp (disch := decide) only [↓ View.readCov_skip, ↓ View.readCov_cons_toLoadRect, ↓ View.readCov_fill]
  frame_out
  generalize k2_pay5 (iblk2 V c 0 t) (iblk2 V c 1 t) = A
  idx_vars y
  canon_tiles x h
  all_goals (
    idx_vars x
    unfold_payloads
    pointwise
    obtain rfl : y1 = x1 := Fin.ext h1
    simp only [← h0, Fin.eta]
    rfl)

/-- The row of scales a point writes. -/
theorem outsAt2_row (c : Dev nD) (t : Fin cfg2.N) (y : S1x1x512.Idx) :
    (outsAt2 V c t).2.2.1 y = Quant.scale 0x40E00000#32
      (fun k => k2_pay5 (iblk2 V c 0 t) (iblk2 V c 1 t) (ix2 (y 2) k)) := by
  unfold outsAt2
  frame_open
  simp (disch := decide) only [↓ View.readCov_skip, ↓ View.readCov_cons_toLoadRect, ↓ View.readCov_fill]
  frame_out
  generalize k2_pay5 (iblk2 V c 0 t) (iblk2 V c 1 t) = A
  idx_vars y
  canon_tiles x h
  all_goals (
    idx_vars x
    unfold_payloads
    pointwise
    skip
    simp only [← h2, Fin.eta]
    rfl)

/-- The row of squared errors a point writes. -/
theorem outsAt2_err (c : Dev nD) (t : Fin cfg2.N) (y : S1x1x512.Idx) :
    (outsAt2 V c t).2.2.2 y = Quant.err 0xC0E00000#32 0x40E00000#32
      (fun k => k2_pay5 (iblk2 V c 0 t) (iblk2 V c 1 t) (ix2 (y 2) k)) := by
  unfold outsAt2
  frame_open
  simp (disch := decide) only [↓ View.readCov_skip, ↓ View.readCov_cons_toLoadRect, ↓ View.readCov_fill]
  frame_out
  generalize k2_pay5 (iblk2 V c 0 t) (iblk2 V c 1 t) = A
  idx_vars y
  canon_tiles x h
  all_goals (
    idx_vars x
    unfold_payloads
    pointwise
    skip
    simp only [← h2, Fin.eta]
    rfl)

/-- The product the quantiser reads: a row of the block against the plane. -/
theorem prod2_apply (x0 : Vec Ideal S512x2560 .bf16) (x1 : Vec Ideal S1x2560x2560 .bf16) (i : Fin 512) (j : Fin 2560) :
    k2_pay5 x0 x1 (ix2 i j) = ∑ l : Fin 2560, x0 (ix2 i l) * x1 (ix3 0 l j) := by
  pointwise [k2_pay5]

/-! ## The arrays -/

/-- Row `i` of the rotated matrix. -/
def row2 (a : Vec Ideal S18432x2560 .bf16) (p : Vec Ideal S3x2560x2560 .bf16) (i : Fin 18432) (k : Fin 2560) : EReal :=
  ∑ l : Fin 2560, a (ix2 i l) * p (ix3 0 l k)

/-- A row of the product of the blocks at a point is the row of the rotated matrix the block starts at. -/
theorem blkrow2 (c : Dev nD) (t : Fin cfg2.N) (r : Fin 512) (i : Fin 18432)
    (h : i.val = (grid2.coords t 0).val * 512 + r.val) (k : Fin 2560) :
    k2_pay5 (iblk2 V c 0 t) (iblk2 V c 1 t) (ix2 r k) = row2 (V c main_v1) (V c main_v2) i k := by
  rw [prod2_apply]
  unfold row2
  refine Finset.sum_congr rfl fun l _ => ?_
  congr 1 <;> blk_ext [iblk2, idx2_0, idx2_1, h]

/-- The codes in the array after the call. -/
theorem arr2_codes (c : Dev nD) :
    (dat2 V c).arrAt 2 cfg2.N = fun (i : S18432x2560.Idx) => Quant.code 0xC0E00000#32 0x40E00000#32 (row2 (V c main_v1) (V c main_v2) (i 0)) (i 1) := by
  refine (dat2 V c).arrAt_eq_of_covers 2 _ (by decide +kernel) fun t hf y => ?_
  rw [after2_2]
  blk_simp [idx2_2]
  rw [outsAt2_codes]
  refine congr (congrArg (Quant.code _ _) ?_) (Fin.ext (by blk_simp [idx2_2]; try omega))
  exact funext fun k => blkrow2 V c t _ _ (by blk_simp [idx2_2]; try omega) k

/-- The row of scales in the array after the call. -/
theorem arr2_row (c : Dev nD) :
    (dat2 V c).arrAt 4 cfg2.N = fun (i : S36x1x512.Idx) => Quant.scale 0x40E00000#32 (row2 (V c main_v1) (V c main_v2) ⟨(i 0).val * 512 + (i 2).val, by have h0 : (i 0).val < 36 := (i 0).isLt; have h2 : (i 2).val < 512 := (i 2).isLt; omega⟩) := by
  refine (dat2 V c).arrAt_eq_of_covers 4 _ (by decide +kernel) fun t hf y => ?_
  rw [after2_4]
  blk_simp [idx2_4]
  rw [outsAt2_row]
  refine congrArg (Quant.scale _) ?_
  exact funext fun k => blkrow2 V c t _ _ (by blk_simp [idx2_4]; try omega) k

/-- The row of squared errors in the array after the call. -/
theorem arr2_err (c : Dev nD) :
    (dat2 V c).arrAt 5 cfg2.N = fun (i : S36x1x512.Idx) => Quant.err 0xC0E00000#32 0x40E00000#32 (row2 (V c main_v1) (V c main_v2) ⟨(i 0).val * 512 + (i 2).val, by have h0 : (i 0).val < 36 := (i 0).isLt; have h2 : (i 2).val < 512 := (i 2).isLt; omega⟩) := by
  refine (dat2 V c).arrAt_eq_of_covers 5 _ (by decide +kernel) fun t hf y => ?_
  rw [after2_5]
  blk_simp [idx2_5]
  rw [outsAt2_err]
  refine congrArg (Quant.err _ _) ?_
  exact funext fun k => blkrow2 V c t _ _ (by blk_simp [idx2_5]; try omega) k

end Cert.KernelIdeal.Val

end
-- ==== Proof.Value.Fwd.lean ====
/- What pallas_call 3 (`fwd_bwd`) leaves in its results over the reals: the error of the quantised product and its two
   pulled-back factors, each as a function of the arrays the call reads. -/
module

public import proofs.«01_k».proof.Proof.Frame.Region3
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-! ## Which block of its array a window takes at a point -/

theorem idx3_0 : ∀ t : Fin cfg3.N, win3_0.index t = ![0, 0] := by decide +kernel
theorem idx3_1 : ∀ t : Fin cfg3.N, win3_1.index t = ![0, 0] := by decide +kernel
theorem idx3_2 : ∀ t : Fin cfg3.N, win3_2.index t = ![t.val, 0] := by decide +kernel
theorem idx3_3 : ∀ t : Fin cfg3.N, win3_3.index t = ![t.val, 0, 0] := by decide +kernel
theorem idx3_4 : ∀ t : Fin cfg3.N, win3_4.index t = ![t.val / 24, 0, t.val % 24] := by decide +kernel
theorem idx3_5 : ∀ t : Fin cfg3.N, win3_5.index t = ![t.val / 24, 0, t.val % 24] := by decide +kernel
theorem idx3_6 : ∀ t : Fin cfg3.N, win3_6.index t = ![t.val, 0] := by decide +kernel
theorem idx3_7 : ∀ t : Fin cfg3.N, win3_7.index t = ![0, 0] := by decide +kernel

/-! ## What a point leaves, from its blocks -/

/-- The token codes as extended reals: what the body holds in its first scratch from the first point on. -/
def held3 (c : Dev nD) : Vec Ideal S1536x2560 .bf16 := k3_pay4 (F := Ideal) (V c main_v3_0)

/-- Window 0 takes the whole array at every point. -/
theorem iblk3_0_eq (c : Dev nD) (t : Fin cfg3.N) : iblk3 V c 0 t = V c main_v3_0 := by
  funext y
  blk_ext [iblk3, idx3_0]

/-- The first scratch holds the token codes after every point. -/
theorem held3_eq (c : Dev nD) : ∀ (n : ℕ) (h : n < cfg3.N), (outsAt3 V c n h).2.2.2.2.1 = held3 V c := by
  intro n
  induction n with
  | zero =>
    intro h
    rw [outsAt3_A V c ⟨0, h⟩ rfl (by simp)]
    frame_out
    rw [iblk3_0_eq]; rfl
  | succ n ih =>
    intro h
    have hN : n + 1 < 72 := lt_of_lt_of_eq h (show cfg3.N = 72 from N_3)
    have h0 : ¬(⟨n + 1, h⟩ : Fin cfg3.N).val % 72 = 0 := by dsimp only; omega
    by_cases h1 : (⟨n + 1, h⟩ : Fin cfg3.N).val % 72 = 71
    · rw [outsAt3_C V c ⟨n + 1, h⟩ h0 h1]
      frame_out
      exact ih _
    · rw [outsAt3_B V c ⟨n + 1, h⟩ h0 h1]
      frame_out
      exact ih _

/-- The error block at point `t`. -/
def eblk3 (c : Dev nD) (t : Fin cfg3.N) : Vec Ideal S1536x256 .f32 :=
  k3_pay10 (iblk3 V c 2 t) (iblk3 V c 3 t) (iblk3 V c 1 t) (held3 V c) (iblk3 V c 4 t)

/-- The scratch a point finds (at any but the first point). -/
theorem held3_prev (c : Dev nD) (t : Fin cfg3.N) (h : t.val - 1 < cfg3.N) :
    (outsAt3 V c (t.val - 1) h).2.2.2.2.1 = held3 V c := held3_eq V c _ h

/-- The error block written at a point. -/
theorem outs3_e (c : Dev nD) (t : Fin cfg3.N) :
    (outsAt3 V c t.val t.isLt).1 = k3_pay11 (iblk3 V c 2 t) (iblk3 V c 3 t) (iblk3 V c 1 t) (held3 V c) (iblk3 V c 4 t) := by
  by_cases h0 : t.val % 72 = 0
  · rw [outsAt3_A V c t h0 (by omega)]
    frame_out
    rw [iblk3_0_eq]; rfl
  · by_cases h1 : t.val % 72 = 71
    · rw [outsAt3_C V c t h0 h1]
      frame_out
      simp only [read_unread_whole]
      rw [held3_prev]
    · rw [outsAt3_B V c t h0 h1]
      frame_out
      simp only [read_unread_whole]
      rw [held3_prev]

/-- The block of the pulled-back factor of the weights written at a point. -/
theorem outs3_q (c : Dev nD) (t : Fin cfg3.N) :
    (outsAt3 V c t.val t.isLt).2.1 = k3_pay2 (k3_pay9 (iblk3 V c 1 t)) (eblk3 V c t) (held3 V c) := by
  unfold eblk3
  by_cases h0 : t.val % 72 = 0
  · rw [outsAt3_A V c t h0 (by omega)]
    frame_out
    rw [iblk3_0_eq]; rfl
  · by_cases h1 : t.val % 72 = 71
    · rw [outsAt3_C V c t h0 h1]
      frame_out
      simp only [read_unread_whole]
      rw [held3_prev]
    · rw [outsAt3_B V c t h0 h1]
      frame_out
      simp only [read_unread_whole]
      rw [held3_prev]

/-- The rescaled error block a point multiplies with the codes of the weights. -/
def ew3 (c : Dev nD) (t : Fin cfg3.N) : Vec Ideal S1536x256 .bf16 :=
  k3_pay13 (iblk3 V c 2 t) (iblk3 V c 3 t) (iblk3 V c 1 t) (held3 V c) (iblk3 V c 4 t)

/-- The accumulator after the first point. -/
theorem outs3_acc_A (c : Dev nD) (t : Fin cfg3.N) (h0 : t.val % 72 = 0) :
    (outsAt3 V c t.val t.isLt).2.2.2.2.2 = k3_pay1 (k3_pay7 (iblk3 V c 2 t)) (ew3 V c t) (k3_pay5 (F := Ideal)) := by
  unfold ew3
  rw [outsAt3_A V c t h0 (by omega)]
  frame_out
  rw [iblk3_0_eq]; rfl

/-- The accumulator after any other point. -/
theorem outs3_acc_B (c : Dev nD) (t : Fin cfg3.N) (h0 : ¬t.val % 72 = 0) (h : t.val - 1 < cfg3.N) :
    (outsAt3 V c t.val t.isLt).2.2.2.2.2
      = k3_pay1 (k3_pay7 (iblk3 V c 2 t)) (ew3 V c t) (outsAt3 V c (t.val - 1) h).2.2.2.2.2 := by
  unfold ew3
  by_cases h1 : t.val % 72 = 71
  · rw [outsAt3_C V c t h0 h1]
    frame_out
    simp only [read_unread_whole]
    rw [held3_prev]
  · rw [outsAt3_B V c t h0 h1]
    frame_out
    simp only [read_unread_whole]
    rw [held3_prev]

/-- The last point writes the accumulator out. -/
theorem outs3_ps (c : Dev nD) (t : Fin cfg3.N) (h1 : t.val % 72 = 71) :
    (outsAt3 V c t.val t.isLt).2.2.1 = k3_pay3 (outsAt3 V c t.val t.isLt).2.2.2.2.2 := by
  have h0 : ¬t.val % 72 = 0 := by omega
  rw [outs3_acc_B V c t h0 (lt_of_le_of_lt (Nat.sub_le _ _) t.isLt)]
  unfold ew3
  rw [outsAt3_C V c t h0 h1]
  frame_out
  simp only [read_unread_whole]
  rw [held3_prev]

/-! ## The payloads at an index -/

theorem pay3_10_apply (qw : Vec Ideal S256x2560 .i8) (sr : Vec Ideal S1x1x256 .f32) (st : Vec Ideal S1536x1 .f32)
    (qx : Vec Ideal S1536x2560 .bf16) (y : Vec Ideal S1x1536x256 .bf16) (i : Fin 1536) (n : Fin 256) :
    k3_pay10 qw sr st qx y (ix2 i n)
      = (∑ k : Fin 2560, qx (ix2 i k) * FloatOps.sitofp (F := Ideal) .bf16 (qw (ix2 n k))) * st (ix2 i 0) * sr (ix3 0 0 n)
        - y (ix3 0 i n) := by
  pointwise [k3_pay10, k3_pay7, k3_pay8, k3_pay9]

theorem pay3_11_apply (qw : Vec Ideal S256x2560 .i8) (sr : Vec Ideal S1x1x256 .f32) (st : Vec Ideal S1536x1 .f32)
    (qx : Vec Ideal S1536x2560 .bf16) (y : Vec Ideal S1x1536x256 .bf16) (i : Fin 1536) (n : Fin 256) :
    k3_pay11 qw sr st qx y (ix3 0 i n) = k3_pay10 qw sr st qx y (ix2 i n) := by
  pointwise [k3_pay11]

theorem pay3_13_apply (qw : Vec Ideal S256x2560 .i8) (sr : Vec Ideal S1x1x256 .f32) (st : Vec Ideal S1536x1 .f32)
    (qx : Vec Ideal S1536x2560 .bf16) (y : Vec Ideal S1x1536x256 .bf16) (i : Fin 1536) (n : Fin 256) :
    k3_pay13 qw sr st qx y (ix2 i n) = k3_pay10 qw sr st qx y (ix2 i n) * sr (ix3 0 0 n) := by
  pointwise [k3_pay13, k3_pay8]

theorem pay3_2_apply (st : Vec Ideal S1536x1 .f32) (e : Vec Ideal S1536x256 .f32) (qx : Vec Ideal S1536x2560 .bf16)
    (n : Fin 256) (j : Fin 2560) :
    k3_pay2 (k3_pay9 st) e qx (ix2 n j) = ∑ i : Fin 1536, e (ix2 i n) * st (ix2 i 0) * qx (ix2 i j) := by
  pointwise [k3_pay2, k3_pay9]

theorem pay3_1_apply (qw : Vec Ideal S256x2560 .i8) (ew : Vec Ideal S1536x256 .bf16) (acc : Vec Ideal S1536x2560 .f32)
    (i : Fin 1536) (j : Fin 2560) :
    k3_pay1 (k3_pay7 qw) ew acc (ix2 i j)
      = acc (ix2 i j) + ∑ n : Fin 256, ew (ix2 i n) * FloatOps.sitofp (F := Ideal) .bf16 (qw (ix2 n j)) := by
  pointwise [k3_pay1, k3_pay7]

theorem pay3_5_apply (i : Fin 1536) (j : Fin 2560) : k3_pay5 (F := Ideal) (ix2 i j) = 0 := by
  pointwise [k3_pay5]

theorem pay3_3_apply (a : Vec Ideal S1536x2560 .f32) (i : Fin 1536) (j : Fin 2560) : k3_pay3 a (ix2 i j) = a (ix2 i j) := by
  pointwise [k3_pay3]

/-! ## The arrays, from the arrays the call reads -/

section Arrays

variable (qx : Vec Ideal S1536x2560 .i8) (st : Vec Ideal S1536x1 .f32) (qw : Vec Ideal S18432x2560 .i8)
  (sr : Vec Ideal S72x1x256 .f32) (y : Vec Ideal S3x1536x6144 .bf16)

/-- The scale of row `r` of the weights. -/
def srAt (r : Fin 18432) : EReal := sr (ix3 ⟨r.val / 256, by omega⟩ 0 ⟨r.val % 256, by omega⟩)

/-- The error at token `i` and weight row `r`. -/
def eAt (i : Fin 1536) (r : Fin 18432) : EReal :=
  (∑ k : Fin 2560, FloatOps.sitofp (F := Ideal) .bf16 (qx (ix2 i k)) * FloatOps.sitofp (F := Ideal) .bf16 (qw (ix2 r k)))
      * st (ix2 i 0) * srAt sr r
    - y (ix3 ⟨r.val / 6144, by omega⟩ i ⟨r.val % 6144, by omega⟩)

/-- The factor pulled back to the rotated weights. -/
def qAt (r : Fin 18432) (j : Fin 2560) : EReal :=
  ∑ i : Fin 1536, eAt qx st qw sr y i r * st (ix2 i 0) * FloatOps.sitofp (F := Ideal) .bf16 (qx (ix2 i j))

/-- The factor pulled back to the rotated tokens. -/
def psAt (i : Fin 1536) (j : Fin 2560) : EReal :=
  ∑ r : Fin 18432, eAt qx st qw sr y i r * srAt sr r * FloatOps.sitofp (F := Ideal) .bf16 (qw (ix2 r j))

end Arrays

/-- The error at the arrays the call finds. -/
abbrev e3 (c : Dev nD) := eAt (V c main_v3_0) (V c main_v3_1) (V c main_v4_0) (V c main_v6) (V c main_v5)

theorem held3_apply (c : Dev nD) (i : Fin 1536) (k : Fin 2560) :
    held3 V c (ix2 i k) = FloatOps.sitofp (F := Ideal) .bf16 (V c main_v3_0 (ix2 i k)) := by
  unfold held3
  pointwise [k3_pay4]

/-- The blocks at point `t`, read at coordinates, are the arrays at row `256 t + n`. -/
theorem iblk3_1_apply (c : Dev nD) (t : Fin cfg3.N) (i : Fin 1536) :
    iblk3 V c 1 t (ix2 i 0) = V c main_v3_1 (ix2 i 0) := by
  blk_ext [iblk3, idx3_1]

theorem iblk3_2_apply (c : Dev nD) (t : Fin cfg3.N) (n : Fin 256) (k : Fin 2560) (r : Fin 18432) (h : r.val = t.val * 256 + n.val) :
    iblk3 V c 2 t (ix2 n k) = V c main_v4_0 (ix2 r k) := by
  blk_ext [iblk3, idx3_2, h]

theorem iblk3_3_apply (c : Dev nD) (t : Fin cfg3.N) (n : Fin 256) (r : Fin 18432) (h : r.val = t.val * 256 + n.val) :
    iblk3 V c 3 t (ix3 0 0 n) = srAt (V c main_v6) r := by
  unfold srAt
  blk_ext [iblk3, idx3_3, h]

theorem iblk3_4_apply (c : Dev nD) (t : Fin cfg3.N) (i : Fin 1536) (n : Fin 256) (r : Fin 18432) (h : r.val = t.val * 256 + n.val) :
    iblk3 V c 4 t (ix3 0 i n) = V c main_v5 (ix3 ⟨r.val / 6144, by omega⟩ i ⟨r.val % 6144, by omega⟩) := by
  blk_ext [iblk3, idx3_4, h]

/-- The error block is the error at rows `256 t + n`. -/
theorem eblk3_apply (c : Dev nD) (t : Fin cfg3.N) (i : Fin 1536) (n : Fin 256) (r : Fin 18432) (h : r.val = t.val * 256 + n.val) :
    eblk3 V c t (ix2 i n) = e3 V c i r := by
  unfold eblk3 e3 eAt
  rw [pay3_10_apply, iblk3_1_apply, iblk3_3_apply V c t n r h, iblk3_4_apply V c t i n r h]
  simp only [held3_apply, iblk3_2_apply V c t n _ r h]

/-- The block written to the error array, at a position and the row it stands for. -/
theorem blk3_e (c : Dev nD) (t : Fin cfg3.N) (y : S1x1536x256.Idx) (i : Fin 1536) (r : Fin 18432) (hi : i = y 1)
    (h : r.val = t.val * 256 + (y 2).val) :
    k3_pay11 (iblk3 V c 2 t) (iblk3 V c 3 t) (iblk3 V c 1 t) (held3 V c) (iblk3 V c 4 t) y = e3 V c i r := by
  subst hi
  idx_vars y
  rw [show y0 = 0 from Subsingleton.elim _ _, pay3_11_apply]
  exact eblk3_apply V c t y1 y2 r h

/-- The block written to the pulled-back factor of the weights. -/
theorem blk3_q (c : Dev nD) (t : Fin cfg3.N) (y : S256x2560.Idx) (r : Fin 18432) (j : Fin 2560) (hj : j = y 1)
    (h : r.val = t.val * 256 + (y 0).val) :
    k3_pay2 (k3_pay9 (iblk3 V c 1 t)) (eblk3 V c t) (held3 V c) y
      = qAt (V c main_v3_0) (V c main_v3_1) (V c main_v4_0) (V c main_v6) (V c main_v5) r j := by
  subst hj
  idx_vars y
  rw [pay3_2_apply]
  exact Finset.sum_congr rfl fun i _ => by
    rw [eblk3_apply V c t i y0 r h, iblk3_1_apply, held3_apply]

/-- The error array. -/
theorem arr3_e (c : Dev nD) :
    (dat3 V c).arrAt 5 cfg3.N = fun (i : S3x1536x6144.Idx) =>
      e3 V c (i 1) ⟨(i 0).val * 6144 + (i 2).val, by
        have h0 : (i 0).val < 3 := (i 0).isLt; have h2 : (i 2).val < 6144 := (i 2).isLt; omega⟩ := by
  refine (dat3 V c).arrAt_eq_of_covers 5 _ (by decide +kernel) fun t hf y => ?_
  rw [after3_5, outs3_e]
  refine blk3_e V c t y _ _ ?_ ?_
  · exact Fin.ext (by blk_simp [idx3_5])
  · blk_simp [idx3_5]
    dsimp only
    omega

/-- The pulled-back factor of the weights. -/
theorem arr3_q (c : Dev nD) :
    (dat3 V c).arrAt 6 cfg3.N = fun (i : S18432x2560.Idx) =>
      qAt (V c main_v3_0) (V c main_v3_1) (V c main_v4_0) (V c main_v6) (V c main_v5) (i 0) (i 1) := by
  refine (dat3 V c).arrAt_eq_of_covers 6 _ (by decide +kernel) fun t hf y => ?_
  rw [after3_6, outs3_q]
  refine blk3_q V c t y _ _ ?_ ?_
  · exact Fin.ext (by blk_simp [idx3_6])
  · blk_simp [idx3_6]
    try omega

/-- The term point `t` adds to the accumulator. -/
def term3 (c : Dev nD) (t : Fin cfg3.N) (j : S1536x2560.Idx) : EReal :=
  ∑ n : Fin 256, ew3 V c t (ix2 (j 0) n) * FloatOps.sitofp (F := Ideal) .bf16 (iblk3 V c 2 t (ix2 n (j 1)))

/-- The accumulator after the last point is the sum of all the points' terms. -/
theorem outs3_acc (c : Dev nD) (t : Fin cfg3.N) (ht : t.val + 1 = cfg3.N) (j : S1536x2560.Idx) :
    (outsAt3 V c t.val t.isLt).2.2.2.2.2 j = ∑ p : Fin cfg3.N, term3 V c p j := by
  idx_vars j
  have h := Pipeline.eq_sum_fin_of_reset_step_apply_last (fun n h => (outsAt3 V c n h).2.2.2.2.2) 72 (fun _ => (0 : EReal))
    (term3 V c)
    (fun t h j => by
      idx_vars j
      rw [outs3_acc_A V c t h, pay3_1_apply, pay3_5_apply]
      rfl)
    (fun t h j => by
      idx_vars j
      rw [outs3_acc_B V c t h (lt_of_le_of_lt (Nat.sub_le _ _) t.isLt), pay3_1_apply]
      rfl)
    (le_of_eq N_3) t ht (ix2 j0 j1)
  rw [zero_add] at h
  exact h

/-- The writing point of the accumulator is the last one. -/
theorem last3 : ∀ t : Fin cfg3.N, t.val % 72 = 71 → t.val + 1 = cfg3.N := by decide +kernel

/-- The accumulator after the last point, over all the rows of the weights. -/
theorem acc3_eq (c : Dev nD) (t : Fin cfg3.N) (ht : t.val + 1 = cfg3.N) (y : S1536x2560.Idx) (i : Fin 1536) (j : Fin 2560)
    (hi : i = y 0) (hj : j = y 1) :
    k3_pay3 (outsAt3 V c t.val t.isLt).2.2.2.2.2 y
      = psAt (V c main_v3_0) (V c main_v3_1) (V c main_v4_0) (V c main_v6) (V c main_v5) i j := by
  subst hi hj
  idx_vars y
  rw [pay3_3_apply, outs3_acc V c t ht]
  unfold psAt term3
  refine Fin.sum_mul_add_congr (S := cfg3.N) (n := 256) (fun s k hl => ?_) (by rw [show cfg3.N = 72 from N_3])
  have he := eblk3_apply V c s y0 k ⟨s.val * 256 + k.val, hl⟩ rfl
  unfold eblk3 at he
  have h1 : ew3 V c s (ix2 y0 k) = e3 V c y0 ⟨s.val * 256 + k.val, hl⟩ * srAt (V c main_v6) ⟨s.val * 256 + k.val, hl⟩ := by
    unfold ew3
    rw [pay3_13_apply, he, iblk3_3_apply V c s k ⟨s.val * 256 + k.val, hl⟩ rfl]
  exact congr (congrArg HMul.hMul h1) (congrArg _ (iblk3_2_apply V c s k y1 ⟨s.val * 256 + k.val, hl⟩ rfl))

/-- The pulled-back factor of the tokens. -/
theorem arr3_ps (c : Dev nD) :
    (dat3 V c).arrAt 7 cfg3.N = fun (i : S1536x2560.Idx) =>
      psAt (V c main_v3_0) (V c main_v3_1) (V c main_v4_0) (V c main_v6) (V c main_v5) (i 0) (i 1) := by
  refine (dat3 V c).arrAt_eq_of_covers 7 _ (by decide +kernel) fun t hf y => ?_
  have h1 : t.val % 72 = 71 := (flush3_7 t).mp hf
  have ht : t.val + 1 = cfg3.N := by exact last3 t h1
  rw [after3_7, outs3_ps V c t h1]
  refine acc3_eq V c t ht y _ _ ?_ ?_
  · exact Fin.ext (by blk_simp [idx3_7])
  · exact Fin.ext (by blk_simp [idx3_7])

end Cert.KernelIdeal.Val

end
-- ==== Proof.Value.Grad.lean ====
/- What pallas_call 4 (`grad`) leaves in its result over the reals: the mean's factor times the sum of the two products,
   as a function of the arrays the call reads. -/
module

public import proofs.«01_k».proof.Proof.Frame.Region4
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-! ## Which block of its array a window takes at a point -/

theorem idx4_0 : ∀ t : Fin cfg4.N, win4_0.index t = ![min (t.val % 39) 2, 0] := by decide +kernel
theorem idx4_1 : ∀ t : Fin cfg4.N, win4_1.index t = ![min (t.val % 39) 2, t.val / 39] := by decide +kernel
theorem idx4_2 : ∀ t : Fin cfg4.N, win4_2.index t = ![t.val % 39 - 3, 0] := by decide +kernel
theorem idx4_3 : ∀ t : Fin cfg4.N, win4_3.index t = ![t.val % 39 - 3, t.val / 39] := by decide +kernel
theorem idx4_4 : ∀ t : Fin cfg4.N, win4_4.index t = ![0, t.val / 39] := by decide +kernel

/-- Row `l` of one block's column `i` times the same row of the other's column `j`, over all the rows. -/
def dotRows (a : Vec Ideal S512x2560 .bf16) (b : Vec Ideal S512x1280 .bf16) (i : Fin 2560) (j : Fin 1280) : EReal :=
  ∑ l : Fin 512, a (ix2 l i) * b (ix2 l j)

/-! ## The payloads at an index -/

theorem pay4_1_apply (i : Fin 2560) (j : Fin 1280) : k4_pay1 (F := Ideal) (ix2 i j) = 0 := by
  pointwise [k4_pay1]

theorem pay4_2_apply (o : Vec Ideal S2560x1280 .f32) (a : Vec Ideal S512x2560 .bf16) (b : Vec Ideal S512x1280 .bf16)
    (i : Fin 2560) (j : Fin 1280) :
    k4_pay2 o a b (ix2 i j) = o (ix2 i j) + dotRows a b i j := by
  unfold dotRows
  pointwise [k4_pay2]

theorem pay4_3_apply (o : Vec Ideal S2560x1280 .f32) (a : Vec Ideal S512x2560 .bf16) (b : Vec Ideal S512x1280 .bf16)
    (i : Fin 2560) (j : Fin 1280) :
    k4_pay3 o a b (ix2 i j) = o (ix2 i j) + dotRows a b i j := by
  unfold dotRows
  pointwise [k4_pay3]

theorem pay4_4_apply (o : Vec Ideal S2560x1280 .f32) (i : Fin 2560) (j : Fin 1280) :
    k4_pay4 o (ix2 i j) = Ideal.ofBits .f32 0x34638E39#32 * o (ix2 i j) := by
  pointwise [k4_pay4]

/-! ## The accumulator, point by point -/

/-- What a point adds: the product of the token blocks over the first three steps, of the weight blocks after. -/
def term4 (c : Dev nD) (t : Fin cfg4.N) (j : S2560x1280.Idx) : EReal :=
  if t.val % 39 ≤ 2 then k4_pay2 (F := Ideal) (k4_pay1 (F := Ideal)) (iblk4 V c 0 t) (iblk4 V c 1 t) j
  else k4_pay2 (F := Ideal) (k4_pay1 (F := Ideal)) (iblk4 V c 2 t) (iblk4 V c 3 t) j

/-- The sum held after a point, before the last step's factor. -/
def sum4 (c : Dev nD) (n : ℕ) (h : n < cfg4.N) : Vec Ideal S2560x1280 .f32 :=
  if n % 39 = 38 then
    k4_pay3 (outsAt4 V c (n - 1) (lt_of_le_of_lt (Nat.sub_le _ _) h)) (iblk4 V c 2 ⟨n, h⟩) (iblk4 V c 3 ⟨n, h⟩)
  else outsAt4 V c n h

theorem term4_lo (c : Dev nD) (t : Fin cfg4.N) (h : t.val % 39 ≤ 2) (i : Fin 2560) (j : Fin 1280) :
    term4 V c t (ix2 i j) = dotRows (iblk4 V c 0 t) (iblk4 V c 1 t) i j := by
  unfold term4
  rw [if_pos h, pay4_2_apply, pay4_1_apply, zero_add]

theorem term4_hi (c : Dev nD) (t : Fin cfg4.N) (h : ¬t.val % 39 ≤ 2) (i : Fin 2560) (j : Fin 1280) :
    term4 V c t (ix2 i j) = dotRows (iblk4 V c 2 t) (iblk4 V c 3 t) i j := by
  unfold term4
  rw [if_neg h, pay4_2_apply, pay4_1_apply, zero_add]

theorem outs4_A (c : Dev nD) (t : Fin cfg4.N) (h0 : t.val % 39 = 0) :
    outsAt4 V c t.val t.isLt = k4_pay2 (k4_pay1 (F := Ideal)) (iblk4 V c 0 t) (iblk4 V c 1 t) := by
  rw [outsAt4_A V c t h0 (by omega) (by omega) (by omega)]
  frame_out

theorem outs4_B (c : Dev nD) (t : Fin cfg4.N) (h0 : ¬t.val % 39 = 0) (h1 : t.val % 39 ≤ 2) (h : t.val - 1 < cfg4.N) :
    outsAt4 V c t.val t.isLt = k4_pay2 (outsAt4 V c (t.val - 1) h) (iblk4 V c 0 t) (iblk4 V c 1 t) := by
  rw [outsAt4_B V c t h0 h1 (by omega) (by omega)]
  frame_out
  all_goals first | rfl | (simp only [read_unread_whole]; done)

theorem outs4_C (c : Dev nD) (t : Fin cfg4.N) (h0 : 3 ≤ t.val % 39) (h1 : ¬t.val % 39 = 38) (h : t.val - 1 < cfg4.N) :
    outsAt4 V c t.val t.isLt = k4_pay3 (outsAt4 V c (t.val - 1) h) (iblk4 V c 2 t) (iblk4 V c 3 t) := by
  rw [outsAt4_C V c t (by omega) (by omega) h0 h1]
  frame_out
  all_goals first | rfl | (simp only [read_unread_whole]; done)

theorem outs4_D (c : Dev nD) (t : Fin cfg4.N) (h1 : t.val % 39 = 38) :
    outsAt4 V c t.val t.isLt = k4_pay4 (sum4 V c t.val t.isLt) := by
  unfold sum4
  rw [if_pos h1, outsAt4_D V c t (by omega) (by omega) (by omega) h1]
  frame_out
  all_goals first | rfl | (simp only [read_unread_whole]; done)

/-- The first step of a column block starts the sum. -/
theorem sum4_A (c : Dev nD) (t : Fin cfg4.N) (h0 : t.val % 39 = 0) (j : S2560x1280.Idx) :
    sum4 V c t.val t.isLt j = 0 + term4 V c t j := by
  idx_vars j
  unfold sum4
  rw [if_neg (by omega), outs4_A V c t h0, term4_lo V c t (by omega), pay4_2_apply, pay4_1_apply]

/-- Every other step adds its term. -/
theorem sum4_B (c : Dev nD) (t : Fin cfg4.N) (h0 : ¬t.val % 39 = 0) (j : S2560x1280.Idx) :
    sum4 V c t.val t.isLt j = sum4 V c (t.val - 1) (Nat.lt_of_le_of_lt (Nat.sub_le _ _) t.isLt) j + term4 V c t j := by
  idx_vars j
  unfold sum4
  rw [if_neg (show ¬(t.val - 1) % 39 = 38 by omega)]
  by_cases h1 : t.val % 39 ≤ 2
  · rw [if_neg (by omega), outs4_B V c t h0 h1 (lt_of_le_of_lt (Nat.sub_le _ _) t.isLt), term4_lo V c t h1, pay4_2_apply]
  · by_cases h2 : t.val % 39 = 38
    · rw [if_pos h2, term4_hi V c t h1, pay4_3_apply]
    · rw [if_neg h2, outs4_C V c t (by omega) h2 (lt_of_le_of_lt (Nat.sub_le _ _) t.isLt), term4_hi V c t h1, pay4_3_apply]

/-- The sum held after a column block's last step. -/
theorem sum4_last (c : Dev nD) (t : Fin cfg4.N) (h1 : t.val % 39 = 38) (j : S2560x1280.Idx) :
    sum4 V c t.val t.isLt j = ∑ s : Fin 39, term4 V c ⟨39 * (t.val / 39) + s.val, by have := t.isLt; omega⟩ j := by
  have h := Pipeline.eq_sum_fin_of_reset_step_apply_of_flush (fun n h => sum4 V c n h) 39 (fun _ => (0 : EReal)) (term4 V c)
    (fun t h j => sum4_A V c t h j) (fun t h j => sum4_B V c t h j) t h1 j
  rw [zero_add] at h
  exact h

/-! ## The array -/

/-- The gradient's sum of two products. -/
def gradAt (x ps : Vec Ideal S1536x2560 .bf16) (w q : Vec Ideal S18432x2560 .bf16) (i j : Fin 2560) : EReal :=
  Ideal.ofBits .f32 0x34638E39#32
    * ((∑ t : Fin 1536, x (ix2 t i) * ps (ix2 t j)) + ∑ r : Fin 18432, w (ix2 r i) * q (ix2 r j))

/-- A block of the token rows is the array at row `512 s + l`. -/
theorem iblk4_0_apply (c : Dev nD) (t : Fin cfg4.N) (s : Fin 3) (h : min (t.val % 39) 2 = s.val) (i : Fin 2560) (l : Fin 512)
    (hl : s.val * 512 + l.val < 1536) :
    iblk4 V c 0 t (ix2 l i) = V c main_v0 (ix2 ⟨s.val * 512 + l.val, hl⟩ i) := by
  blk_ext [iblk4, idx4_0, h]

theorem iblk4_1_apply (c : Dev nD) (t : Fin cfg4.N) (s : Fin 3) (h : min (t.val % 39) 2 = s.val) (j : Fin 2560) (j' : Fin 1280)
    (hj : j.val = t.val / 39 * 1280 + j'.val) (l : Fin 512) (hl : s.val * 512 + l.val < 1536) :
    iblk4 V c 1 t (ix2 l j') = V c main_v7_2 (ix2 ⟨s.val * 512 + l.val, hl⟩ j) := by
  blk_ext [iblk4, idx4_1, h, hj]

/-- A block of the weight rows is the array at row `512 s + l`. -/
theorem iblk4_2_apply (c : Dev nD) (t : Fin cfg4.N) (s : Fin 36) (h : t.val % 39 - 3 = s.val) (i : Fin 2560) (l : Fin 512)
    (hl : s.val * 512 + l.val < 18432) :
    iblk4 V c 2 t (ix2 l i) = V c main_v1 (ix2 ⟨s.val * 512 + l.val, hl⟩ i) := by
  blk_ext [iblk4, idx4_2, h]

theorem iblk4_3_apply (c : Dev nD) (t : Fin cfg4.N) (s : Fin 36) (h : t.val % 39 - 3 = s.val) (j : Fin 2560) (j' : Fin 1280)
    (hj : j.val = t.val / 39 * 1280 + j'.val) (l : Fin 512) (hl : s.val * 512 + l.val < 18432) :
    iblk4 V c 3 t (ix2 l j') = V c main_v7_1 (ix2 ⟨s.val * 512 + l.val, hl⟩ j) := by
  blk_ext [iblk4, idx4_3, h, hj]

/-- A column block's last step writes the gradient. -/
theorem blk4_grad (c : Dev nD) (t : Fin cfg4.N) (ht : t.val % 39 = 38) (y : S2560x1280.Idx) (i j : Fin 2560) (hi : i = y 0)
    (hj : j.val = t.val / 39 * 1280 + (y 1).val) :
    k4_pay4 (sum4 V c t.val t.isLt) y = gradAt (V c main_v0) (V c main_v7_2) (V c main_v1) (V c main_v7_1) i j := by
  subst hi
  idx_vars y
  rw [pay4_4_apply, sum4_last V c t ht]
  unfold gradAt
  have hN : t.val < 78 := t.isLt
  refine congrArg (_ * ·) ((Fin.sum_univ_add (a := 3) (b := 36) _).trans (congrArg₂ (· + ·) ?_ ?_))
  · refine (Finset.sum_congr rfl fun s _ => term4_lo V c _ (by dsimp only [Fin.val_castAdd]; omega) y0 y1).trans ?_
    refine Fin.sum_mul_add_congr (S := 3) (n := 512) (fun s l hl => ?_) rfl
    refine congr (congrArg HMul.hMul (iblk4_0_apply V c _ s ?_ y0 l hl)) (iblk4_1_apply V c _ s ?_ j y1 ?_ l hl) <;>
      (dsimp only [Fin.val_castAdd] at *; omega)
  · refine (Finset.sum_congr rfl fun s _ => term4_hi V c _ (by dsimp only [Fin.val_natAdd]; omega) y0 y1).trans ?_
    refine Fin.sum_mul_add_congr (S := 36) (n := 512) (fun s l hl => ?_) rfl
    refine congr (congrArg HMul.hMul (iblk4_2_apply V c _ s ?_ y0 l hl)) (iblk4_3_apply V c _ s ?_ j y1 ?_ l hl) <;>
      (dsimp only [Fin.val_natAdd] at *; omega)

/-- The gradient. -/
theorem arr4_grad (c : Dev nD) :
    (dat4 V c).arrAt 4 cfg4.N = fun (i : S2560x2560.Idx) =>
      gradAt (V c main_v0) (V c main_v7_2) (V c main_v1) (V c main_v7_1) (i 0) (i 1) := by
  refine (dat4 V c).arrAt_eq_of_covers 4 _ (by decide +kernel) fun t hf y => ?_
  have h1 : t.val % 39 = 38 := (flush4_4 t).mp hf
  rw [after4_4, outs4_D V c t h1]
  refine blk4_grad V c t h1 y _ _ ?_ ?_
  · exact Fin.ext (by blk_simp [idx4_4])
  · blk_simp [idx4_4]

end Cert.KernelIdeal.Val

end
-- ==== Proof.Value.Spec.lean ====
/- The results over the extended reals, from the inputs read at their coordinates: both programs are shown to compute
   these. -/
module

public import proofs.«01_k».proof.Proof.Value.Quant

@[expose] public section

noncomputable section

namespace Cert.Spec

open Idealize.ShloMosaic

variable (x : Fin 6 → Fin 256 → Fin 2560 → EReal) (w : Fin 3 → Fin 6144 → Fin 2560 → EReal)
  (y : Fin 3 → Fin 6 → Fin 256 → Fin 6144 → EReal) (r : Fin 2560 → Fin 2560 → EReal)

/-- Token `(b, s)` rotated by `r`. -/
def xrow (b : Fin 6) (s : Fin 256) (k : Fin 2560) : EReal := ∑ l : Fin 2560, x b s l * r l k

/-- Row `n` of weight matrix `k`, rotated by `r`. -/
def wrow (k : Fin 3) (n : Fin 6144) (j : Fin 2560) : EReal := ∑ l : Fin 2560, w k n l * r l j

/-- The scale of a rotated token. -/
def sx (b : Fin 6) (s : Fin 256) : EReal := Quant.scale 0x42FE0000#32 (xrow x r b s)

/-- The scale of a rotated weight row. -/
def sw (k : Fin 3) (n : Fin 6144) : EReal := Quant.scale 0x40E00000#32 (wrow w r k n)

/-- The codes of a rotated token. -/
def qx (b : Fin 6) (s : Fin 256) (d : Fin 2560) : BitVec 8 := Quant.code 0xC2FE0000#32 0x42FE0000#32 (xrow x r b s) d

/-- The codes of a rotated weight row. -/
def qw (k : Fin 3) (n : Fin 6144) (d : Fin 2560) : BitVec 8 := Quant.code 0xC0E00000#32 0x40E00000#32 (wrow w r k n) d

/-- The values the codes stand for. -/
def tx (b : Fin 6) (s : Fin 256) (d : Fin 2560) : EReal := Quant.quant 0xC2FE0000#32 0x42FE0000#32 (xrow x r b s) d

def tw (k : Fin 3) (n : Fin 6144) (d : Fin 2560) : EReal := Quant.quant 0xC0E00000#32 0x40E00000#32 (wrow w r k n) d

theorem sitofp_qx (b : Fin 6) (s : Fin 256) (d : Fin 2560) : FloatOps.sitofp (F := Ideal) .bf16 (qx x r b s d) = tx x r b s d :=
  Quant.trip8 _ d

theorem sitofp_qw (k : Fin 3) (n : Fin 6144) (d : Fin 2560) : FloatOps.sitofp (F := Ideal) .bf16 (qw w r k n d) = tw w r k n d :=
  Quant.trip4 _ d

/-- The squared rounding error of a rotated weight row. -/
def err (k : Fin 3) (n : Fin 6144) : EReal := Quant.err 0xC0E00000#32 0x40E00000#32 (wrow w r k n)

/-- The error of the quantised product. -/
def e (k : Fin 3) (b : Fin 6) (s : Fin 256) (n : Fin 6144) : EReal :=
  (∑ d : Fin 2560, tx x r b s d * tw w r k n d) * sx x r b s * sw w r k n - y k b s n

/-- The error pulled back to the rotated tokens. -/
def ps (b : Fin 6) (s : Fin 256) (d : Fin 2560) : EReal :=
  ∑ k : Fin 3, ∑ n : Fin 6144, e x w y r k b s n * sw w r k n * tw w r k n d

/-- The error pulled back to the rotated weights. -/
def q (k : Fin 3) (n : Fin 6144) (d : Fin 2560) : EReal :=
  ∑ b : Fin 6, ∑ s : Fin 256, e x w y r k b s n * sx x r b s * tx x r b s d

/-- The gradient in `r` of the mean squared error, with the quantisers taken as the identity. -/
def grad (i j : Fin 2560) : EReal :=
  Ideal.ofBits .f32 0x34638E39#32
    * ((∑ b : Fin 6, ∑ s : Fin 256, x b s i * ps x w y r b s j) + ∑ k : Fin 3, ∑ n : Fin 6144, w k n i * q x w y r k n j)

end Cert.Spec

end
-- ==== Proof.Value.KerMath.lean ====
/- The kernel's last two calls in the coordinates of the inputs: a token `i` of the 1536 is token `i % 256` of batch
   `i / 256`, a weight row `r` of the 18432 is row `r % 6144` of matrix `r / 6144`. -/
module

public import proofs.«01_k».proof.Proof.Value.Fwd
public import proofs.«01_k».proof.Proof.Value.Grad
public import proofs.«01_k».proof.Proof.Value.Spec
public import Idealize.ShloMosaic.Lib.Pointwise

@[expose] public section

set_option maxRecDepth 16384

noncomputable section

namespace Cert.KernelIdeal.Val

open Cert.KernelIdeal Cert.KernelIdeal.Gen Idealize.ShloMosaic Idealize.ShloMosaic.TcCoe Idealize.SL.Sem

/-- The batch and the place of a token, and the matrix and the row of a weight row. -/
def tb (i : Fin 1536) : Fin 6 := ⟨i.val / 256, by omega⟩
def tp (i : Fin 1536) : Fin 256 := ⟨i.val % 256, by omega⟩
def rk (r : Fin 18432) : Fin 3 := ⟨r.val / 6144, by omega⟩
def rn (r : Fin 18432) : Fin 6144 := ⟨r.val % 6144, by omega⟩

theorem sum_tok (f : Fin 6 → Fin 256 → EReal) : ∑ i : Fin 1536, f (tb i) (tp i) = ∑ b : Fin 6, ∑ s : Fin 256, f b s :=
  Fin.sum_divmod_congr (fun _ _ _ => rfl)

theorem sum_row (f : Fin 3 → Fin 6144 → EReal) : ∑ r : Fin 18432, f (rk r) (rn r) = ∑ k : Fin 3, ∑ n : Fin 6144, f k n :=
  Fin.sum_divmod_congr (fun _ _ _ => rfl)

section

variable (X : Fin 6 → Fin 256 → Fin 2560 → EReal) (W : Fin 3 → Fin 6144 → Fin 2560 → EReal)
  (Y : Fin 3 → Fin 6 → Fin 256 → Fin 6144 → EReal) (R : Fin 2560 → Fin 2560 → EReal)
  (qx : IVec S1536x2560 8) (st : FVec Ideal S1536x1 .f32) (qw : IVec S18432x2560 8) (sr : FVec Ideal S72x1x256 .f32)
  (y : FVec Ideal S3x1536x6144 .bf16)
  (hqx : ∀ i k, qx (ix2 i k) = Spec.qx X R (tb i) (tp i) k)
  (hst : ∀ i, st (ix2 i 0) = Spec.sx X R (tb i) (tp i))
  (hqw : ∀ r k, qw (ix2 r k) = Spec.qw W R (rk r) (rn r) k)
  (hsr : ∀ r, srAt sr r = Spec.sw W R (rk r) (rn r))
  (hy : ∀ k i n, y (ix3 k i n) = Y k (tb i) (tp i) n)

include hqx hst hqw hsr hy

theorem eAt_eq (i : Fin 1536) (r : Fin 18432) :
    eAt qx st qw sr y i r = Spec.e X W Y R (rk r) (tb i) (tp i) (rn r) := by
  unfold eAt Spec.e
  simp only [hqx, hst, hqw, hsr, hy, Spec.sitofp_qx, Spec.sitofp_qw]
  rfl

theorem qAt_eq (r : Fin 18432) (j : Fin 2560) : qAt qx st qw sr y r j = Spec.q X W Y R (rk r) (rn r) j := by
  unfold qAt Spec.q
  rw [← sum_tok]
  refine Finset.sum_congr rfl fun i _ => ?_
  rw [eAt_eq X W Y R qx st qw sr y hqx hst hqw hsr hy, hst, hqx, Spec.sitofp_qx]

theorem psAt_eq (i : Fin 1536) (j : Fin 2560) : psAt qx st qw sr y i j = Spec.ps X W Y R (tb i) (tp i) j := by
  unfold psAt Spec.ps
  rw [← sum_row]
  refine Finset.sum_congr rfl fun r _ => ?_
  rw [eAt_eq X W Y R qx st qw sr y hqx hst hqw hsr hy, hsr, hqw, Spec.sitofp_qw]

end

/-- The gradient. -/
theorem gradAt_eq (X : Fin 6 → Fin 256 → Fin 2560 → EReal) (W : Fin 3 → Fin 6144 → Fin 2560 → EReal)
    (Y : Fin 3 → Fin 6 → Fin 256 → Fin 6144 → EReal) (R : Fin 2560 → Fin 2560 → EReal)
    (x ps : FVec Ideal S1536x2560 .bf16) (w q : FVec Ideal S18432x2560 .bf16)
    (hx : ∀ i k, x (ix2 i k) = X (tb i) (tp i) k) (hps : ∀ i k, ps (ix2 i k) = Spec.ps X W Y R (tb i) (tp i) k)
    (hw : ∀ r k, w (ix2 r k) = W (rk r) (rn r) k) (hq : ∀ r k, q (ix2 r k) = Spec.q X W Y R (rk r) (rn r) k)
    (i j : Fin 2560) : gradAt x ps w q i j = Spec.grad X W Y R i j := by
  unfold gradAt Spec.grad
  rw [← sum_tok (fun b s => X b s i * Spec.ps X W Y R b s j), ← sum_row (fun k n => W k n i * Spec.q X W Y R k n j)]
  simp only [hx, hps, hw, hq]

end Cert.KernelIdeal.Val
-- ==== Proof.Value.Arrays.lean ====
/- The result arrays over the extended reals, from the input arrays. -/
module

public import proofs.«01_k».proof.Proof.Value.Spec
public import Idealize.ShloMosaic.Lib.Pointwise

@[expose] public section

noncomputable section

namespace Cert.Spec

open Idealize.ShloMosaic

/-- The shapes of the arrays. -/
abbrev SX : Shape := ⟨3, ![6, 256, 2560]⟩
abbrev SW : Shape := ⟨3, ![3, 6144, 2560]⟩
abbrev SY : Shape := ⟨4, ![3, 6, 256, 6144]⟩
abbrev SR : Shape := ⟨2, ![2560, 2560]⟩
abbrev ST : Shape := ⟨2, ![6, 256]⟩
abbrev SN : Shape := ⟨2, ![3, 6144]⟩

/-- An array read at its coordinates. -/
abbrev c2 (a : FVec Ideal SR .f32) (i j : Fin 2560) : EReal := a (ix2 i j)
abbrev cx (a : FVec Ideal SX .bf16) (b : Fin 6) (s : Fin 256) (k : Fin 2560) : EReal := a (ix3 b s k)
abbrev cw (a : FVec Ideal SW .bf16) (k : Fin 3) (n : Fin 6144) (j : Fin 2560) : EReal := a (ix3 k n j)
abbrev cy (a : FVec Ideal SY .bf16) (k : Fin 3) (b : Fin 6) (s : Fin 256) (n : Fin 6144) : EReal := a (ix4 k b s n)

variable (x : FVec Ideal SX .bf16) (w : FVec Ideal SW .bf16) (y : FVec Ideal SY .bf16) (r : FVec Ideal SR .f32)

/-- The rotated weight rows' squared rounding errors. -/
def errA : FVec Ideal SN .f32 := fun i => err (cw w) (c2 r) (i 0) (i 1)

/-- The error of the quantised product. -/
def eA : FVec Ideal SY .f32 := fun i => e (cx x) (cw w) (cy y) (c2 r) (i 0) (i 1) (i 2) (i 3)

/-- The gradient in `r`. -/
def gradA : FVec Ideal SR .f32 := fun i => grad (cx x) (cw w) (cy y) (c2 r) (i 0) (i 1)

/-- The tokens' codes and scales. -/
def qxA : IVec SX 8 := fun i => qx (cx x) (c2 r) (i 0) (i 1) (i 2)
def sxA : FVec Ideal ST .f32 := fun i => sx (cx x) (c2 r) (i 0) (i 1)

/-- The weight rows' codes and scales. -/
def qwA : IVec SW 8 := fun i => qw (cw w) (c2 r) (i 0) (i 1) (i 2)
def swA : FVec Ideal SN .f32 := fun i => sw (cw w) (c2 r) (i 0) (i 1)

end Cert.Spec

end
-- ==== Proof.Value.KerHost.lean ====
/- The kernel's host reshapes between the calls: what each call and each result reads through them. -/
module

public import proofs.«01_k».proof.Proof.Frame
public import proofs.«01_k».proof.Proof.Value.Split
public import proofs.«01_k».proof.Proof.Value.RotX
public import proofs.«01_k».proof.Proof.Value.RotW
public import proofs.«01_k».proof.Proof.Value.KerMath
public import proofs.«01_k».proof.Proof.Value.Arrays

@[expose] public section

set_option maxRecDepth 16384

noncomputable section

namespace Cert.KernelIdeal.Val

open Cert.KernelIdeal Cert.KernelIdeal.Gen Idealize.ShloMosaic Idealize.ShloMosaic.TcCoe Idealize.SL.Sem

/-! ## The reshapes at an index -/

theorem resh_x (a : FVec Ideal S6x256x2560 .bf16) (i : Fin 1536) (k : Fin 2560) :
    shapeCast S1536x2560 a shapeCasts_S6x256x2560_S1536x2560 (ix2 i k) = a (ix3 (tb i) (tp i) k) := by
  pointwise [tb, tp]

theorem resh_w (a : FVec Ideal S3x6144x2560 .bf16) (r : Fin 18432) (k : Fin 2560) :
    shapeCast S18432x2560 a shapeCasts_S3x6144x2560_S18432x2560 (ix2 r k) = a (ix3 (rk r) (rn r) k) := by
  pointwise [rk, rn]

theorem resh_y (a : FVec Ideal S3x6x256x6144 .bf16) (k : Fin 3) (i : Fin 1536) (n : Fin 6144) :
    shapeCast S3x1536x6144 a shapeCasts_S3x6x256x6144_S3x1536x6144 (ix3 k i n) = a (ix4 k (tb i) (tp i) n) := by
  pointwise [tb, tp]

theorem resh_sr (a : FVec Ideal S36x1x512 .f32) (t : Fin 72) (l : Fin 256) :
    shapeCast S72x1x256 a shapeCasts_S36x1x512_S72x1x256 (ix3 t 0 l)
      = a (ix3 ⟨(t.val * 256 + l.val) / 512, by omega⟩ 0 ⟨(t.val * 256 + l.val) % 512, by omega⟩) := by
  pointwise
  exact congrArg a (congrArg₂ (fun p q => ix3 p 0 q) (Fin.ext (by dsimp only; omega)) (Fin.ext (by dsimp only; omega)))

theorem resh_row (a : FVec Ideal S36x1x512 .f32) (k : Fin 3) (n : Fin 6144) :
    shapeCast S3x6144 a shapeCasts_S36x1x512_S3x6144 (ix2 k n)
      = a (ix3 ⟨(k.val * 6144 + n.val) / 512, by omega⟩ 0 ⟨(k.val * 6144 + n.val) % 512, by omega⟩) := by
  pointwise
  exact congrArg a (congrArg₂ (fun p q => ix3 p 0 q) (Fin.ext (by dsimp only; omega)) (Fin.ext (by dsimp only; omega)))

theorem resh_tok (a : FVec Ideal S3x1x512 .f32) (b : Fin 6) (s : Fin 256) :
    shapeCast S6x256 a shapeCasts_S3x1x512_S6x256 (ix2 b s)
      = a (ix3 ⟨(b.val * 256 + s.val) / 512, by omega⟩ 0 ⟨(b.val * 256 + s.val) % 512, by omega⟩) := by
  pointwise
  exact congrArg a (congrArg₂ (fun p q => ix3 p 0 q) (Fin.ext (by dsimp only; omega)) (Fin.ext (by dsimp only; omega)))

theorem resh_e (a : FVec Ideal S3x1536x6144 .f32) (k : Fin 3) (b : Fin 6) (s : Fin 256) (n : Fin 6144) :
    shapeCast S3x6x256x6144 a shapeCasts_S3x1536x6144_S3x6x256x6144 (ix4 k b s n)
      = a (ix3 k ⟨b.val * 256 + s.val, by omega⟩ n) := by
  pointwise

theorem resh_qx (a : IVec S1536x2560 8) (b : Fin 6) (s : Fin 256) (d : Fin 2560) :
    shapeCast S6x256x2560 a shapeCasts_S1536x2560_S6x256x2560 (ix3 b s d) = a (ix2 ⟨b.val * 256 + s.val, by omega⟩ d) := by
  pointwise

theorem resh_qw (a : IVec S18432x2560 8) (k : Fin 3) (n : Fin 6144) (d : Fin 2560) :
    shapeCast S3x6144x2560 a shapeCasts_S18432x2560_S3x6144x2560 (ix3 k n d) = a (ix2 ⟨k.val * 6144 + n.val, by omega⟩ d) := by
  pointwise

/-! ## The host stretches -/

section

variable (V : Valuation τ sig (Elt Ideal))

theorem h0_v0 : StableHlo.after hostOps0 V (Proc.devRef .tc main_v0)
    = shapeCast S1536x2560 (V (Proc.devRef .tc main_arg0) : FVec Ideal S6x256x2560 .bf16) shapeCasts_S6x256x2560_S1536x2560 := by
  after_results_simp <;> rfl

theorem h0_v1 : StableHlo.after hostOps0 V (Proc.devRef .tc main_v1)
    = shapeCast S18432x2560 (V (Proc.devRef .tc main_arg1) : FVec Ideal S3x6144x2560 .bf16) shapeCasts_S3x6144x2560_S18432x2560 := by
  after_results_simp <;> rfl

theorem h3_v5 : StableHlo.after hostOps3 V (Proc.devRef .tc main_v5)
    = shapeCast S3x1536x6144 (V (Proc.devRef .tc main_arg2) : FVec Ideal S3x6x256x6144 .bf16) shapeCasts_S3x6x256x6144_S3x1536x6144 := by
  after_results_simp <;> rfl

theorem h3_v6 : StableHlo.after hostOps3 V (Proc.devRef .tc main_v6)
    = shapeCast S72x1x256 (V (Proc.devRef .tc main_v4_2) : FVec Ideal S36x1x512 .f32) shapeCasts_S36x1x512_S72x1x256 := by
  after_results_simp <;> rfl

theorem h5_v9 : StableHlo.after hostOps5 V (Proc.devRef .tc main_v9)
    = shapeCast S3x6144 (V (Proc.devRef .tc main_v4_3) : FVec Ideal S36x1x512 .f32) shapeCasts_S36x1x512_S3x6144 := by
  after_results_simp <;> rfl

theorem h5_v10 : StableHlo.after hostOps5 V (Proc.devRef .tc main_v10)
    = shapeCast S3x6x256x6144 (V (Proc.devRef .tc main_v7_0) : FVec Ideal S3x1536x6144 .f32) shapeCasts_S3x1536x6144_S3x6x256x6144 := by
  after_results_simp <;> rfl

theorem h5_v11 : StableHlo.after hostOps5 V (Proc.devRef .tc main_v11)
    = shapeCast S6x256x2560 (V (Proc.devRef .tc main_v3_0) : IVec S1536x2560 8) shapeCasts_S1536x2560_S6x256x2560 := by
  after_results_simp <;> rfl

theorem h5_v12 : StableHlo.after hostOps5 V (Proc.devRef .tc main_v12)
    = shapeCast S6x256 (V (Proc.devRef .tc main_v3_2) : FVec Ideal S3x1x512 .f32) shapeCasts_S3x1x512_S6x256 := by
  after_results_simp <;> rfl

theorem h5_v13 : StableHlo.after hostOps5 V (Proc.devRef .tc main_v13)
    = shapeCast S3x6144x2560 (V (Proc.devRef .tc main_v4_0) : IVec S18432x2560 8) shapeCasts_S18432x2560_S3x6144x2560 := by
  after_results_simp <;> rfl

theorem h5_v14 : StableHlo.after hostOps5 V (Proc.devRef .tc main_v14)
    = shapeCast S3x6144 (V (Proc.devRef .tc main_v4_2) : FVec Ideal S36x1x512 .f32) shapeCasts_S36x1x512_S3x6144 := by
  after_results_simp <;> rfl

end

end Cert.KernelIdeal.Val
-- ==== Proof.Value.KerRun.lean ====
/- The kernel's run over the reals: what each call finds and leaves, in the coordinates of the inputs, and the results
   as the arrays of Arrays.lean. -/
module

public import proofs.«01_k».proof.Proof.Value.KerHost

@[expose] public section

set_option maxRecDepth 16384

noncomputable section

namespace Cert.KernelIdeal.Val

open Cert.KernelIdeal Cert.KernelIdeal.Gen Idealize.ShloMosaic Idealize.ShloMosaic.TcCoe Idealize.SL.Sem
open Cert.Spec (c2 cx cw cy)

variable (m : (ℓ : Loc nD τ sig) → Buf (Elt Ideal) ℓ) (ρ : Dev nD → PrngReg) (c : Dev nD)

abbrev aX (c : Dev nD) : FVec Ideal S6x256x2560 .bf16 := m ((c.tc : Thread nD τ).loc main_arg0)
abbrev aW (c : Dev nD) : FVec Ideal S3x6144x2560 .bf16 := m ((c.tc : Thread nD τ).loc main_arg1)
abbrev aY (c : Dev nD) : FVec Ideal S3x6x256x6144 .bf16 := m ((c.tc : Thread nD τ).loc main_arg2)
abbrev aR (c : Dev nD) : FVec Ideal S2560x2560 .f32 := m ((c.tc : Thread nD τ).loc main_arg3)

/-! ## The first reshapes and the split -/

theorem w1_v0 : W1 m ρ c (Proc.devRef .tc main_v0)
    = shapeCast S1536x2560 (aX m c) shapeCasts_S6x256x2560_S1536x2560 := h0_v0 (W0 m ρ c)

theorem w1_v1 : W1 m ρ c (Proc.devRef .tc main_v1)
    = shapeCast S18432x2560 (aW m c) shapeCasts_S3x6144x2560_S18432x2560 := h0_v1 (W0 m ρ c)

theorem w2_v0 : W2 m ρ c (Proc.devRef .tc main_v0)
    = shapeCast S1536x2560 (aX m c) shapeCasts_S6x256x2560_S1536x2560 :=
  (W2_of m ρ c main_v0 (by decide)).trans (w1_v0 m ρ c)

theorem w3_v1 : W3 m ρ c (Proc.devRef .tc main_v1)
    = shapeCast S18432x2560 (aW m c) shapeCasts_S3x6144x2560_S18432x2560 :=
  (W3_of m ρ c main_v1 (by decide)).trans ((W2_of m ρ c main_v1 (by decide)).trans (w1_v1 m ρ c))

theorem w2_v2 (i j : Fin 2560) : (W2 m ρ c (Proc.devRef .tc main_v2) : Vec Ideal S3x2560x2560 .bf16) (ix3 0 i j) = c2 (aR m c) i j :=
  (congrFun (W2_arr m ρ c 1) (ix3 0 i j)).trans ((split_plane0 (V1 m ρ) c i j).trans
    (congrFun (W1_args m ρ c main_arg3 (by decide)) (ix2 i j)))

theorem w3_v2 (i j : Fin 2560) : (W3 m ρ c (Proc.devRef .tc main_v2) : Vec Ideal S3x2560x2560 .bf16) (ix3 0 i j) = c2 (aR m c) i j :=
  (congrFun (W3_of m ρ c main_v2 (by decide)) (ix3 0 i j)).trans (w2_v2 m ρ c i j)

/-! ## The rotated rows -/

theorem row1_eq (i : Fin 1536) :
    row1 (W2 m ρ c (Proc.devRef .tc main_v0)) (W2 m ρ c (Proc.devRef .tc main_v2)) i
      = Spec.xrow (cx (aX m c)) (c2 (aR m c)) (tb i) (tp i) := by
  funext k
  unfold row1 Spec.xrow
  refine Finset.sum_congr rfl fun l _ => ?_
  have h1 : (W2 m ρ c (Proc.devRef .tc main_v0) : Vec Ideal S1536x2560 .bf16) (ix2 i l) = cx (aX m c) (tb i) (tp i) l := by
    rw [w2_v0]; exact resh_x _ _ _
  exact congr (congrArg HMul.hMul h1) (w2_v2 m ρ c l k)

theorem row2_eq (r : Fin 18432) :
    row2 (W3 m ρ c (Proc.devRef .tc main_v1)) (W3 m ρ c (Proc.devRef .tc main_v2)) r
      = Spec.wrow (cw (aW m c)) (c2 (aR m c)) (rk r) (rn r) := by
  funext k
  unfold row2 Spec.wrow
  refine Finset.sum_congr rfl fun l _ => ?_
  have h1 : (W3 m ρ c (Proc.devRef .tc main_v1) : Vec Ideal S18432x2560 .bf16) (ix2 r l) = cw (aW m c) (rk r) (rn r) l := by
    rw [w3_v1]; exact resh_w _ _ _
  exact congr (congrArg HMul.hMul h1) (w3_v2 m ρ c l k)

/-! ## The quantised rows -/

theorem w3_qx : W3 m ρ c (Proc.devRef .tc main_v3_0)
    = fun (i : S1536x2560.Idx) => Spec.qx (cx (aX m c)) (c2 (aR m c)) (tb (i 0)) (tp (i 0)) (i 1) :=
  (W3_arr m ρ c 2).trans ((arr1_codes (V2 m ρ) c).trans (funext fun i =>
    congrArg (fun v => Quant.code 0xC2FE0000#32 0x42FE0000#32 v (i 1)) (row1_eq m ρ c (i 0))))

theorem w3_st : W3 m ρ c (Proc.devRef .tc main_v3_1)
    = fun (i : S1536x1.Idx) => Spec.sx (cx (aX m c)) (c2 (aR m c)) (tb (i 0)) (tp (i 0)) :=
  (W3_arr m ρ c 3).trans ((arr1_col (V2 m ρ) c).trans (funext fun i =>
    congrArg (Quant.scale 0x42FE0000#32) (row1_eq m ρ c (i 0))))

/-- The row an entry of a scale plane belongs to. -/
def tokOf (i : S3x1x512.Idx) : Fin 1536 :=
  ⟨(i 0).val * 512 + (i 2).val, by have h0 : (i 0).val < 3 := (i 0).isLt; have h2 : (i 2).val < 512 := (i 2).isLt; omega⟩

def rowOf (i : S36x1x512.Idx) : Fin 18432 :=
  ⟨(i 0).val * 512 + (i 2).val, by have h0 : (i 0).val < 36 := (i 0).isLt; have h2 : (i 2).val < 512 := (i 2).isLt; omega⟩

theorem w3_sx : W3 m ρ c (Proc.devRef .tc main_v3_2)
    = fun (i : S3x1x512.Idx) => Spec.sx (cx (aX m c)) (c2 (aR m c)) (tb (tokOf i)) (tp (tokOf i)) :=
  (W3_arr m ρ c 4).trans ((arr1_row (V2 m ρ) c).trans (funext fun i =>
    congrArg (Quant.scale 0x42FE0000#32) (row1_eq m ρ c (tokOf i))))

theorem w4_qw : W4 m ρ c (Proc.devRef .tc main_v4_0)
    = fun (i : S18432x2560.Idx) => Spec.qw (cw (aW m c)) (c2 (aR m c)) (rk (i 0)) (rn (i 0)) (i 1) :=
  (W4_arr m ρ c 2).trans ((arr2_codes (V3 m ρ) c).trans (funext fun i =>
    congrArg (fun v => Quant.code 0xC0E00000#32 0x40E00000#32 v (i 1)) (row2_eq m ρ c (i 0))))

theorem w4_sw : W4 m ρ c (Proc.devRef .tc main_v4_2)
    = fun (i : S36x1x512.Idx) => Spec.sw (cw (aW m c)) (c2 (aR m c)) (rk (rowOf i)) (rn (rowOf i)) :=
  (W4_arr m ρ c 4).trans ((arr2_row (V3 m ρ) c).trans (funext fun i =>
    congrArg (Quant.scale 0x40E00000#32) (row2_eq m ρ c (rowOf i))))

theorem w4_err : W4 m ρ c (Proc.devRef .tc main_v4_3)
    = fun (i : S36x1x512.Idx) => Spec.err (cw (aW m c)) (c2 (aR m c)) (rk (rowOf i)) (rn (rowOf i)) :=
  (W4_arr m ρ c 5).trans ((arr2_err (V3 m ρ) c).trans (funext fun i =>
    congrArg (Quant.err 0xC0E00000#32 0x40E00000#32) (row2_eq m ρ c (rowOf i))))

/-! ## What the forward call finds -/

theorem w5_qx : W5 m ρ c (Proc.devRef .tc main_v3_0)
    = fun (i : S1536x2560.Idx) => Spec.qx (cx (aX m c)) (c2 (aR m c)) (tb (i 0)) (tp (i 0)) (i 1) :=
  (W5_of m ρ c main_v3_0 (by decide)).trans ((W4_of m ρ c main_v3_0 (by decide)).trans (w3_qx m ρ c))

theorem w5_st : W5 m ρ c (Proc.devRef .tc main_v3_1)
    = fun (i : S1536x1.Idx) => Spec.sx (cx (aX m c)) (c2 (aR m c)) (tb (i 0)) (tp (i 0)) :=
  (W5_of m ρ c main_v3_1 (by decide)).trans ((W4_of m ρ c main_v3_1 (by decide)).trans (w3_st m ρ c))

theorem w5_qw : W5 m ρ c (Proc.devRef .tc main_v4_0)
    = fun (i : S18432x2560.Idx) => Spec.qw (cw (aW m c)) (c2 (aR m c)) (rk (i 0)) (rn (i 0)) (i 1) :=
  (W5_of m ρ c main_v4_0 (by decide)).trans (w4_qw m ρ c)

theorem w5_y : W5 m ρ c (Proc.devRef .tc main_v5)
    = shapeCast S3x1536x6144 (aY m c) shapeCasts_S3x6x256x6144_S3x1536x6144 :=
  (h3_v5 (W4 m ρ c)).trans (congrArg (fun a : FVec Ideal S3x6x256x6144 .bf16 =>
    shapeCast S3x1536x6144 a shapeCasts_S3x6x256x6144_S3x1536x6144) (W4_args m ρ c main_arg2 (by decide)))

theorem w5_sr (r : Fin 18432) : srAt (W5 m ρ c (Proc.devRef .tc main_v6)) r = Spec.sw (cw (aW m c)) (c2 (aR m c)) (rk r) (rn r) := by
  unfold srAt
  refine (congrFun (h3_v6 (W4 m ρ c)) _).trans ((resh_sr _ _ _).trans ?_)
  refine (congrFun (w4_sw m ρ c) _).trans ?_
  have h : ∀ q : Fin 18432, q = r → Spec.sw (cw (aW m c)) (c2 (aR m c)) (rk q) (rn q) = Spec.sw (cw (aW m c)) (c2 (aR m c)) (rk r) (rn r) := by
    rintro q rfl; rfl
  exact h _ (Fin.ext (by
    show (r.val / 256 * 256 + r.val % 256) / 512 * 512 + (r.val / 256 * 256 + r.val % 256) % 512 = r.val
    omega))

theorem w5_qx_at (i : Fin 1536) (k : Fin 2560) :
    (W5 m ρ c (Proc.devRef .tc main_v3_0) : IVec S1536x2560 8) (ix2 i k) = Spec.qx (cx (aX m c)) (c2 (aR m c)) (tb i) (tp i) k :=
  congrFun (w5_qx m ρ c) (ix2 i k)

theorem w5_st_at (i : Fin 1536) :
    (W5 m ρ c (Proc.devRef .tc main_v3_1) : FVec Ideal S1536x1 .f32) (ix2 i 0) = Spec.sx (cx (aX m c)) (c2 (aR m c)) (tb i) (tp i) :=
  congrFun (w5_st m ρ c) (ix2 i 0)

theorem w5_qw_at (r : Fin 18432) (k : Fin 2560) :
    (W5 m ρ c (Proc.devRef .tc main_v4_0) : IVec S18432x2560 8) (ix2 r k) = Spec.qw (cw (aW m c)) (c2 (aR m c)) (rk r) (rn r) k :=
  congrFun (w5_qw m ρ c) (ix2 r k)

theorem w5_y_at (k : Fin 3) (i : Fin 1536) (n : Fin 6144) :
    (W5 m ρ c (Proc.devRef .tc main_v5) : FVec Ideal S3x1536x6144 .bf16) (ix3 k i n) = cy (aY m c) k (tb i) (tp i) n :=
  (congrFun (w5_y m ρ c) (ix3 k i n)).trans (resh_y _ k i n)

/-! ## What the forward call leaves -/

theorem w6_e : W6 m ρ c (Proc.devRef .tc main_v7_0)
    = fun (i : S3x1536x6144.Idx) => Spec.e (cx (aX m c)) (cw (aW m c)) (cy (aY m c)) (c2 (aR m c)) (i 0) (tb (i 1)) (tp (i 1)) (i 2) :=
  (W6_arr m ρ c 5).trans ((arr3_e (V5 m ρ) c).trans (funext fun i =>
    (eAt_eq (cx (aX m c)) (cw (aW m c)) (cy (aY m c)) (c2 (aR m c)) _ _ _ _ _ (w5_qx_at m ρ c) (w5_st_at m ρ c)
      (w5_qw_at m ρ c) (w5_sr m ρ c) (w5_y_at m ρ c) (i 1) _).trans (by
    have h0 : (i 0).val < 3 := (i 0).isLt
    have h2 : (i 2).val < 6144 := (i 2).isLt
    have e1 : ∀ h, rk ⟨(i 0).val * 6144 + (i 2).val, h⟩ = i 0 := fun _ => Fin.ext (by
      show ((i 0).val * 6144 + (i 2).val) / 6144 = (i 0).val
      omega)
    have e2 : ∀ h, rn ⟨(i 0).val * 6144 + (i 2).val, h⟩ = i 2 := fun _ => Fin.ext (by
      show ((i 0).val * 6144 + (i 2).val) % 6144 = (i 2).val
      omega)
    rw [e1, e2])))

theorem w6_q (r : Fin 18432) (j : Fin 2560) : (W6 m ρ c (Proc.devRef .tc main_v7_1) : FVec Ideal S18432x2560 .bf16) (ix2 r j)
    = Spec.q (cx (aX m c)) (cw (aW m c)) (cy (aY m c)) (c2 (aR m c)) (rk r) (rn r) j :=
  (congrFun ((W6_arr m ρ c 6).trans (arr3_q (V5 m ρ) c)) (ix2 r j)).trans
    (qAt_eq (cx (aX m c)) (cw (aW m c)) (cy (aY m c)) (c2 (aR m c)) _ _ _ _ _ (w5_qx_at m ρ c) (w5_st_at m ρ c)
      (w5_qw_at m ρ c) (w5_sr m ρ c) (w5_y_at m ρ c) r j)

theorem w6_ps (i : Fin 1536) (j : Fin 2560) : (W6 m ρ c (Proc.devRef .tc main_v7_2) : FVec Ideal S1536x2560 .bf16) (ix2 i j)
    = Spec.ps (cx (aX m c)) (cw (aW m c)) (cy (aY m c)) (c2 (aR m c)) (tb i) (tp i) j :=
  (congrFun ((W6_arr m ρ c 7).trans (arr3_ps (V5 m ρ) c)) (ix2 i j)).trans
    (psAt_eq (cx (aX m c)) (cw (aW m c)) (cy (aY m c)) (c2 (aR m c)) _ _ _ _ _ (w5_qx_at m ρ c) (w5_st_at m ρ c)
      (w5_qw_at m ρ c) (w5_sr m ρ c) (w5_y_at m ρ c) i j)

theorem w6_x (i : Fin 1536) (k : Fin 2560) : (W6 m ρ c (Proc.devRef .tc main_v0) : FVec Ideal S1536x2560 .bf16) (ix2 i k)
    = cx (aX m c) (tb i) (tp i) k :=
  (congrFun ((W6_of m ρ c main_v0 (by decide)).trans ((W5_of m ρ c main_v0 (by decide)).trans ((W4_of m ρ c main_v0 (by decide)).trans
    ((W3_of m ρ c main_v0 (by decide)).trans (w2_v0 m ρ c))))) (ix2 i k)).trans (resh_x _ i k)

theorem w6_w (r : Fin 18432) (k : Fin 2560) : (W6 m ρ c (Proc.devRef .tc main_v1) : FVec Ideal S18432x2560 .bf16) (ix2 r k)
    = cw (aW m c) (rk r) (rn r) k :=
  (congrFun ((W6_of m ρ c main_v1 (by decide)).trans ((W5_of m ρ c main_v1 (by decide)).trans ((W4_of m ρ c main_v1 (by decide)).trans
    (w3_v1 m ρ c)))) (ix2 r k)).trans (resh_w _ r k)

/-! ## The results -/

theorem w8_grad : W8 m ρ c (Proc.devRef .tc main_v8) = Spec.gradA (aX m c) (aW m c) (aY m c) (aR m c) :=
  (W8_of m ρ c main_v8 (by decide)).trans ((W7_arr m ρ c 4).trans ((arr4_grad (V6 m ρ) c).trans (funext fun i =>
    gradAt_eq (cx (aX m c)) (cw (aW m c)) (cy (aY m c)) (c2 (aR m c)) _ _ _ _ (w6_x m ρ c) (w6_ps m ρ c) (w6_w m ρ c)
      (w6_q m ρ c) (i 0) (i 1))))

theorem w7_e : W7 m ρ c (Proc.devRef .tc main_v7_0)
    = fun (i : S3x1536x6144.Idx) => Spec.e (cx (aX m c)) (cw (aW m c)) (cy (aY m c)) (c2 (aR m c)) (i 0) (tb (i 1)) (tp (i 1)) (i 2) :=
  (W7_of m ρ c main_v7_0 (by decide)).trans (w6_e m ρ c)

theorem w7_qx : W7 m ρ c (Proc.devRef .tc main_v3_0)
    = fun (i : S1536x2560.Idx) => Spec.qx (cx (aX m c)) (c2 (aR m c)) (tb (i 0)) (tp (i 0)) (i 1) :=
  (W7_of m ρ c main_v3_0 (by decide)).trans ((W6_of m ρ c main_v3_0 (by decide)).trans (w5_qx m ρ c))

theorem w7_qw : W7 m ρ c (Proc.devRef .tc main_v4_0)
    = fun (i : S18432x2560.Idx) => Spec.qw (cw (aW m c)) (c2 (aR m c)) (rk (i 0)) (rn (i 0)) (i 1) :=
  (W7_of m ρ c main_v4_0 (by decide)).trans ((W6_of m ρ c main_v4_0 (by decide)).trans (w5_qw m ρ c))

theorem w7_sx : W7 m ρ c (Proc.devRef .tc main_v3_2)
    = fun (i : S3x1x512.Idx) => Spec.sx (cx (aX m c)) (c2 (aR m c)) (tb (tokOf i)) (tp (tokOf i)) :=
  (W7_of m ρ c main_v3_2 (by decide)).trans ((W6_of m ρ c main_v3_2 (by decide)).trans ((W5_of m ρ c main_v3_2 (by decide)).trans
    ((W4_of m ρ c main_v3_2 (by decide)).trans (w3_sx m ρ c))))

theorem w7_sw : W7 m ρ c (Proc.devRef .tc main_v4_2)
    = fun (i : S36x1x512.Idx) => Spec.sw (cw (aW m c)) (c2 (aR m c)) (rk (rowOf i)) (rn (rowOf i)) :=
  (W7_of m ρ c main_v4_2 (by decide)).trans ((W6_of m ρ c main_v4_2 (by decide)).trans ((W5_of m ρ c main_v4_2 (by decide)).trans
    (w4_sw m ρ c)))

theorem w7_err : W7 m ρ c (Proc.devRef .tc main_v4_3)
    = fun (i : S36x1x512.Idx) => Spec.err (cw (aW m c)) (c2 (aR m c)) (rk (rowOf i)) (rn (rowOf i)) :=
  (W7_of m ρ c main_v4_3 (by decide)).trans ((W6_of m ρ c main_v4_3 (by decide)).trans ((W5_of m ρ c main_v4_3 (by decide)).trans
    (w4_err m ρ c)))

/-- Token `s` of batch `b` and row `n` of matrix `k`, found again from the flat row. -/
theorem tb_tp (b : Fin 6) (s : Fin 256) (q : Fin 1536) (h : q.val = b.val * 256 + s.val) : tb q = b ∧ tp q = s :=
  ⟨Fin.ext (by show q.val / 256 = b.val; omega), Fin.ext (by show q.val % 256 = s.val; omega)⟩

theorem rk_rn (k : Fin 3) (n : Fin 6144) (q : Fin 18432) (h : q.val = k.val * 6144 + n.val) : rk q = k ∧ rn q = n :=
  ⟨Fin.ext (by show q.val / 6144 = k.val; omega), Fin.ext (by show q.val % 6144 = n.val; omega)⟩

theorem w8_err : W8 m ρ c (Proc.devRef .tc main_v9) = Spec.errA (aW m c) (aR m c) := by
  funext i
  idx_vars i
  refine (congrFun (h5_v9 (W7 m ρ c)) (ix2 i0 i1)).trans ((resh_row _ i0 i1).trans ((congrFun (w7_err m ρ c) _).trans ?_))
  obtain ⟨e1, e2⟩ := rk_rn i0 i1 (rowOf (ix3 ⟨(i0.val * 6144 + i1.val) / 512, by omega⟩ 0 ⟨(i0.val * 6144 + i1.val) % 512, by omega⟩)) (by
    show (i0.val * 6144 + i1.val) / 512 * 512 + (i0.val * 6144 + i1.val) % 512 = i0.val * 6144 + i1.val
    omega)
  exact congrArg₂ (Spec.err (cw (aW m c)) (c2 (aR m c))) e1 e2

theorem w8_sw : W8 m ρ c (Proc.devRef .tc main_v14) = Spec.swA (aW m c) (aR m c) := by
  funext i
  idx_vars i
  refine (congrFun (h5_v14 (W7 m ρ c)) (ix2 i0 i1)).trans ((resh_row _ i0 i1).trans ((congrFun (w7_sw m ρ c) _).trans ?_))
  obtain ⟨e1, e2⟩ := rk_rn i0 i1 (rowOf (ix3 ⟨(i0.val * 6144 + i1.val) / 512, by omega⟩ 0 ⟨(i0.val * 6144 + i1.val) % 512, by omega⟩)) (by
    show (i0.val * 6144 + i1.val) / 512 * 512 + (i0.val * 6144 + i1.val) % 512 = i0.val * 6144 + i1.val
    omega)
  exact congrArg₂ (Spec.sw (cw (aW m c)) (c2 (aR m c))) e1 e2

theorem w8_sx : W8 m ρ c (Proc.devRef .tc main_v12) = Spec.sxA (aX m c) (aR m c) := by
  funext i
  idx_vars i
  refine (congrFun (h5_v12 (W7 m ρ c)) (ix2 i0 i1)).trans ((resh_tok _ i0 i1).trans ((congrFun (w7_sx m ρ c) _).trans ?_))
  obtain ⟨e1, e2⟩ := tb_tp i0 i1 (tokOf (ix3 ⟨(i0.val * 256 + i1.val) / 512, by omega⟩ 0 ⟨(i0.val * 256 + i1.val) % 512, by omega⟩)) (by
    show (i0.val * 256 + i1.val) / 512 * 512 + (i0.val * 256 + i1.val) % 512 = i0.val * 256 + i1.val
    omega)
  exact congrArg₂ (Spec.sx (cx (aX m c)) (c2 (aR m c))) e1 e2

theorem w8_qx : W8 m ρ c (Proc.devRef .tc main_v11) = Spec.qxA (aX m c) (aR m c) := by
  funext i
  idx_vars i
  refine (congrFun (h5_v11 (W7 m ρ c)) (ix3 i0 i1 i2)).trans ((resh_qx _ i0 i1 i2).trans ((congrFun (w7_qx m ρ c) _).trans ?_))
  obtain ⟨e1, e2⟩ := tb_tp i0 i1 ⟨i0.val * 256 + i1.val, by omega⟩ rfl
  exact congrArg₂ (fun b s => Spec.qx (cx (aX m c)) (c2 (aR m c)) b s i2) e1 e2

theorem w8_qw : W8 m ρ c (Proc.devRef .tc main_v13) = Spec.qwA (aW m c) (aR m c) := by
  funext i
  idx_vars i
  refine (congrFun (h5_v13 (W7 m ρ c)) (ix3 i0 i1 i2)).trans ((resh_qw _ i0 i1 i2).trans ((congrFun (w7_qw m ρ c) _).trans ?_))
  obtain ⟨e1, e2⟩ := rk_rn i0 i1 ⟨i0.val * 6144 + i1.val, by omega⟩ rfl
  exact congrArg₂ (fun k n => Spec.qw (cw (aW m c)) (c2 (aR m c)) k n i2) e1 e2

theorem w8_e : W8 m ρ c (Proc.devRef .tc main_v10) = Spec.eA (aX m c) (aW m c) (aY m c) (aR m c) := by
  funext i
  idx_vars i
  refine (congrFun (h5_v10 (W7 m ρ c)) (ix4 i0 i1 i2 i3)).trans ((resh_e _ i0 i1 i2 i3).trans ((congrFun (w7_e m ρ c) _).trans ?_))
  obtain ⟨e1, e2⟩ := tb_tp i1 i2 ⟨i1.val * 256 + i2.val, by omega⟩ rfl
  exact congrArg₂ (fun b s => Spec.e (cx (aX m c)) (cw (aW m c)) (cy (aY m c)) (c2 (aR m c)) i0 b s i3) e1 e2

end Cert.KernelIdeal.Val
-- ==== Proof.Value.RefHost.lean ====
/- The reference's host operations over the reals, as functions of the arrays they read, each read at an index. -/
module

public import proofs.«01_k».proof.Proof.Gen.ReferenceIdeal.Run
public import proofs.«01_k».proof.Proof.Value.Arrays
public import Idealize.ShloMosaic.Lib.Pipeline.ValueKit
public import Idealize.ShloMosaic.Lib.Pipeline.ReadBack
public import Idealize.ShloMosaic.Lib.Pointwise

@[expose] public section

set_option maxRecDepth 16384

noncomputable section

namespace Cert.ReferenceIdeal.Val

open Cert.ReferenceIdeal Cert.ReferenceIdeal.Gen Idealize.ShloMosaic Idealize.ShloMosaic.TcCoe Idealize.SL.Sem
open Cert.Spec (c2 cx cw cy)

variable (x : FVec Ideal S6x256x2560 .bf16) (w : FVec Ideal S3x6144x2560 .bf16) (y : FVec Ideal S3x6x256x6144 .bf16)
  (r : FVec Ideal S2560x2560 .f32)

/-- The rotated tokens. -/
def xr : FVec Ideal S6x256x2560 .f32 :=
  Host.dotGeneral dot_S6x256x2560_S2560x2560_S6x256x2560_2_0_01_1_n_n none x (truncf .bf16 r bitsLt_bf16_f32)

theorem xr_apply (b : Fin 6) (s : Fin 256) (k : Fin 2560) : xr x r (ix3 b s k) = Spec.xrow (cx x) (c2 r) b s k := by
  pointwise [xr]
  rfl

/-- The rotated weights. -/
def wr : FVec Ideal S3x6144x2560 .f32 :=
  Host.dotGeneral dot_S3x6144x2560_S2560x2560_S3x6144x2560_2_0_01_1_n_n none w (truncf .bf16 r bitsLt_bf16_f32)

theorem wr_apply (k : Fin 3) (n : Fin 6144) (j : Fin 2560) : wr w r (ix3 k n j) = Spec.wrow (cw w) (c2 r) k n j := by
  pointwise [wr]
  rfl

theorem const_ix0 (q : BitVec 32) : (constant S_ .f32 q : FVec Ideal S_ .f32) ix0 = Ideal.ofBits .f32 q := rfl

theorem idconst_ix0 (q : BitVec 32) : (id (constant S_ .f32 q) : FVec Ideal S_ .f32) ix0 = Ideal.ofBits .f32 q := rfl

/-- The largest absolute value of each row. -/
def maxX (A : FVec Ideal S6x256x2560 .f32) : FVec Ideal S6x256 .f32 :=
  Host.reduce FloatOps.maximumf (Host.absf A) (constant S_ .f32 0xFF800000#32) reducesTo_S6x256x2560_S6x256_d2 h_S_

theorem maxX_apply (A : FVec Ideal S6x256x2560 .f32) (b : Fin 6) (s : Fin 256) :
    maxX A (ix2 b s) = Quant.amax (fun k : Fin 2560 => A (ix3 b s k)) := by
  unfold Quant.amax
  pointwise [maxX]

/-- The choice between a constant and a quotient, over any constants. -/
def pickX (C0 C1 C2 : FVec Ideal S_ .f32) (M : FVec Ideal S6x256 .f32) : FVec Ideal S6x256 .f32 :=
  select (cmpf .oeq M (broadcastInDim S6x256 ![] bcast_S_S6x256 C0)) (broadcastInDim S6x256 ![] bcast_S_S6x256 C1)
    (Host.divf M (broadcastInDim S6x256 ![] bcast_S_S6x256 C2))

theorem pickX_apply (C0 C1 C2 : FVec Ideal S_ .f32) (M : FVec Ideal S6x256 .f32) (b : Fin 6) (s : Fin 256) :
    pickX C0 C1 C2 M (ix2 b s)
      = if M (ix2 b s) = C0 ix0 then C1 ix0 else Ideal.div (M (ix2 b s)) (C2 ix0) := by
  pointwise [pickX]

/-- The rows' scales. -/
def sX (A : FVec Ideal S6x256x2560 .f32) : FVec Ideal S6x256 .f32 :=
  pickX (constant S_ .f32 0x00000000#32) (id (constant S_ .f32 0x3F800000#32)) (constant S_ .f32 0x42FE0000#32) (maxX A)

theorem sX_apply (A : FVec Ideal S6x256x2560 .f32) (b : Fin 6) (s : Fin 256) :
    sX A (ix2 b s) = Quant.scale 0x42FE0000#32 (fun k : Fin 2560 => A (ix3 b s k)) := by
  unfold Quant.scale
  rw [← maxX_apply A b s]
  unfold sX
  rw [pickX_apply, const_ix0, idconst_ix0, const_ix0, Ideal.ofBits_one_f32, Ideal.ofBits_zero_f32]

/-- The rows over their scales, rounded and clipped, over any bounds. -/
def clipX (C1 C2 : FVec Ideal S_ .f32) (A : FVec Ideal S6x256x2560 .f32) (M : FVec Ideal S6x256 .f32) :
    FVec Ideal S6x256x2560 .f32 :=
  minimumf (broadcastInDim S6x256x2560 ![] bcast_S_S6x256x2560 C1)
    (maximumf (broadcastInDim S6x256x2560 ![] bcast_S_S6x256x2560 C2)
      (Host.roundeven (Host.divf A (broadcastInDim S6x256x2560 ![0, 1, 2] bcast_S6x256x1_S6x256x2560_0_1_2
        (broadcastInDim S6x256x1 ![0, 1] bcast_S6x256_S6x256x1_0_1 M)))))

theorem clipX_apply (C1 C2 : FVec Ideal S_ .f32) (A : FVec Ideal S6x256x2560 .f32) (M : FVec Ideal S6x256 .f32)
    (b : Fin 6) (s : Fin 256) (k : Fin 2560) :
    clipX C1 C2 A M (ix3 b s k) = min (C1 ix0) (max (C2 ix0)
      (Ideal.liftRound Ideal.roundHalfEven (Ideal.div (A (ix3 b s k)) (M (ix2 b s))))) := by
  pointwise [clipX]

/-- The rows over their scales, rounded and clipped. -/
def tX (A : FVec Ideal S6x256x2560 .f32) : FVec Ideal S6x256x2560 .f32 :=
  clipX (id (constant S_ .f32 0x42FE0000#32)) (id (constant S_ .f32 0xC2FE0000#32)) A (sX A)

theorem tX_apply (A : FVec Ideal S6x256x2560 .f32) (b : Fin 6) (s : Fin 256) (k : Fin 2560) :
    tX A (ix3 b s k) = Quant.quant 0xC2FE0000#32 0x42FE0000#32 (fun k : Fin 2560 => A (ix3 b s k)) k := by
  unfold Quant.quant
  rw [← sX_apply A b s]
  unfold tX
  rw [clipX_apply, idconst_ix0, idconst_ix0]

/-- The largest absolute value of each row. -/
def maxW (A : FVec Ideal S3x6144x2560 .f32) : FVec Ideal S3x6144 .f32 :=
  Host.reduce FloatOps.maximumf (Host.absf A) (constant S_ .f32 0xFF800000#32) reducesTo_S3x6144x2560_S3x6144_d2 h_S_

theorem maxW_apply (A : FVec Ideal S3x6144x2560 .f32) (k : Fin 3) (n : Fin 6144) :
    maxW A (ix2 k n) = Quant.amax (fun j : Fin 2560 => A (ix3 k n j)) := by
  unfold Quant.amax
  pointwise [maxW]

/-- The choice between a constant and a quotient, over any constants. -/
def pickW (C0 C1 C2 : FVec Ideal S_ .f32) (M : FVec Ideal S3x6144 .f32) : FVec Ideal S3x6144 .f32 :=
  select (cmpf .oeq M (broadcastInDim S3x6144 ![] bcast_S_S3x6144 C0)) (broadcastInDim S3x6144 ![] bcast_S_S3x6144 C1)
    (Host.divf M (broadcastInDim S3x6144 ![] bcast_S_S3x6144 C2))

theorem pickW_apply (C0 C1 C2 : FVec Ideal S_ .f32) (M : FVec Ideal S3x6144 .f32) (k : Fin 3) (n : Fin 6144) :
    pickW C0 C1 C2 M (ix2 k n)
      = if M (ix2 k n) = C0 ix0 then C1 ix0 else Ideal.div (M (ix2 k n)) (C2 ix0) := by
  pointwise [pickW]

/-- The rows' scales. -/
def sW (A : FVec Ideal S3x6144x2560 .f32) : FVec Ideal S3x6144 .f32 :=
  pickW (constant S_ .f32 0x00000000#32) (id (constant S_ .f32 0x3F800000#32)) (constant S_ .f32 0x40E00000#32) (maxW A)

theorem sW_apply (A : FVec Ideal S3x6144x2560 .f32) (k : Fin 3) (n : Fin 6144) :
    sW A (ix2 k n) = Quant.scale 0x40E00000#32 (fun j : Fin 2560 => A (ix3 k n j)) := by
  unfold Quant.scale
  rw [← maxW_apply A k n]
  unfold sW
  rw [pickW_apply, const_ix0, idconst_ix0, const_ix0, Ideal.ofBits_one_f32, Ideal.ofBits_zero_f32]

/-- The rows over their scales, rounded and clipped, over any bounds. -/
def clipW (C1 C2 : FVec Ideal S_ .f32) (A : FVec Ideal S3x6144x2560 .f32) (M : FVec Ideal S3x6144 .f32) :
    FVec Ideal S3x6144x2560 .f32 :=
  minimumf (broadcastInDim S3x6144x2560 ![] bcast_S_S3x6144x2560 C1)
    (maximumf (broadcastInDim S3x6144x2560 ![] bcast_S_S3x6144x2560 C2)
      (Host.roundeven (Host.divf A (broadcastInDim S3x6144x2560 ![0, 1, 2] bcast_S3x6144x1_S3x6144x2560_0_1_2
        (broadcastInDim S3x6144x1 ![0, 1] bcast_S3x6144_S3x6144x1_0_1 M)))))

theorem clipW_apply (C1 C2 : FVec Ideal S_ .f32) (A : FVec Ideal S3x6144x2560 .f32) (M : FVec Ideal S3x6144 .f32)
    (k : Fin 3) (n : Fin 6144) (j : Fin 2560) :
    clipW C1 C2 A M (ix3 k n j) = min (C1 ix0) (max (C2 ix0)
      (Ideal.liftRound Ideal.roundHalfEven (Ideal.div (A (ix3 k n j)) (M (ix2 k n))))) := by
  pointwise [clipW]

/-- The rows over their scales, rounded and clipped. -/
def tW (A : FVec Ideal S3x6144x2560 .f32) : FVec Ideal S3x6144x2560 .f32 :=
  clipW (id (constant S_ .f32 0x40E00000#32)) (id (constant S_ .f32 0xC0E00000#32)) A (sW A)

theorem tW_apply (A : FVec Ideal S3x6144x2560 .f32) (k : Fin 3) (n : Fin 6144) (j : Fin 2560) :
    tW A (ix3 k n j) = Quant.quant 0xC0E00000#32 0x40E00000#32 (fun j : Fin 2560 => A (ix3 k n j)) j := by
  unfold Quant.quant
  rw [← sW_apply A k n]
  unfold tW
  rw [clipW_apply, idconst_ix0, idconst_ix0]

end Cert.ReferenceIdeal.Val

end
-- ==== Proof.Value.RefMath.lean ====
/- The reference's last host operations over the reals: the squared error, the error of the product, the pulled-back
   errors and the gradient, each as a function of the arrays it reads and read at an index. -/
module

public import proofs.«01_k».proof.Proof.Gen.ReferenceIdeal.Run
public import Idealize.ShloMosaic.Lib.Pointwise

@[expose] public section

set_option maxRecDepth 16384

noncomputable section

namespace Cert.ReferenceIdeal.Val

open Cert.ReferenceIdeal Cert.ReferenceIdeal.Gen Idealize.ShloMosaic Idealize.ShloMosaic.TcCoe Idealize.SL.Sem

/-- What the quantised rows miss of the rows. -/
def missT (wr : FVec Ideal S3x6144x2560 .f32) (sw : FVec Ideal S3x6144 .f32) (qw : FVec Ideal S3x6144x2560 .bf16) :
    FVec Ideal S3x6144x2560 .f32 :=
  subf wr (mulf (broadcastInDim S3x6144x2560 ![0, 1, 2] bcast_S3x6144x1_S3x6144x2560_0_1_2
    (broadcastInDim S3x6144x1 ![0, 1] bcast_S3x6144_S3x6144x1_0_1 sw)) (extf .f32 qw bitsLt_bf16_f32))

theorem missT_apply (wr : FVec Ideal S3x6144x2560 .f32) (sw : FVec Ideal S3x6144 .f32)
    (qw : FVec Ideal S3x6144x2560 .bf16) (k : Fin 3) (n : Fin 6144) (d : Fin 2560) :
    missT wr sw qw (ix3 k n d) = (wr (ix3 k n d) - sw (ix2 k n) * qw (ix3 k n d) : EReal) := by
  pointwise [missT]

/-- The sum of a row's squares. -/
def sqT (z : FVec Ideal S3x6144x2560 .f32) : FVec Ideal S3x6144 .f32 :=
  Host.reduceAdd (mulf z z) (constant S_ .f32 0x00000000#32) reducesTo_S3x6144x2560_S3x6144_d2 h_S_

theorem sqT_apply (z : FVec Ideal S3x6144x2560 .f32) (k : Fin 3) (n : Fin 6144) :
    sqT z (ix2 k n) = (∑ d : Fin 2560, z (ix3 k n d) * z (ix3 k n d) : EReal) := by
  pointwise [sqT]

/-- The product of the codes, token axes first. -/
def prodT (qw : FVec Ideal S3x6144x2560 .bf16) (qx : FVec Ideal S6x256x2560 .bf16) : FVec Ideal S3x6x256x6144 .f32 :=
  transpose S3x6x256x6144 [0, 2, 3, 1] (Host.dotGeneral dot_S3x6144x2560_S6x256x2560_S3x6144x6x256_2_2_01_01_n_n none qw qx)
    transposes_S3x6144x6x256_S3x6x256x6144_0_2_3_1

theorem prodT_apply (qw : FVec Ideal S3x6144x2560 .bf16) (qx : FVec Ideal S6x256x2560 .bf16)
    (k : Fin 3) (b : Fin 6) (s : Fin 256) (n : Fin 6144) :
    prodT qw qx (ix4 k b s n) = (∑ d : Fin 2560, qw (ix3 k n d) * qx (ix3 b s d) : EReal) := by
  pointwise [prodT]

/-- The tokens' scales at every entry of the product. -/
def colT (sx : FVec Ideal S6x256 .f32) : FVec Ideal S3x6x256x6144 .f32 :=
  broadcastInDim S3x6x256x6144 ![0, 1, 2, 3] bcast_S1x6x256x1_S3x6x256x6144_0_1_2_3
    (broadcastInDim S1x6x256x1 ![1, 2] bcast_S6x256_S1x6x256x1_1_2 sx)

theorem colT_apply (sx : FVec Ideal S6x256 .f32) (k : Fin 3) (b : Fin 6) (s : Fin 256) (n : Fin 6144) :
    colT sx (ix4 k b s n) = sx (ix2 b s) := by
  pointwise [colT]

/-- The weight rows' scales at every entry of the product. -/
def rowT (sw : FVec Ideal S3x6144 .f32) : FVec Ideal S3x6x256x6144 .f32 :=
  broadcastInDim S3x6x256x6144 ![0, 1, 2, 3] bcast_S3x1x1x6144_S3x6x256x6144_0_1_2_3
    (broadcastInDim S3x1x1x6144 ![0, 3] bcast_S3x6144_S3x1x1x6144_0_3 sw)

theorem rowT_apply (sw : FVec Ideal S3x6144 .f32) (k : Fin 3) (b : Fin 6) (s : Fin 256) (n : Fin 6144) :
    rowT sw (ix4 k b s n) = sw (ix2 k n) := by
  pointwise [rowT]

/-- The error of the product. -/
def eT (qw : FVec Ideal S3x6144x2560 .bf16) (qx : FVec Ideal S6x256x2560 .bf16) (sx : FVec Ideal S6x256 .f32)
    (sw : FVec Ideal S3x6144 .f32) (y : FVec Ideal S3x6x256x6144 .bf16) : FVec Ideal S3x6x256x6144 .f32 :=
  subf (mulf (mulf (prodT qw qx) (colT sx)) (rowT sw)) (extf .f32 y bitsLt_bf16_f32)

theorem eT_apply (qw : FVec Ideal S3x6144x2560 .bf16) (qx : FVec Ideal S6x256x2560 .bf16) (sx : FVec Ideal S6x256 .f32)
    (sw : FVec Ideal S3x6144 .f32) (y : FVec Ideal S3x6x256x6144 .bf16)
    (k : Fin 3) (b : Fin 6) (s : Fin 256) (n : Fin 6144) :
    eT qw qx sx sw y (ix4 k b s n)
      = ((∑ d : Fin 2560, qw (ix3 k n d) * qx (ix3 b s d)) * sx (ix2 b s) * sw (ix2 k n) - y (ix4 k b s n) : EReal) := by
  rw [← prodT_apply qw qx k b s n, ← colT_apply sx k b s n, ← rowT_apply sw k b s n]
  unfold eT
  generalize prodT qw qx = P
  generalize colT sx = C
  generalize rowT sw = R
  pointwise

/-- The scaled error pulled back to the tokens. -/
def psT (ew : FVec Ideal S3x6x256x6144 .f32) (qw : FVec Ideal S3x6144x2560 .bf16) : FVec Ideal S6x256x2560 .f32 :=
  Host.dotGeneral dot_S3x6x256x6144_S3x6144x2560_S6x256x2560_03_01_12_2_n_n none (truncf .bf16 ew bitsLt_bf16_f32) qw

theorem psT_apply (ew : FVec Ideal S3x6x256x6144 .f32) (qw : FVec Ideal S3x6144x2560 .bf16)
    (b : Fin 6) (s : Fin 256) (d : Fin 2560) :
    psT ew qw (ix3 b s d) = (∑ k : Fin 3, ∑ n : Fin 6144, ew (ix4 k b s n) * qw (ix3 k n d) : EReal) := by
  pointwise [psT]

/-- The scaled error pulled back to the weights. -/
def qT (ex : FVec Ideal S3x6x256x6144 .f32) (qx : FVec Ideal S6x256x2560 .bf16) : FVec Ideal S3x6144x2560 .f32 :=
  Host.dotGeneral dot_S3x6x256x6144_S6x256x2560_S3x6144x2560_12_01_03_2_n_n none (truncf .bf16 ex bitsLt_bf16_f32) qx

theorem qT_apply (ex : FVec Ideal S3x6x256x6144 .f32) (qx : FVec Ideal S6x256x2560 .bf16)
    (k : Fin 3) (n : Fin 6144) (d : Fin 2560) :
    qT ex qx (ix3 k n d) = (∑ b : Fin 6, ∑ s : Fin 256, ex (ix4 k b s n) * qx (ix3 b s d) : EReal) := by
  pointwise [qT]

/-- The two products with the inputs. -/
def gxT (x : FVec Ideal S6x256x2560 .bf16) (ps : FVec Ideal S6x256x2560 .f32) : FVec Ideal S2560x2560 .f32 :=
  Host.dotGeneral dot_S6x256x2560_S6x256x2560_S2560x2560_01_01_2_2_n_n none x (truncf .bf16 ps bitsLt_bf16_f32)

theorem gxT_apply (x : FVec Ideal S6x256x2560 .bf16) (ps : FVec Ideal S6x256x2560 .f32) (i j : Fin 2560) :
    gxT x ps (ix2 i j) = (∑ b : Fin 6, ∑ s : Fin 256, x (ix3 b s i) * ps (ix3 b s j) : EReal) := by
  pointwise [gxT]

def gwT (w : FVec Ideal S3x6144x2560 .bf16) (q : FVec Ideal S3x6144x2560 .f32) : FVec Ideal S2560x2560 .f32 :=
  Host.dotGeneral dot_S3x6144x2560_S3x6144x2560_S2560x2560_01_01_2_2_n_n none w (truncf .bf16 q bitsLt_bf16_f32)

theorem gwT_apply (w : FVec Ideal S3x6144x2560 .bf16) (q : FVec Ideal S3x6144x2560 .f32) (i j : Fin 2560) :
    gwT w q (ix2 i j) = (∑ k : Fin 3, ∑ n : Fin 6144, w (ix3 k n i) * q (ix3 k n j) : EReal) := by
  pointwise [gwT]

/-- A multiple of a sum. -/
def gradT (C : FVec Ideal S_ .f32) (a b : FVec Ideal S2560x2560 .f32) : FVec Ideal S2560x2560 .f32 :=
  mulf (broadcastInDim S2560x2560 ![] bcast_S_S2560x2560 C) (addf a b)

theorem gradT_apply (C : FVec Ideal S_ .f32) (a b : FVec Ideal S2560x2560 .f32) (i j : Fin 2560) :
    gradT C a b (ix2 i j) = (C ix0 * (a (ix2 i j) + b (ix2 i j)) : EReal) := by
  pointwise [gradT]

end Cert.ReferenceIdeal.Val
-- ==== Proof.Value.RefRegion.lean ====
/- The reference's region: it rounds the clipped arrays to int8 codes and reads the codes back. -/
module

public import proofs.«01_k».proof.Proof.Value.RefHost
public import proofs.«01_k».proof.Proof.Value.RefMath

@[expose] public section

set_option maxRecDepth 16384

noncomputable section

namespace Cert.ReferenceIdeal.Val

open Cert.ReferenceIdeal Cert.ReferenceIdeal.Gen Cert.ReferenceIdeal.Value Idealize.ShloMosaic Idealize.ShloMosaic.TcCoe Idealize.SL.Sem
open Idealize.ShloMosaic.Pipeline (Dat)

variable (m : (ℓ : Loc nD τ sig) → Buf (Elt Ideal) ℓ)

theorem idx0_0 : ∀ t : Fin cfg0.N, win0_0.index t = ![0, 0, 0] := by decide +kernel

theorem idx0_1 : ∀ t : Fin cfg0.N, win0_1.index t = ![0, 0, 0] := by decide +kernel

theorem idx0_2 : ∀ t : Fin cfg0.N, win0_2.index t = ![0, 0, 0] := by decide +kernel

theorem idx0_3 : ∀ t : Fin cfg0.N, win0_3.index t = ![0, 0, 0] := by decide +kernel

theorem idx0_4 : ∀ t : Fin cfg0.N, win0_4.index t = ![0, 0, 0] := by decide +kernel

theorem idx0_5 : ∀ t : Fin cfg0.N, win0_5.index t = ![0, 0, 0] := by decide +kernel

/-- The block read is the array. -/
theorem rdA0 (A : Vec Ideal S6x256x2560 .f32) (t : Fin cfg0.N) (y i : S6x256x2560.Idx)
    (h0 : (i 0).val = (y 0).val) (h1 : (i 1).val = (y 1).val) (h2 : (i 2).val = (y 2).val) :
    ((cfg0.win 0).blk t).view.read (Elt Ideal) A y = A i := by
  blk_ext [idx0_0, h0, h1, h2]

theorem rd0 (c : Dev nD) (A : Vec Ideal S6x256x2560 .f32) (hA : V m c main_v14 = A) (t : Fin cfg0.N) (y i : S6x256x2560.Idx)
    (h0 : (i 0).val = (y 0).val) (h1 : (i 1).val = (y 1).val) (h2 : (i 2).val = (y 2).val) :
    iblk m c 0 t y = A i := by
  rw [← rdA0 A t y i h0 h1 h2, ← hA]
  rfl

/-- The block read is the array. -/
theorem rdA1 (A : Vec Ideal S3x6144x2560 .f32) (t : Fin cfg0.N) (y i : S3x6144x2560.Idx)
    (h0 : (i 0).val = (y 0).val) (h1 : (i 1).val = (y 1).val) (h2 : (i 2).val = (y 2).val) :
    ((cfg0.win 1).blk t).view.read (Elt Ideal) A y = A i := by
  blk_ext [idx0_1, h0, h1, h2]

theorem rd1 (c : Dev nD) (A : Vec Ideal S3x6144x2560 .f32) (hA : V m c main_v26 = A) (t : Fin cfg0.N) (y i : S3x6144x2560.Idx)
    (h0 : (i 0).val = (y 0).val) (h1 : (i 1).val = (y 1).val) (h2 : (i 2).val = (y 2).val) :
    iblk m c 1 t y = A i := by
  rw [← rdA1 A t y i h0 h1 h2, ← hA]
  rfl

/-- The codes, from the array the region reads. -/
theorem out0_2_apply (x0 : Vec Ideal S6x256x2560 .f32) (x1 : Vec Ideal S3x6144x2560 .f32) (y : S6x256x2560.Idx) :
    out0_2 x0 x1 y = (Ideal.fptosi 8 (x0 y) : BitVec 8) := by
  frame_out
  pointwise [k0_pay1]
  rfl

theorem blk2 (c : Dev nD) (A : Vec Ideal S6x256x2560 .f32) (hA : V m c main_v14 = A) (t : Fin cfg0.N) (y i : S6x256x2560.Idx)
    (h0 : (i 0).val = (y 0).val) (h1 : (i 1).val = (y 1).val) (h2 : (i 2).val = (y 2).val) :
    out0_2 (iblk m c 0 t) (iblk m c 1 t) y = (Ideal.fptosi 8 (A i) : BitVec 8) := by
  rw [out0_2_apply, rd0 m c A hA t y i h0 h1 h2]

theorem reg2 (c : Dev nD) (A : Vec Ideal S6x256x2560 .f32) (hA : V m c main_v14 = A) :
    reg_main_v27_0 m c = fun (i : S6x256x2560.Idx) => (Ideal.fptosi 8 (A i) : BitVec 8) := by
  unfold reg_main_v27_0
  refine (dats m 0 c).arrAt_eq_of_covers 2 _ (by decide +kernel) fun t hf y => ?_
  rw [after0_2]
  blk_simp [idx0_2]
  refine blk2 m c A hA t _ _ ?_ ?_ ?_ <;> blk_simp [idx0_2]

/-- The codes read back, from the array the region reads. -/
theorem out0_3_apply (x0 : Vec Ideal S6x256x2560 .f32) (x1 : Vec Ideal S3x6144x2560 .f32) (y : S6x256x2560.Idx) :
    out0_3 x0 x1 y = FloatOps.sitofp (F := Ideal) .bf16 (Ideal.fptosi 8 (x0 y) : BitVec 8) := by
  frame_out
  pointwise [k0_pay3, k0_pay1]
  rfl

theorem blk3 (c : Dev nD) (A : Vec Ideal S6x256x2560 .f32) (hA : V m c main_v14 = A) (t : Fin cfg0.N) (y i : S6x256x2560.Idx)
    (h0 : (i 0).val = (y 0).val) (h1 : (i 1).val = (y 1).val) (h2 : (i 2).val = (y 2).val) :
    out0_3 (iblk m c 0 t) (iblk m c 1 t) y = FloatOps.sitofp (F := Ideal) .bf16 (Ideal.fptosi 8 (A i) : BitVec 8) := by
  rw [out0_3_apply, rd0 m c A hA t y i h0 h1 h2]

theorem reg3 (c : Dev nD) (A : Vec Ideal S6x256x2560 .f32) (hA : V m c main_v14 = A) :
    reg_main_v27_1 m c = fun (i : S6x256x2560.Idx) => FloatOps.sitofp (F := Ideal) .bf16 (Ideal.fptosi 8 (A i) : BitVec 8) := by
  unfold reg_main_v27_1
  refine (dats m 0 c).arrAt_eq_of_covers 3 _ (by decide +kernel) fun t hf y => ?_
  rw [after0_3]
  blk_simp [idx0_3]
  refine blk3 m c A hA t _ _ ?_ ?_ ?_ <;> blk_simp [idx0_3]

/-- The codes, from the array the region reads. -/
theorem out0_4_apply (x0 : Vec Ideal S6x256x2560 .f32) (x1 : Vec Ideal S3x6144x2560 .f32) (y : S3x6144x2560.Idx) :
    out0_4 x0 x1 y = (Ideal.fptosi 8 (x1 y) : BitVec 8) := by
  frame_out
  pointwise [k0_pay2]
  rfl

theorem blk4 (c : Dev nD) (A : Vec Ideal S3x6144x2560 .f32) (hA : V m c main_v26 = A) (t : Fin cfg0.N) (y i : S3x6144x2560.Idx)
    (h0 : (i 0).val = (y 0).val) (h1 : (i 1).val = (y 1).val) (h2 : (i 2).val = (y 2).val) :
    out0_4 (iblk m c 0 t) (iblk m c 1 t) y = (Ideal.fptosi 8 (A i) : BitVec 8) := by
  rw [out0_4_apply, rd1 m c A hA t y i h0 h1 h2]

theorem reg4 (c : Dev nD) (A : Vec Ideal S3x6144x2560 .f32) (hA : V m c main_v26 = A) :
    reg_main_v27_2 m c = fun (i : S3x6144x2560.Idx) => (Ideal.fptosi 8 (A i) : BitVec 8) := by
  unfold reg_main_v27_2
  refine (dats m 0 c).arrAt_eq_of_covers 4 _ (by decide +kernel) fun t hf y => ?_
  rw [after0_4]
  blk_simp [idx0_4]
  refine blk4 m c A hA t _ _ ?_ ?_ ?_ <;> blk_simp [idx0_4]

/-- The codes read back, from the array the region reads. -/
theorem out0_5_apply (x0 : Vec Ideal S6x256x2560 .f32) (x1 : Vec Ideal S3x6144x2560 .f32) (y : S3x6144x2560.Idx) :
    out0_5 x0 x1 y = FloatOps.sitofp (F := Ideal) .bf16 (Ideal.fptosi 8 (x1 y) : BitVec 8) := by
  frame_out
  pointwise [k0_pay4, k0_pay2]
  rfl

theorem blk5 (c : Dev nD) (A : Vec Ideal S3x6144x2560 .f32) (hA : V m c main_v26 = A) (t : Fin cfg0.N) (y i : S3x6144x2560.Idx)
    (h0 : (i 0).val = (y 0).val) (h1 : (i 1).val = (y 1).val) (h2 : (i 2).val = (y 2).val) :
    out0_5 (iblk m c 0 t) (iblk m c 1 t) y = FloatOps.sitofp (F := Ideal) .bf16 (Ideal.fptosi 8 (A i) : BitVec 8) := by
  rw [out0_5_apply, rd1 m c A hA t y i h0 h1 h2]

theorem reg5 (c : Dev nD) (A : Vec Ideal S3x6144x2560 .f32) (hA : V m c main_v26 = A) :
    reg_main_v27_3 m c = fun (i : S3x6144x2560.Idx) => FloatOps.sitofp (F := Ideal) .bf16 (Ideal.fptosi 8 (A i) : BitVec 8) := by
  unfold reg_main_v27_3
  refine (dats m 0 c).arrAt_eq_of_covers 5 _ (by decide +kernel) fun t hf y => ?_
  rw [after0_5]
  blk_simp [idx0_5]
  refine blk5 m c A hA t _ _ ?_ ?_ ?_ <;> blk_simp [idx0_5]

end Cert.ReferenceIdeal.Val
-- ==== Proof.Value.RefEntry.lean ====
/- What the reference's region finds in the two arrays it reads: the scaled, rounded and clipped rows. -/
module

public import proofs.«01_k».proof.Proof.Value.RefHost

@[expose] public section

noncomputable section

namespace Cert.ReferenceIdeal.Val

open Cert.ReferenceIdeal Cert.ReferenceIdeal.Gen Cert.ReferenceIdeal.Value Idealize.ShloMosaic Idealize.ShloMosaic.TcCoe Idealize.SL.Sem

variable (m : (ℓ : Loc nD τ sig) → Buf (Elt Ideal) ℓ)

set_option maxRecDepth 8192 in
set_option maxHeartbeats 2000000 in
theorem V_main_v14 (c : Dev nD) :
    V m c main_v14 = tX (xr (m ((c.tc : Thread nD τ).loc main_arg0)) (m ((c.tc : Thread nD τ).loc main_arg3))) := by
  show Gen.V0 m c (Proc.devRef .tc main_v14) = _
  simp only [Gen.V0, Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, StableHlo.TRef.binary, StableHlo.TRef.ternary, StableHlo.TRef.unary, StableHlo.TRef.toBuf, StableHlo.TRef.ofBuf, cast_eq, List.flatten_cons, List.flatten_nil, List.append_nil, List.cons_append, List.nil_append]
  after_results_simp <;> rfl

set_option maxRecDepth 8192 in
set_option maxHeartbeats 2000000 in
theorem V_main_v26 (c : Dev nD) :
    V m c main_v26 = tW (wr (m ((c.tc : Thread nD τ).loc main_arg1)) (m ((c.tc : Thread nD τ).loc main_arg3))) := by
  show Gen.V0 m c (Proc.devRef .tc main_v26) = _
  simp only [Gen.V0, Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, StableHlo.TRef.binary, StableHlo.TRef.ternary, StableHlo.TRef.unary, StableHlo.TRef.toBuf, StableHlo.TRef.ofBuf, cast_eq, List.flatten_cons, List.flatten_nil, List.append_nil, List.cons_append, List.nil_append]
  after_results_simp <;> rfl

end Cert.ReferenceIdeal.Val
-- ==== Proof.Value.RefResults.lean ====
/- The reference's results over the reals, each as the array of Arrays.lean. -/
module

public import proofs.«01_k».proof.Proof.Value.RefRegion
public import proofs.«01_k».proof.Proof.Value.RefEntry

@[expose] public section

set_option maxRecDepth 16384

noncomputable section

namespace Cert.ReferenceIdeal.Val

open Cert.ReferenceIdeal Cert.ReferenceIdeal.Gen Cert.ReferenceIdeal.Value Idealize.ShloMosaic Idealize.ShloMosaic.TcCoe Idealize.SL.Sem
open Cert.Spec (c2 cx cw cy)

variable (x : FVec Ideal S6x256x2560 .bf16) (w : FVec Ideal S3x6144x2560 .bf16) (y : FVec Ideal S3x6x256x6144 .bf16)
  (r : FVec Ideal S2560x2560 .f32)

theorem xrow_eq (b : Fin 6) (s : Fin 256) : (fun k : Fin 2560 => (xr x r (ix3 b s k) : EReal)) = Spec.xrow (cx x) (c2 r) b s :=
  funext fun k => xr_apply x r b s k

theorem wrow_eq (k : Fin 3) (n : Fin 6144) : (fun j : Fin 2560 => (wr w r (ix3 k n j) : EReal)) = Spec.wrow (cw w) (c2 r) k n :=
  funext fun j => wr_apply w r k n j

theorem sX_eq (b : Fin 6) (s : Fin 256) : sX (xr x r) (ix2 b s) = Spec.sx (cx x) (c2 r) b s :=
  (sX_apply (xr x r) b s).trans (congrArg (Quant.scale 0x42FE0000#32) (xrow_eq x r b s))

theorem sW_eq (k : Fin 3) (n : Fin 6144) : sW (wr w r) (ix2 k n) = Spec.sw (cw w) (c2 r) k n :=
  (sW_apply (wr w r) k n).trans (congrArg (Quant.scale 0x40E00000#32) (wrow_eq w r k n))

theorem tX_eq (b : Fin 6) (s : Fin 256) (k : Fin 2560) : tX (xr x r) (ix3 b s k) = Spec.tx (cx x) (c2 r) b s k :=
  (tX_apply (xr x r) b s k).trans (congrArg (fun v => Quant.quant 0xC2FE0000#32 0x42FE0000#32 v k) (xrow_eq x r b s))

theorem tW_eq (k : Fin 3) (n : Fin 6144) (j : Fin 2560) : tW (wr w r) (ix3 k n j) = Spec.tw (cw w) (c2 r) k n j :=
  (tW_apply (wr w r) k n j).trans (congrArg (fun v => Quant.quant 0xC0E00000#32 0x40E00000#32 v j) (wrow_eq w r k n))

/-- The codes, and the codes read back. -/
def qX : IVec S6x256x2560 8 := fun i => Ideal.fptosi 8 (tX (xr x r) i)
def qW : IVec S3x6144x2560 8 := fun i => Ideal.fptosi 8 (tW (wr w r) i)
def bX : FVec Ideal S6x256x2560 .bf16 := fun i => FloatOps.sitofp (F := Ideal) .bf16 (Ideal.fptosi 8 (tX (xr x r) i) : BitVec 8)
def bW : FVec Ideal S3x6144x2560 .bf16 := fun i => FloatOps.sitofp (F := Ideal) .bf16 (Ideal.fptosi 8 (tW (wr w r) i) : BitVec 8)

theorem qX_eq (b : Fin 6) (s : Fin 256) (k : Fin 2560) : qX x r (ix3 b s k) = Spec.qx (cx x) (c2 r) b s k :=
  congrArg (Ideal.fptosi 8) (tX_eq x r b s k)

theorem qW_eq (k : Fin 3) (n : Fin 6144) (j : Fin 2560) : qW w r (ix3 k n j) = Spec.qw (cw w) (c2 r) k n j :=
  congrArg (Ideal.fptosi 8) (tW_eq w r k n j)

theorem bX_eq (b : Fin 6) (s : Fin 256) (k : Fin 2560) : bX x r (ix3 b s k) = Spec.tx (cx x) (c2 r) b s k :=
  (congrArg (FloatOps.sitofp (F := Ideal) .bf16) (qX_eq x r b s k)).trans (Spec.sitofp_qx (cx x) (c2 r) b s k)

theorem bW_eq (k : Fin 3) (n : Fin 6144) (j : Fin 2560) : bW w r (ix3 k n j) = Spec.tw (cw w) (c2 r) k n j :=
  (congrArg (FloatOps.sitofp (F := Ideal) .bf16) (qW_eq w r k n j)).trans (Spec.sitofp_qw (cw w) (c2 r) k n j)

/-! ## The results -/

theorem sx_res : sX (xr x r) = Spec.sxA x r := by
  funext i
  idx_vars i
  exact sX_eq x r _ _

theorem sw_res : sW (wr w r) = Spec.swA w r := by
  funext i
  idx_vars i
  exact sW_eq w r _ _

theorem qx_res : qX x r = Spec.qxA x r := by
  funext i
  idx_vars i
  exact qX_eq x r _ _ _

theorem qw_res : qW w r = Spec.qwA w r := by
  funext i
  idx_vars i
  exact qW_eq w r _ _ _

/-- The squared error. -/
def errT : FVec Ideal S3x6144 .f32 := sqT (missT (wr w r) (sW (wr w r)) (bW w r))

theorem miss_eq (k : Fin 3) (n : Fin 6144) (d : Fin 2560) : missT (wr w r) (sW (wr w r)) (bW w r) (ix3 k n d)
    = (Spec.wrow (cw w) (c2 r) k n d - Spec.sw (cw w) (c2 r) k n * Spec.tw (cw w) (c2 r) k n d : EReal) := by
  rw [missT_apply, wr_apply, sW_eq, bW_eq]

theorem errT_eq (k : Fin 3) (n : Fin 6144) : errT w r (ix2 k n) = Spec.err (cw w) (c2 r) k n := by
  unfold errT
  rw [sqT_apply]
  simp only [miss_eq]
  rfl

theorem err_res : errT w r = Spec.errA w r := by
  funext i
  idx_vars i
  exact errT_eq w r _ _

/-- The error of the product. -/
def eR : FVec Ideal S3x6x256x6144 .f32 := eT (bW w r) (bX x r) (sX (xr x r)) (sW (wr w r)) y

theorem eR_eq (k : Fin 3) (b : Fin 6) (s : Fin 256) (n : Fin 6144) :
    eR x w y r (ix4 k b s n) = Spec.e (cx x) (cw w) (cy y) (c2 r) k b s n := by
  unfold eR Spec.e
  rw [eT_apply, sX_eq, sW_eq]
  refine congrArg (fun z : EReal => z * Spec.sx (cx x) (c2 r) b s * Spec.sw (cw w) (c2 r) k n - y (ix4 k b s n)) ?_
  refine Finset.sum_congr rfl fun d _ => ?_
  rw [bW_eq, bX_eq]
  exact mul_comm _ _

theorem e_res : eR x w y r = Spec.eA x w y r := by
  funext i
  idx_vars i
  exact eR_eq x w y r _ _ _ _

/-- The error pulled back to the tokens. -/
def psR : FVec Ideal S6x256x2560 .f32 := psT (mulf (eR x w y r) (rowT (sW (wr w r)))) (bW w r)

theorem mulT_apply (a b : FVec Ideal S3x6x256x6144 .f32) (k : Fin 3) (c : Fin 6) (s : Fin 256) (n : Fin 6144) :
    mulf a b (ix4 k c s n) = (a (ix4 k c s n) * b (ix4 k c s n) : EReal) := rfl

theorem psR_eq (b : Fin 6) (s : Fin 256) (d : Fin 2560) :
    psR x w y r (ix3 b s d) = Spec.ps (cx x) (cw w) (cy y) (c2 r) b s d := by
  unfold psR Spec.ps
  rw [psT_apply]
  refine Finset.sum_congr rfl fun k _ => Finset.sum_congr rfl fun n _ => ?_
  rw [mulT_apply, rowT_apply, eR_eq, sW_eq, bW_eq]

/-- The error pulled back to the weights. -/
def qR : FVec Ideal S3x6144x2560 .f32 := qT (mulf (eR x w y r) (colT (sX (xr x r)))) (bX x r)

theorem qR_eq (k : Fin 3) (n : Fin 6144) (d : Fin 2560) :
    qR x w y r (ix3 k n d) = Spec.q (cx x) (cw w) (cy y) (c2 r) k n d := by
  unfold qR Spec.q
  rw [qT_apply]
  refine Finset.sum_congr rfl fun b _ => Finset.sum_congr rfl fun s _ => ?_
  rw [mulT_apply, colT_apply, eR_eq, sX_eq, bX_eq]

/-- The gradient. -/
def gradR : FVec Ideal S2560x2560 .f32 :=
  gradT (constant S_ .f32 0x34638E39#32) (gxT x (psR x w y r)) (gwT w (qR x w y r))

theorem grad_res : gradR x w y r = Spec.gradA x w y r := by
  funext i
  idx_vars i
  revert i0 i1
  intro a b
  have hx : gxT x (psR x w y r) (ix2 a b)
      = (∑ c : Fin 6, ∑ s : Fin 256, cx x c s a * Spec.ps (cx x) (cw w) (cy y) (c2 r) c s b : EReal) := by
    rw [gxT_apply]
    refine Finset.sum_congr rfl fun c _ => Finset.sum_congr rfl fun s _ => ?_
    rw [psR_eq]
  have hw : gwT w (qR x w y r) (ix2 a b)
      = (∑ k : Fin 3, ∑ n : Fin 6144, cw w k n a * Spec.q (cx x) (cw w) (cy y) (c2 r) k n b : EReal) := by
    rw [gwT_apply]
    refine Finset.sum_congr rfl fun k _ => Finset.sum_congr rfl fun n _ => ?_
    rw [qR_eq]
  unfold gradR
  rw [gradT_apply, hx, hw, const_ix0]
  rfl

end Cert.ReferenceIdeal.Val
-- ==== Proof.Value.RefRun.lean ====
/- The reference's run over the reals: it ends with the arrays of Arrays.lean in its results and its arguments unchanged. -/
module

public import proofs.«01_k».proof.Proof.Value.RefResults

@[expose] public section

set_option maxRecDepth 16384

noncomputable section

namespace Cert.ReferenceIdeal.Val

open Cert.ReferenceIdeal Cert.ReferenceIdeal.Gen Cert.ReferenceIdeal.Value Idealize.ShloMosaic Idealize.ShloMosaic.TcCoe Idealize.SL.Sem

variable (m : (ℓ : Loc nD τ sig) → Buf (Elt Ideal) ℓ)

abbrev aX (c : Dev nD) : FVec Ideal S6x256x2560 .bf16 := m ((c.tc : Thread nD τ).loc main_arg0)
abbrev aW (c : Dev nD) : FVec Ideal S3x6144x2560 .bf16 := m ((c.tc : Thread nD τ).loc main_arg1)
abbrev aY (c : Dev nD) : FVec Ideal S3x6x256x6144 .bf16 := m ((c.tc : Thread nD τ).loc main_arg2)
abbrev aR (c : Dev nD) : FVec Ideal S2560x2560 .f32 := m ((c.tc : Thread nD τ).loc main_arg3)

theorem v27_0 (c : Dev nD) : reg_main_v27_0 m c = qX (aX m c) (aR m c) := reg2 m c _ (V_main_v14 m c)
theorem v27_1 (c : Dev nD) : reg_main_v27_1 m c = bX (aX m c) (aR m c) := reg3 m c _ (V_main_v14 m c)
theorem v27_2 (c : Dev nD) : reg_main_v27_2 m c = qW (aW m c) (aR m c) := reg4 m c _ (V_main_v26 m c)
theorem v27_3 (c : Dev nD) : reg_main_v27_3 m c = bW (aW m c) (aR m c) := reg5 m c _ (V_main_v26 m c)

theorem v59 (c : Dev nD) : res_main_v59 m c = gradR (aX m c) (aW m c) (aY m c) (aR m c) := by
  unfold res_main_v59
  rw [v27_1, v27_3]
  rfl

theorem run (ρ : Dev nD → PrngReg) :
    θ_run defs (onTc (τ := τ) (main (F := Ideal))) ⟨m, fun _ => 0, ρ⟩ fun s => ∀ c : Dev nD,
      s.2.mem ((c.tc : Thread nD τ).loc main_v34) = Spec.errA (aW m c) (aR m c)
      ∧ s.2.mem ((c.tc : Thread nD τ).loc main_v44) = Spec.eA (aX m c) (aW m c) (aY m c) (aR m c)
      ∧ s.2.mem ((c.tc : Thread nD τ).loc main_v59) = Spec.gradA (aX m c) (aW m c) (aY m c) (aR m c)
      ∧ s.2.mem ((c.tc : Thread nD τ).loc main_v27_0) = Spec.qxA (aX m c) (aR m c)
      ∧ s.2.mem ((c.tc : Thread nD τ).loc main_v9) = Spec.sxA (aX m c) (aR m c)
      ∧ s.2.mem ((c.tc : Thread nD τ).loc main_v27_2) = Spec.qwA (aW m c) (aR m c)
      ∧ s.2.mem ((c.tc : Thread nD τ).loc main_v21) = Spec.swA (aW m c) (aR m c)
      ∧ s.2.mem ((c.tc : Thread nD τ).loc main_arg0) = m ((c.tc : Thread nD τ).loc main_arg0)
      ∧ s.2.mem ((c.tc : Thread nD τ).loc main_arg1) = m ((c.tc : Thread nD τ).loc main_arg1)
      ∧ s.2.mem ((c.tc : Thread nD τ).loc main_arg2) = m ((c.tc : Thread nD τ).loc main_arg2)
      ∧ s.2.mem ((c.tc : Thread nD τ).loc main_arg3) = m ((c.tc : Thread nD τ).loc main_arg3) := by
  refine (θ_run defs _ _).mono (fun s h c => ?_) (Value.run m ρ)
  obtain ⟨h0, h1, h2, h3, h4, h5, h6, a0, a1, a2, a3⟩ := h c
  rw [v27_3] at h0
  rw [v27_3, v27_1] at h1
  exact ⟨h0.trans (err_res (aW m c) (aR m c)), h1.trans (e_res (aX m c) (aW m c) (aY m c) (aR m c)),
    h2.trans ((v59 m c).trans (grad_res (aX m c) (aW m c) (aY m c) (aR m c))),
    h3.trans ((v27_0 m c).trans (qx_res (aX m c) (aR m c))), h4.trans (sx_res (aX m c) (aR m c)),
    h5.trans ((v27_2 m c).trans (qw_res (aW m c) (aR m c))), h6.trans (sw_res (aW m c) (aR m c)), a0, a1, a2, a3⟩

end Cert.ReferenceIdeal.Val
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Run
public import proofs.«01_k».proof.Proof.KernelBits
public import proofs.«01_k».proof.Proof.Value.KerRun
public import proofs.«01_k».proof.Proof.Value.RefRun

@[expose] public section

noncomputable section

namespace Cert.Proof

open Idealize.ShloMosaic Idealize.ShloMosaic.TcCoe Idealize.SL.Sem

/-- Over the reals the two programs end with the same seven results. -/
theorem algebraic : Cert.algebraic_KernelIdeal_ReferenceIdeal (hKernelIdeal := Cert.KernelIdeal.Gen.facts)
    (hReferenceIdeal := Cert.ReferenceIdeal.Gen.facts) := by
  intro m g m' g' _ hm
  refine ⟨fun c => Spec.errA (KernelIdeal.Val.aW m c) (KernelIdeal.Val.aR m c),
    fun c => Spec.eA (KernelIdeal.Val.aX m c) (KernelIdeal.Val.aW m c) (KernelIdeal.Val.aY m c) (KernelIdeal.Val.aR m c),
    fun c => Spec.gradA (KernelIdeal.Val.aX m c) (KernelIdeal.Val.aW m c) (KernelIdeal.Val.aY m c) (KernelIdeal.Val.aR m c),
    fun c => Spec.qxA (KernelIdeal.Val.aX m c) (KernelIdeal.Val.aR m c),
    fun c => Spec.sxA (KernelIdeal.Val.aX m c) (KernelIdeal.Val.aR m c),
    fun c => Spec.qwA (KernelIdeal.Val.aW m c) (KernelIdeal.Val.aR m c),
    fun c => Spec.swA (KernelIdeal.Val.aW m c) (KernelIdeal.Val.aR m c), ?_, ?_⟩
  · refine (θ_run _ _ _).mono (fun s h c => ?_) (KernelIdeal.Gen.run m g)
    have at_ : ∀ b : Ref KernelIdeal.sig .tc, Proc.devRef .tc b ∈ Pipeline.ucRefs KernelIdeal.τ KernelIdeal.sig →
        s.2.mem ((c.tc : Thread KernelIdeal.nD KernelIdeal.τ).loc b) = KernelIdeal.Gen.W8 m g c (Proc.devRef .tc b) :=
      fun b hb => h.1 c _ hb
    exact ⟨(at_ _ (KernelIdeal.Gen.mem_uc KernelIdeal.main_v9 (by decide))).trans (KernelIdeal.Val.w8_err m g c),
      (at_ _ (KernelIdeal.Gen.mem_uc KernelIdeal.main_v10 (by decide))).trans (KernelIdeal.Val.w8_e m g c),
      (at_ _ (KernelIdeal.Gen.mem_uc KernelIdeal.main_v8 (by decide))).trans (KernelIdeal.Val.w8_grad m g c),
      (at_ _ (KernelIdeal.Gen.mem_uc KernelIdeal.main_v11 (by decide))).trans (KernelIdeal.Val.w8_qx m g c),
      (at_ _ (KernelIdeal.Gen.mem_uc KernelIdeal.main_v12 (by decide))).trans (KernelIdeal.Val.w8_sx m g c),
      (at_ _ (KernelIdeal.Gen.mem_uc KernelIdeal.main_v13 (by decide))).trans (KernelIdeal.Val.w8_qw m g c),
      (at_ _ (KernelIdeal.Gen.mem_uc KernelIdeal.main_v14 (by decide))).trans (KernelIdeal.Val.w8_sw m g c),
      (at_ _ (KernelIdeal.Gen.mem_uc KernelIdeal.main_arg0 (by decide))).trans (KernelIdeal.Gen.W8_main_arg0 m g c),
      (at_ _ (KernelIdeal.Gen.mem_uc KernelIdeal.main_arg1 (by decide))).trans (KernelIdeal.Gen.W8_main_arg1 m g c),
      (at_ _ (KernelIdeal.Gen.mem_uc KernelIdeal.main_arg2 (by decide))).trans (KernelIdeal.Gen.W8_main_arg2 m g c),
      (at_ _ (KernelIdeal.Gen.mem_uc KernelIdeal.main_arg3 (by decide))).trans (KernelIdeal.Gen.W8_main_arg3 m g c)⟩
  · refine (θ_run _ _ _).mono (fun s h c => ?_) (ReferenceIdeal.Val.run m' g')
    obtain ⟨e0, e1, e2, e3⟩ := hm c
    have hx : ReferenceIdeal.Val.aX m' c = KernelIdeal.Val.aX m c := e0
    have hw : ReferenceIdeal.Val.aW m' c = KernelIdeal.Val.aW m c := e1
    have hy : ReferenceIdeal.Val.aY m' c = KernelIdeal.Val.aY m c := e2
    have hr : ReferenceIdeal.Val.aR m' c = KernelIdeal.Val.aR m c := e3
    have k := h c
    rw [hx, hw, hy, hr] at k
    exact k

/-- The certificate: the three frames, the idealization of the printed kernel (no rewrite), and the equality of the
    results over the reals. -/
theorem claim : Cert.Claim :=
  ⟨Cert.Kernel.Gen.facts, Cert.KernelIdeal.Gen.facts, Cert.ReferenceIdeal.Gen.facts, quiescent_Kernel,
    fun m ρ _ => Cert.KernelIdeal.Gen.frame m ρ, fun m ρ _ => Cert.ReferenceIdeal.Gen.frame m ρ, trivial, algebraic⟩

end Cert.Proof

end
